-- ==== Defs.lean ====
def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_finite_inputs [hPre_finite_inputs : Cert.Pre_finite_inputs.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_finite_inputs.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_finite_inputs [hPre_finite_inputs : Cert.Pre_finite_inputs.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_finite_inputs.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjKernelIdeal_finite_projection [hPre_finite_projection : Cert.Pre_finite_projection.Facts] (m : (ℓ : Loc Cert.ProjKernelIdeal.nD Cert.ProjKernelIdeal.τ Cert.ProjKernelIdeal.sig) → Buf (Elt Ideal) ℓ) : Prop :=
  ∀ c : Dev Cert.ProjKernelIdeal.nD,
    (Cert.Pre_finite_projection.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4)) (m ((c.tc : Thread Cert.ProjKernelIdeal.nD Cert.ProjKernelIdeal.τ).loc Cert.ProjKernelIdeal.main_arg5)) (m ((c.tc : Thread Cert.ProjKernelIdeal.nD Cert.ProjKernelIdeal.τ).loc Cert.ProjKernelIdeal.main_arg6)) (m ((c.tc : Thread Cert.ProjKernelIdeal.nD Cert.ProjKernelIdeal.τ).loc Cert.ProjKernelIdeal.main_arg7))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_finite_projection [hPre_finite_projection : Cert.Pre_finite_projection.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_finite_projection.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7))) = (fun _ => 1#1)

def Pre_SampleKernel (m : (ℓ : Loc Cert.SampleKernel.nD Cert.SampleKernel.τ Cert.SampleKernel.sig) → Buf (Elt Bits) ℓ) : Prop :=
  True

def Pre_SampleKernelIdeal (m : (ℓ : Loc Cert.SampleKernelIdeal.nD Cert.SampleKernelIdeal.τ Cert.SampleKernelIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_FinalKernel (m : (ℓ : Loc Cert.FinalKernel.nD Cert.FinalKernel.τ Cert.FinalKernel.sig) → Buf (Elt Bits) ℓ) : Prop :=
  True

def Pre_FinalKernelIdeal (m : (ℓ : Loc Cert.FinalKernelIdeal.nD Cert.FinalKernelIdeal.τ Cert.FinalKernelIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ r.2.sem = fun _ => 0)

def quiescent_MixKernelIdeal_pre_finite_inputs [hMixKernelIdeal : Cert.MixKernelIdeal.Facts] [hPre_finite_inputs : Cert.Pre_finite_inputs.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_finite_inputs m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def quiescent_MixReferenceIdeal_pre_finite_inputs [hMixReferenceIdeal : Cert.MixReferenceIdeal.Facts] [hPre_finite_inputs : Cert.Pre_finite_inputs.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_finite_inputs m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5)
      ∧ r.2.mem ((c.tc : Thread Cert.ProjKernel.nD Cert.ProjKernel.τ).loc Cert.ProjKernel.main_arg6) = m ((c.tc : Thread Cert.ProjKernel.nD Cert.ProjKernel.τ).loc Cert.ProjKernel.main_arg6)
      ∧ r.2.mem ((c.tc : Thread Cert.ProjKernel.nD Cert.ProjKernel.τ).loc Cert.ProjKernel.main_arg7) = m ((c.tc : Thread Cert.ProjKernel.nD Cert.ProjKernel.τ).loc Cert.ProjKernel.main_arg7))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
      ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
      ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7))
      ∧ r.2.sem = fun _ => 0)

def quiescent_ProjKernelIdeal_pre_finite_projection [hProjKernelIdeal : Cert.ProjKernelIdeal.Facts] [hPre_finite_projection : Cert.Pre_finite_projection.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal_finite_projection m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
      ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
      ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7))
      ∧ r.2.sem = fun _ => 0)

def quiescent_ProjReferenceIdeal_pre_finite_projection [hProjReferenceIdeal : Cert.ProjReferenceIdeal.Facts] [hPre_finite_projection : Cert.Pre_finite_projection.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_finite_projection m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7))
      ∧ r.2.sem = fun _ => 0)

def quiescent_SampleKernel [hSampleKernel : Cert.SampleKernel.Facts] : Prop :=
  ∀ (m : (ℓ : Loc Cert.SampleKernel.nD Cert.SampleKernel.τ Cert.SampleKernel.sig) → Buf (Elt Bits) ℓ) (g : Dev Cert.SampleKernel.nD → PrngReg), Pre_SampleKernel m →
    θ_run (Cert.SampleKernel.defs (F := Bits)) (onTc (τ := Cert.SampleKernel.τ) (Cert.SampleKernel.main (F := Bits))) ⟨m, fun _ => 0, g⟩ (fun r => (∀ c : Dev Cert.SampleKernel.nD,
      r.2.mem ((c.tc : Thread Cert.SampleKernel.nD Cert.SampleKernel.τ).loc Cert.SampleKernel.main_arg0) = m ((c.tc : Thread Cert.SampleKernel.nD Cert.SampleKernel.τ).loc Cert.SampleKernel.main_arg0)
      ∧ r.2.mem ((c.tc : Thread Cert.SampleKernel.nD Cert.SampleKernel.τ).loc Cert.SampleKernel.main_arg1) = m ((c.tc : Thread Cert.SampleKernel.nD Cert.SampleKernel.τ).loc Cert.SampleKernel.main_arg1)
      ∧ r.2.mem ((c.tc : Thread Cert.SampleKernel.nD Cert.SampleKernel.τ).loc Cert.SampleKernel.main_arg2) = m ((c.tc : Thread Cert.SampleKernel.nD Cert.SampleKernel.τ).loc Cert.SampleKernel.main_arg2)
      ∧ r.2.mem ((c.tc : Thread Cert.SampleKernel.nD Cert.SampleKernel.τ).loc Cert.SampleKernel.main_arg3) = m ((c.tc : Thread Cert.SampleKernel.nD Cert.SampleKernel.τ).loc Cert.SampleKernel.main_arg3)
      ∧ r.2.mem ((c.tc : Thread Cert.SampleKernel.nD Cert.SampleKernel.τ).loc Cert.SampleKernel.main_arg4) = m ((c.tc : Thread Cert.SampleKernel.nD Cert.SampleKernel.τ).loc Cert.SampleKernel.main_arg4)
      ∧ r.2.mem ((c.tc : Thread Cert.SampleKernel.nD Cert.SampleKernel.τ).loc Cert.SampleKernel.main_arg5) = m ((c.tc : Thread Cert.SampleKernel.nD Cert.SampleKernel.τ).loc Cert.SampleKernel.main_arg5)
      ∧ r.2.mem ((c.tc : Thread Cert.SampleKernel.nD Cert.SampleKernel.τ).loc Cert.SampleKernel.main_arg6) = m ((c.tc : Thread Cert.SampleKernel.nD Cert.SampleKernel.τ).loc Cert.SampleKernel.main_arg6)
      ∧ r.2.mem ((c.tc : Thread Cert.SampleKernel.nD Cert.SampleKernel.τ).loc Cert.SampleKernel.main_arg7) = m ((c.tc : Thread Cert.SampleKernel.nD Cert.SampleKernel.τ).loc Cert.SampleKernel.main_arg7)
      ∧ r.2.mem ((c.tc : Thread Cert.SampleKernel.nD Cert.SampleKernel.τ).loc Cert.SampleKernel.main_arg8) = m ((c.tc : Thread Cert.SampleKernel.nD Cert.SampleKernel.τ).loc Cert.SampleKernel.main_arg8)
      ∧ r.2.mem ((c.tc : Thread Cert.SampleKernel.nD Cert.SampleKernel.τ).loc Cert.SampleKernel.main_arg9) = m ((c.tc : Thread Cert.SampleKernel.nD Cert.SampleKernel.τ).loc Cert.SampleKernel.main_arg9))
      ∧ r.2.sem = fun _ => 0)

def quiescent_SampleKernelIdeal [hSampleKernelIdeal : Cert.SampleKernelIdeal.Facts] : Prop :=
  ∀ (m : (ℓ : Loc Cert.SampleKernelIdeal.nD Cert.SampleKernelIdeal.τ Cert.SampleKernelIdeal.sig) → Buf (Elt Ideal) ℓ) (g : Dev Cert.SampleKernelIdeal.nD → PrngReg), Pre_SampleKernelIdeal m →
    θ_run (Cert.SampleKernelIdeal.defs (F := Ideal)) (onTc (τ := Cert.SampleKernelIdeal.τ) (Cert.SampleKernelIdeal.main (F := Ideal))) ⟨m, fun _ => 0, g⟩ (fun r => (∀ c : Dev Cert.SampleKernelIdeal.nD,
      r.2.mem ((c.tc : Thread Cert.SampleKernelIdeal.nD Cert.SampleKernelIdeal.τ).loc Cert.SampleKernelIdeal.main_arg0) = m ((c.tc : Thread Cert.SampleKernelIdeal.nD Cert.SampleKernelIdeal.τ).loc Cert.SampleKernelIdeal.main_arg0)
      ∧ r.2.mem ((c.tc : Thread Cert.SampleKernelIdeal.nD Cert.SampleKernelIdeal.τ).loc Cert.SampleKernelIdeal.main_arg1) = m ((c.tc : Thread Cert.SampleKernelIdeal.nD Cert.SampleKernelIdeal.τ).loc Cert.SampleKernelIdeal.main_arg1)
      ∧ r.2.mem ((c.tc : Thread Cert.SampleKernelIdeal.nD Cert.SampleKernelIdeal.τ).loc Cert.SampleKernelIdeal.main_arg2) = m ((c.tc : Thread Cert.SampleKernelIdeal.nD Cert.SampleKernelIdeal.τ).loc Cert.SampleKernelIdeal.main_arg2)
      ∧ r.2.mem ((c.tc : Thread Cert.SampleKernelIdeal.nD Cert.SampleKernelIdeal.τ).loc Cert.SampleKernelIdeal.main_arg3) = m ((c.tc : Thread Cert.SampleKernelIdeal.nD Cert.SampleKernelIdeal.τ).loc Cert.SampleKernelIdeal.main_arg3)
      ∧ r.2.mem ((c.tc : Thread Cert.SampleKernelIdeal.nD Cert.SampleKernelIdeal.τ).loc Cert.SampleKernelIdeal.main_arg4) = m ((c.tc : Thread Cert.SampleKernelIdeal.nD Cert.SampleKernelIdeal.τ).loc Cert.SampleKernelIdeal.main_arg4)
      ∧ r.2.mem ((c.tc : Thread Cert.SampleKernelIdeal.nD Cert.SampleKernelIdeal.τ).loc Cert.SampleKernelIdeal.main_arg5) = m ((c.tc : Thread Cert.SampleKernelIdeal.nD Cert.SampleKernelIdeal.τ).loc Cert.SampleKernelIdeal.main_arg5)
      ∧ r.2.mem ((c.tc : Thread Cert.SampleKernelIdeal.nD Cert.SampleKernelIdeal.τ).loc Cert.SampleKernelIdeal.main_arg6) = m ((c.tc : Thread Cert.SampleKernelIdeal.nD Cert.SampleKernelIdeal.τ).loc Cert.SampleKernelIdeal.main_arg6)
      ∧ r.2.mem ((c.tc : Thread Cert.SampleKernelIdeal.nD Cert.SampleKernelIdeal.τ).loc Cert.SampleKernelIdeal.main_arg7) = m ((c.tc : Thread Cert.SampleKernelIdeal.nD Cert.SampleKernelIdeal.τ).loc Cert.SampleKernelIdeal.main_arg7)
      ∧ r.2.mem ((c.tc : Thread Cert.SampleKernelIdeal.nD Cert.SampleKernelIdeal.τ).loc Cert.SampleKernelIdeal.main_arg8) = m ((c.tc : Thread Cert.SampleKernelIdeal.nD Cert.SampleKernelIdeal.τ).loc Cert.SampleKernelIdeal.main_arg8)
      ∧ r.2.mem ((c.tc : Thread Cert.SampleKernelIdeal.nD Cert.SampleKernelIdeal.τ).loc Cert.SampleKernelIdeal.main_arg9) = m ((c.tc : Thread Cert.SampleKernelIdeal.nD Cert.SampleKernelIdeal.τ).loc Cert.SampleKernelIdeal.main_arg9))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7)
      ∧ r.2.mem ((c.tc : Thread Cert.SampleReferenceIdeal.nD Cert.SampleReferenceIdeal.τ).loc Cert.SampleReferenceIdeal.main_arg8) = m ((c.tc : Thread Cert.SampleReferenceIdeal.nD Cert.SampleReferenceIdeal.τ).loc Cert.SampleReferenceIdeal.main_arg8)
      ∧ r.2.mem ((c.tc : Thread Cert.SampleReferenceIdeal.nD Cert.SampleReferenceIdeal.τ).loc Cert.SampleReferenceIdeal.main_arg9) = m ((c.tc : Thread Cert.SampleReferenceIdeal.nD Cert.SampleReferenceIdeal.τ).loc Cert.SampleReferenceIdeal.main_arg9))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9)
      ∧ r.2.mem ((c.tc : Thread Cert.MergeKernel.nD Cert.MergeKernel.τ).loc Cert.MergeKernel.main_arg10) = m ((c.tc : Thread Cert.MergeKernel.nD Cert.MergeKernel.τ).loc Cert.MergeKernel.main_arg10)
      ∧ r.2.mem ((c.tc : Thread Cert.MergeKernel.nD Cert.MergeKernel.τ).loc Cert.MergeKernel.main_arg11) = m ((c.tc : Thread Cert.MergeKernel.nD Cert.MergeKernel.τ).loc Cert.MergeKernel.main_arg11)
      ∧ r.2.mem ((c.tc : Thread Cert.MergeKernel.nD Cert.MergeKernel.τ).loc Cert.MergeKernel.main_arg12) = m ((c.tc : Thread Cert.MergeKernel.nD Cert.MergeKernel.τ).loc Cert.MergeKernel.main_arg12)
      ∧ r.2.mem ((c.tc : Thread Cert.MergeKernel.nD Cert.MergeKernel.τ).loc Cert.MergeKernel.main_arg13) = m ((c.tc : Thread Cert.MergeKernel.nD Cert.MergeKernel.τ).loc Cert.MergeKernel.main_arg13))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
      ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11)
      ∧ r.2.mem ((c.tc : Thread Cert.MergeKernelIdeal.nD Cert.MergeKernelIdeal.τ).loc Cert.MergeKernelIdeal.main_arg12) = m ((c.tc : Thread Cert.MergeKernelIdeal.nD Cert.MergeKernelIdeal.τ).loc Cert.MergeKernelIdeal.main_arg12)
      ∧ r.2.mem ((c.tc : Thread Cert.MergeKernelIdeal.nD Cert.MergeKernelIdeal.τ).loc Cert.MergeKernelIdeal.main_arg13) = m ((c.tc : Thread Cert.MergeKernelIdeal.nD Cert.MergeKernelIdeal.τ).loc Cert.MergeKernelIdeal.main_arg13))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13))
      ∧ r.2.sem = fun _ => 0)

def quiescent_FinalKernel [hFinalKernel : Cert.FinalKernel.Facts] : Prop :=
  ∀ (m : (ℓ : Loc Cert.FinalKernel.nD Cert.FinalKernel.τ Cert.FinalKernel.sig) → Buf (Elt Bits) ℓ) (g : Dev Cert.FinalKernel.nD → PrngReg), Pre_FinalKernel m →
    θ_run (Cert.FinalKernel.defs (F := Bits)) (onTc (τ := Cert.FinalKernel.τ) (Cert.FinalKernel.main (F := Bits))) ⟨m, fun _ => 0, g⟩ (fun r => (∀ c : Dev Cert.FinalKernel.nD,
      r.2.mem ((c.tc : Thread Cert.FinalKernel.nD Cert.FinalKernel.τ).loc Cert.FinalKernel.main_arg0) = m ((c.tc : Thread Cert.FinalKernel.nD Cert.FinalKernel.τ).loc Cert.FinalKernel.main_arg0)
      ∧ r.2.mem ((c.tc : Thread Cert.FinalKernel.nD Cert.FinalKernel.τ).loc Cert.FinalKernel.main_arg1) = m ((c.tc : Thread Cert.FinalKernel.nD Cert.FinalKernel.τ).loc Cert.FinalKernel.main_arg1)
      ∧ r.2.mem ((c.tc : Thread Cert.FinalKernel.nD Cert.FinalKernel.τ).loc Cert.FinalKernel.main_arg2) = m ((c.tc : Thread Cert.FinalKernel.nD Cert.FinalKernel.τ).loc Cert.FinalKernel.main_arg2)
      ∧ r.2.mem ((c.tc : Thread Cert.FinalKernel.nD Cert.FinalKernel.τ).loc Cert.FinalKernel.main_arg3) = m ((c.tc : Thread Cert.FinalKernel.nD Cert.FinalKernel.τ).loc Cert.FinalKernel.main_arg3)
      ∧ r.2.mem ((c.tc : Thread Cert.FinalKernel.nD Cert.FinalKernel.τ).loc Cert.FinalKernel.main_arg4) = m ((c.tc : Thread Cert.FinalKernel.nD Cert.FinalKernel.τ).loc Cert.FinalKernel.main_arg4))
      ∧ r.2.sem = fun _ => 0)

def quiescent_FinalKernelIdeal [hFinalKernelIdeal : Cert.FinalKernelIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg), Pre_FinalKernelIdeal m →
    θ_run (Cert.FinalKernelIdeal.defs (F := Ideal)) (onTc (τ := Cert.FinalKernelIdeal.τ) (Cert.FinalKernelIdeal.main (F := Ideal))) ⟨m, fun _ => 0, g⟩ (fun r => (∀ c : Dev Cert.FinalKernelIdeal.nD,
      r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
      ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
      ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2)
      ∧ r.2.mem ((c.tc : Thread Cert.FinalKernelIdeal.nD Cert.FinalKernelIdeal.τ).loc Cert.FinalKernelIdeal.main_arg3) = m ((c.tc : Thread Cert.FinalKernelIdeal.nD Cert.FinalKernelIdeal.τ).loc Cert.FinalKernelIdeal.main_arg3)
      ∧ r.2.mem ((c.tc : Thread Cert.FinalKernelIdeal.nD Cert.FinalKernelIdeal.τ).loc Cert.FinalKernelIdeal.main_arg4) = m ((c.tc : Thread Cert.FinalKernelIdeal.nD Cert.FinalKernelIdeal.τ).loc Cert.FinalKernelIdeal.main_arg4))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4))
      ∧ r.2.sem = fun _ => 0)

def preserves_MixKernel_MixKernelIdeal : Prop :=
  IdealRules.named_const.Statement Cert.MixKernelIdeal.κ "mask" .f32 0xF149F2CA#32 ⊥

def algebraic_MixKernelIdeal_MixReferenceIdeal_pre_finite_inputs [hMixKernelIdeal : Cert.MixKernelIdeal.Facts] [hMixReferenceIdeal : Cert.MixReferenceIdeal.Facts] [hPre_finite_inputs : Cert.Pre_finite_inputs.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_finite_inputs m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)) →
    ∃ (v0 : (c : Dev Cert.MixKernelIdeal.nD) → Buf (Elt Ideal) ((c.tc : Thread Cert.MixKernelIdeal.nD Cert.MixKernelIdeal.τ).loc Cert.MixKernelIdeal.main_v3_0)) (v1 : (c : Dev Cert.MixKernelIdeal.nD) → Buf (Elt Ideal) ((c.tc : Thread Cert.MixKernelIdeal.nD Cert.MixKernelIdeal.τ).loc Cert.MixKernelIdeal.main_v3_1)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v3_0) = v0 c
          ∧ r.2.mem ((c.tc : Thread Cert.MixKernelIdeal.nD Cert.MixKernelIdeal.τ).loc Cert.MixKernelIdeal.main_v3_1) = v1 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v72) = v0 c
          ∧ r.2.mem ((c.tc : Thread Cert.MixReferenceIdeal.nD Cert.MixReferenceIdeal.τ).loc Cert.MixReferenceIdeal.main_v91) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def preserves_ProjKernel_ProjKernelIdeal : Prop :=
  True

def algebraic_ProjKernelIdeal_ProjReferenceIdeal_pre_finite_projection [hProjKernelIdeal : Cert.ProjKernelIdeal.Facts] [hProjReferenceIdeal : Cert.ProjReferenceIdeal.Facts] [hPre_finite_projection : Cert.Pre_finite_projection.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal_finite_projection m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)
      ∧ m' ((c.tc : Thread Cert.ProjReferenceIdeal.nD Cert.ProjReferenceIdeal.τ).loc Cert.ProjReferenceIdeal.main_arg6) = m ((c.tc : Thread Cert.ProjKernelIdeal.nD Cert.ProjKernelIdeal.τ).loc Cert.ProjKernelIdeal.main_arg6)
      ∧ m' ((c.tc : Thread Cert.ProjReferenceIdeal.nD Cert.ProjReferenceIdeal.τ).loc Cert.ProjReferenceIdeal.main_arg7) = m ((c.tc : Thread Cert.ProjKernelIdeal.nD Cert.ProjKernelIdeal.τ).loc Cert.ProjKernelIdeal.main_arg7)) →
    ∃ (v0 : (c : Dev Cert.ProjKernelIdeal.nD) → Buf (Elt Ideal) ((c.tc : Thread Cert.ProjKernelIdeal.nD Cert.ProjKernelIdeal.τ).loc Cert.ProjKernelIdeal.main_v23_0)) (v1 : (c : Dev Cert.ProjKernelIdeal.nD) → Buf (Elt Ideal) ((c.tc : Thread Cert.ProjKernelIdeal.nD Cert.ProjKernelIdeal.τ).loc Cert.ProjKernelIdeal.main_v23_1)) (v2 : (c : Dev Cert.ProjKernelIdeal.nD) → Buf (Elt Ideal) ((c.tc : Thread Cert.ProjKernelIdeal.nD Cert.ProjKernelIdeal.τ).loc Cert.ProjKernelIdeal.main_v23_2)) (v3 : (c : Dev Cert.ProjKernelIdeal.nD) → Buf (Elt Ideal) ((c.tc : Thread Cert.ProjKernelIdeal.nD Cert.ProjKernelIdeal.τ).loc Cert.ProjKernelIdeal.main_v23_3)) (v4 : (c : Dev Cert.ProjKernelIdeal.nD) → Buf (Elt Ideal) ((c.tc : Thread Cert.ProjKernelIdeal.nD Cert.ProjKernelIdeal.τ).loc Cert.ProjKernelIdeal.main_v23_4)) (v5 : (c : Dev Cert.ProjKernelIdeal.nD) → Buf (Elt Ideal) ((c.tc : Thread Cert.ProjKernelIdeal.nD Cert.ProjKernelIdeal.τ).loc Cert.ProjKernelIdeal.main_v23_5)) (v6 : (c : Dev Cert.ProjKernelIdeal.nD) → Buf (Elt Ideal) ((c.tc : Thread Cert.ProjKernelIdeal.nD Cert.ProjKernelIdeal.τ).loc Cert.ProjKernelIdeal.main_v23_6)) (v7 : (c : Dev Cert.ProjKernelIdeal.nD) → Buf (Elt Ideal) ((c.tc : Thread Cert.ProjKernelIdeal.nD Cert.ProjKernelIdeal.τ).loc Cert.ProjKernelIdeal.main_v41)) (v8 : (c : Dev Cert.ProjKernelIdeal.nD) → Buf (Elt Ideal) ((c.tc : Thread Cert.ProjKernelIdeal.nD Cert.ProjKernelIdeal.τ).loc Cert.ProjKernelIdeal.main_v59)) (v9 : (c : Dev Cert.ProjKernelIdeal.nD) → Buf (Elt Ideal) ((c.tc : Thread Cert.ProjKernelIdeal.nD Cert.ProjKernelIdeal.τ).loc Cert.ProjKernelIdeal.main_v62)) (v10 : (c : Dev Cert.ProjKernelIdeal.nD) → Buf (Elt Ideal) ((c.tc : Thread Cert.ProjKernelIdeal.nD Cert.ProjKernelIdeal.τ).loc Cert.ProjKernelIdeal.main_v65)) (v11 : (c : Dev Cert.ProjKernelIdeal.nD) → Buf (Elt Ideal) ((c.tc : Thread Cert.ProjKernelIdeal.nD Cert.ProjKernelIdeal.τ).loc Cert.ProjKernelIdeal.main_v82)) (v12 : (c : Dev Cert.ProjKernelIdeal.nD) → Buf (Elt Ideal) ((c.tc : Thread Cert.ProjKernelIdeal.nD Cert.ProjKernelIdeal.τ).loc Cert.ProjKernelIdeal.main_v84)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v23_0) = v0 c
          ∧ r.2.mem ((c.tc : Thread Cert.ProjKernelIdeal.nD Cert.ProjKernelIdeal.τ).loc Cert.ProjKernelIdeal.main_v23_1) = v1 c
          ∧ r.2.mem ((c.tc : Thread Cert.ProjKernelIdeal.nD Cert.ProjKernelIdeal.τ).loc Cert.ProjKernelIdeal.main_v23_2) = v2 c
          ∧ r.2.mem ((c.tc : Thread Cert.ProjKernelIdeal.nD Cert.ProjKernelIdeal.τ).loc Cert.ProjKernelIdeal.main_v23_3) = v3 c
          ∧ r.2.mem ((c.tc : Thread Cert.ProjKernelIdeal.nD Cert.ProjKernelIdeal.τ).loc Cert.ProjKernelIdeal.main_v23_4) = v4 c
          ∧ r.2.mem ((c.tc : Thread Cert.ProjKernelIdeal.nD Cert.ProjKernelIdeal.τ).loc Cert.ProjKernelIdeal.main_v23_5) = v5 c
          ∧ r.2.mem ((c.tc : Thread Cert.ProjKernelIdeal.nD Cert.ProjKernelIdeal.τ).loc Cert.ProjKernelIdeal.main_v23_6) = v6 c
          ∧ r.2.mem ((c.tc : Thread Cert.ProjKernelIdeal.nD Cert.ProjKernelIdeal.τ).loc Cert.ProjKernelIdeal.main_v41) = v7 c
          ∧ r.2.mem ((c.tc : Thread Cert.ProjKernelIdeal.nD Cert.ProjKernelIdeal.τ).loc Cert.ProjKernelIdeal.main_v59) = v8 c
          ∧ r.2.mem ((c.tc : Thread Cert.ProjKernelIdeal.nD Cert.ProjKernelIdeal.τ).loc Cert.ProjKernelIdeal.main_v62) = v9 c
          ∧ r.2.mem ((c.tc : Thread Cert.ProjKernelIdeal.nD Cert.ProjKernelIdeal.τ).loc Cert.ProjKernelIdeal.main_v65) = v10 c
          ∧ r.2.mem ((c.tc : Thread Cert.ProjKernelIdeal.nD Cert.ProjKernelIdeal.τ).loc Cert.ProjKernelIdeal.main_v82) = v11 c
          ∧ r.2.mem ((c.tc : Thread Cert.ProjKernelIdeal.nD Cert.ProjKernelIdeal.τ).loc Cert.ProjKernelIdeal.main_v84) = v12 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
          ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
          ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v104) = v0 c
          ∧ r.2.mem ((c.tc : Thread Cert.ProjReferenceIdeal.nD Cert.ProjReferenceIdeal.τ).loc Cert.ProjReferenceIdeal.main_v105) = v1 c
          ∧ r.2.mem ((c.tc : Thread Cert.ProjReferenceIdeal.nD Cert.ProjReferenceIdeal.τ).loc Cert.ProjReferenceIdeal.main_v106) = v2 c
          ∧ r.2.mem ((c.tc : Thread Cert.ProjReferenceIdeal.nD Cert.ProjReferenceIdeal.τ).loc Cert.ProjReferenceIdeal.main_v107) = v3 c
          ∧ r.2.mem ((c.tc : Thread Cert.ProjReferenceIdeal.nD Cert.ProjReferenceIdeal.τ).loc Cert.ProjReferenceIdeal.main_v103) = v4 c
          ∧ r.2.mem ((c.tc : Thread Cert.ProjReferenceIdeal.nD Cert.ProjReferenceIdeal.τ).loc Cert.ProjReferenceIdeal.main_v114) = v5 c
          ∧ r.2.mem ((c.tc : Thread Cert.ProjReferenceIdeal.nD Cert.ProjReferenceIdeal.τ).loc Cert.ProjReferenceIdeal.main_v121) = v6 c
          ∧ r.2.mem ((c.tc : Thread Cert.ProjReferenceIdeal.nD Cert.ProjReferenceIdeal.τ).loc Cert.ProjReferenceIdeal.main_v124) = v7 c
          ∧ r.2.mem ((c.tc : Thread Cert.ProjReferenceIdeal.nD Cert.ProjReferenceIdeal.τ).loc Cert.ProjReferenceIdeal.main_v127) = v8 c
          ∧ r.2.mem ((c.tc : Thread Cert.ProjReferenceIdeal.nD Cert.ProjReferenceIdeal.τ).loc Cert.ProjReferenceIdeal.main_v129) = v9 c
          ∧ r.2.mem ((c.tc : Thread Cert.ProjReferenceIdeal.nD Cert.ProjReferenceIdeal.τ).loc Cert.ProjReferenceIdeal.main_v131) = v10 c
          ∧ r.2.mem ((c.tc : Thread Cert.ProjReferenceIdeal.nD Cert.ProjReferenceIdeal.τ).loc Cert.ProjReferenceIdeal.main_v134) = v11 c
          ∧ r.2.mem ((c.tc : Thread Cert.ProjReferenceIdeal.nD Cert.ProjReferenceIdeal.τ).loc Cert.ProjReferenceIdeal.main_v136) = v12 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7))

def preserves_SampleKernel_SampleKernelIdeal : Prop :=
  IdealRules.named_const.Statement Cert.SampleKernelIdeal.κ "mask" .f32 0xF149F2CA#32 ⊥

def algebraic_SampleKernelIdeal_SampleReferenceIdeal [hSampleKernelIdeal : Cert.SampleKernelIdeal.Facts] [hSampleReferenceIdeal : Cert.SampleReferenceIdeal.Facts] : Prop :=
  ∀ (m : (ℓ : Loc Cert.SampleKernelIdeal.nD Cert.SampleKernelIdeal.τ Cert.SampleKernelIdeal.sig) → Buf (Elt Ideal) ℓ) (g : Dev Cert.SampleKernelIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleKernelIdeal m →
    (∀ c : Dev Cert.SampleKernelIdeal.nD,
      m' ((c.tc : Thread Cert.SampleReferenceIdeal.nD Cert.SampleReferenceIdeal.τ).loc Cert.SampleReferenceIdeal.main_arg0) = m ((c.tc : Thread Cert.SampleKernelIdeal.nD Cert.SampleKernelIdeal.τ).loc Cert.SampleKernelIdeal.main_arg0)
      ∧ m' ((c.tc : Thread Cert.SampleReferenceIdeal.nD Cert.SampleReferenceIdeal.τ).loc Cert.SampleReferenceIdeal.main_arg1) = m ((c.tc : Thread Cert.SampleKernelIdeal.nD Cert.SampleKernelIdeal.τ).loc Cert.SampleKernelIdeal.main_arg1)
      ∧ m' ((c.tc : Thread Cert.SampleReferenceIdeal.nD Cert.SampleReferenceIdeal.τ).loc Cert.SampleReferenceIdeal.main_arg2) = m ((c.tc : Thread Cert.SampleKernelIdeal.nD Cert.SampleKernelIdeal.τ).loc Cert.SampleKernelIdeal.main_arg2)
      ∧ m' ((c.tc : Thread Cert.SampleReferenceIdeal.nD Cert.SampleReferenceIdeal.τ).loc Cert.SampleReferenceIdeal.main_arg3) = m ((c.tc : Thread Cert.SampleKernelIdeal.nD Cert.SampleKernelIdeal.τ).loc Cert.SampleKernelIdeal.main_arg3)
      ∧ m' ((c.tc : Thread Cert.SampleReferenceIdeal.nD Cert.SampleReferenceIdeal.τ).loc Cert.SampleReferenceIdeal.main_arg4) = m ((c.tc : Thread Cert.SampleKernelIdeal.nD Cert.SampleKernelIdeal.τ).loc Cert.SampleKernelIdeal.main_arg4)
      ∧ m' ((c.tc : Thread Cert.SampleReferenceIdeal.nD Cert.SampleReferenceIdeal.τ).loc Cert.SampleReferenceIdeal.main_arg5) = m ((c.tc : Thread Cert.SampleKernelIdeal.nD Cert.SampleKernelIdeal.τ).loc Cert.SampleKernelIdeal.main_arg5)
      ∧ m' ((c.tc : Thread Cert.SampleReferenceIdeal.nD Cert.SampleReferenceIdeal.τ).loc Cert.SampleReferenceIdeal.main_arg6) = m ((c.tc : Thread Cert.SampleKernelIdeal.nD Cert.SampleKernelIdeal.τ).loc Cert.SampleKernelIdeal.main_arg6)
      ∧ m' ((c.tc : Thread Cert.SampleReferenceIdeal.nD Cert.SampleReferenceIdeal.τ).loc Cert.SampleReferenceIdeal.main_arg7) = m ((c.tc : Thread Cert.SampleKernelIdeal.nD Cert.SampleKernelIdeal.τ).loc Cert.SampleKernelIdeal.main_arg7)
      ∧ m' ((c.tc : Thread Cert.SampleReferenceIdeal.nD Cert.SampleReferenceIdeal.τ).loc Cert.SampleReferenceIdeal.main_arg8) = m ((c.tc : Thread Cert.SampleKernelIdeal.nD Cert.SampleKernelIdeal.τ).loc Cert.SampleKernelIdeal.main_arg8)
      ∧ m' ((c.tc : Thread Cert.SampleReferenceIdeal.nD Cert.SampleReferenceIdeal.τ).loc Cert.SampleReferenceIdeal.main_arg9) = m ((c.tc : Thread Cert.SampleKernelIdeal.nD Cert.SampleKernelIdeal.τ).loc Cert.SampleKernelIdeal.main_arg9)) →
    ∃ (v0 : (c : Dev Cert.SampleKernelIdeal.nD) → Buf (Elt Ideal) ((c.tc : Thread Cert.SampleKernelIdeal.nD Cert.SampleKernelIdeal.τ).loc Cert.SampleKernelIdeal.main_v10_0)) (v1 : (c : Dev Cert.SampleKernelIdeal.nD) → Buf (Elt Ideal) ((c.tc : Thread Cert.SampleKernelIdeal.nD Cert.SampleKernelIdeal.τ).loc Cert.SampleKernelIdeal.main_v10_1)),
      θ_run (Cert.SampleKernelIdeal.defs (F := Ideal)) (onTc (τ := Cert.SampleKernelIdeal.τ) (Cert.SampleKernelIdeal.main (F := Ideal))) ⟨m, fun _ => 0, g⟩ (fun r => ∀ c : Dev Cert.SampleKernelIdeal.nD,
          r.2.mem ((c.tc : Thread Cert.SampleKernelIdeal.nD Cert.SampleKernelIdeal.τ).loc Cert.SampleKernelIdeal.main_v10_0) = v0 c
          ∧ r.2.mem ((c.tc : Thread Cert.SampleKernelIdeal.nD Cert.SampleKernelIdeal.τ).loc Cert.SampleKernelIdeal.main_v10_1) = v1 c
          ∧ r.2.mem ((c.tc : Thread Cert.SampleKernelIdeal.nD Cert.SampleKernelIdeal.τ).loc Cert.SampleKernelIdeal.main_arg0) = m ((c.tc : Thread Cert.SampleKernelIdeal.nD Cert.SampleKernelIdeal.τ).loc Cert.SampleKernelIdeal.main_arg0)
          ∧ r.2.mem ((c.tc : Thread Cert.SampleKernelIdeal.nD Cert.SampleKernelIdeal.τ).loc Cert.SampleKernelIdeal.main_arg1) = m ((c.tc : Thread Cert.SampleKernelIdeal.nD Cert.SampleKernelIdeal.τ).loc Cert.SampleKernelIdeal.main_arg1)
          ∧ r.2.mem ((c.tc : Thread Cert.SampleKernelIdeal.nD Cert.SampleKernelIdeal.τ).loc Cert.SampleKernelIdeal.main_arg2) = m ((c.tc : Thread Cert.SampleKernelIdeal.nD Cert.SampleKernelIdeal.τ).loc Cert.SampleKernelIdeal.main_arg2)
          ∧ r.2.mem ((c.tc : Thread Cert.SampleKernelIdeal.nD Cert.SampleKernelIdeal.τ).loc Cert.SampleKernelIdeal.main_arg3) = m ((c.tc : Thread Cert.SampleKernelIdeal.nD Cert.SampleKernelIdeal.τ).loc Cert.SampleKernelIdeal.main_arg3)
          ∧ r.2.mem ((c.tc : Thread Cert.SampleKernelIdeal.nD Cert.SampleKernelIdeal.τ).loc Cert.SampleKernelIdeal.main_arg4) = m ((c.tc : Thread Cert.SampleKernelIdeal.nD Cert.SampleKernelIdeal.τ).loc Cert.SampleKernelIdeal.main_arg4)
          ∧ r.2.mem ((c.tc : Thread Cert.SampleKernelIdeal.nD Cert.SampleKernelIdeal.τ).loc Cert.SampleKernelIdeal.main_arg5) = m ((c.tc : Thread Cert.SampleKernelIdeal.nD Cert.SampleKernelIdeal.τ).loc Cert.SampleKernelIdeal.main_arg5)
          ∧ r.2.mem ((c.tc : Thread Cert.SampleKernelIdeal.nD Cert.SampleKernelIdeal.τ).loc Cert.SampleKernelIdeal.main_arg6) = m ((c.tc : Thread Cert.SampleKernelIdeal.nD Cert.SampleKernelIdeal.τ).loc Cert.SampleKernelIdeal.main_arg6)
          ∧ r.2.mem ((c.tc : Thread Cert.SampleKernelIdeal.nD Cert.SampleKernelIdeal.τ).loc Cert.SampleKernelIdeal.main_arg7) = m ((c.tc : Thread Cert.SampleKernelIdeal.nD Cert.SampleKernelIdeal.τ).loc Cert.SampleKernelIdeal.main_arg7)
          ∧ r.2.mem ((c.tc : Thread Cert.SampleKernelIdeal.nD Cert.SampleKernelIdeal.τ).loc Cert.SampleKernelIdeal.main_arg8) = m ((c.tc : Thread Cert.SampleKernelIdeal.nD Cert.SampleKernelIdeal.τ).loc Cert.SampleKernelIdeal.main_arg8)
          ∧ r.2.mem ((c.tc : Thread Cert.SampleKernelIdeal.nD Cert.SampleKernelIdeal.τ).loc Cert.SampleKernelIdeal.main_arg9) = m ((c.tc : Thread Cert.SampleKernelIdeal.nD Cert.SampleKernelIdeal.τ).loc Cert.SampleKernelIdeal.main_arg9))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v55) = v0 c
          ∧ r.2.mem ((c.tc : Thread Cert.SampleReferenceIdeal.nD Cert.SampleReferenceIdeal.τ).loc Cert.SampleReferenceIdeal.main_v76) = v1 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4)
          ∧ r.2.mem ((c.tc : Thread Cert.SampleReferenceIdeal.nD Cert.SampleReferenceIdeal.τ).loc Cert.SampleReferenceIdeal.main_arg5) = m' ((c.tc : Thread Cert.SampleReferenceIdeal.nD Cert.SampleReferenceIdeal.τ).loc Cert.SampleReferenceIdeal.main_arg5)
          ∧ r.2.mem ((c.tc : Thread Cert.SampleReferenceIdeal.nD Cert.SampleReferenceIdeal.τ).loc Cert.SampleReferenceIdeal.main_arg6) = m' ((c.tc : Thread Cert.SampleReferenceIdeal.nD Cert.SampleReferenceIdeal.τ).loc Cert.SampleReferenceIdeal.main_arg6)
          ∧ r.2.mem ((c.tc : Thread Cert.SampleReferenceIdeal.nD Cert.SampleReferenceIdeal.τ).loc Cert.SampleReferenceIdeal.main_arg7) = m' ((c.tc : Thread Cert.SampleReferenceIdeal.nD Cert.SampleReferenceIdeal.τ).loc Cert.SampleReferenceIdeal.main_arg7)
          ∧ r.2.mem ((c.tc : Thread Cert.SampleReferenceIdeal.nD Cert.SampleReferenceIdeal.τ).loc Cert.SampleReferenceIdeal.main_arg8) = m' ((c.tc : Thread Cert.SampleReferenceIdeal.nD Cert.SampleReferenceIdeal.τ).loc Cert.SampleReferenceIdeal.main_arg8)
          ∧ r.2.mem ((c.tc : Thread Cert.SampleReferenceIdeal.nD Cert.SampleReferenceIdeal.τ).loc Cert.SampleReferenceIdeal.main_arg9) = m' ((c.tc : Thread Cert.SampleReferenceIdeal.nD Cert.SampleReferenceIdeal.τ).loc Cert.SampleReferenceIdeal.main_arg9))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)
      ∧ m' ((c.tc : Thread Cert.MergeReferenceIdeal.nD Cert.MergeReferenceIdeal.τ).loc Cert.MergeReferenceIdeal.main_arg10) = m ((c.tc : Thread Cert.MergeKernelIdeal.nD Cert.MergeKernelIdeal.τ).loc Cert.MergeKernelIdeal.main_arg10)
      ∧ m' ((c.tc : Thread Cert.MergeReferenceIdeal.nD Cert.MergeReferenceIdeal.τ).loc Cert.MergeReferenceIdeal.main_arg11) = m ((c.tc : Thread Cert.MergeKernelIdeal.nD Cert.MergeKernelIdeal.τ).loc Cert.MergeKernelIdeal.main_arg11)
      ∧ m' ((c.tc : Thread Cert.MergeReferenceIdeal.nD Cert.MergeReferenceIdeal.τ).loc Cert.MergeReferenceIdeal.main_arg12) = m ((c.tc : Thread Cert.MergeKernelIdeal.nD Cert.MergeKernelIdeal.τ).loc Cert.MergeKernelIdeal.main_arg12)
      ∧ m' ((c.tc : Thread Cert.MergeReferenceIdeal.nD Cert.MergeReferenceIdeal.τ).loc Cert.MergeReferenceIdeal.main_arg13) = m ((c.tc : Thread Cert.MergeKernelIdeal.nD Cert.MergeKernelIdeal.τ).loc Cert.MergeKernelIdeal.main_arg13)) →
    ∃ (v0 : (c : Dev Cert.MergeKernelIdeal.nD) → Buf (Elt Ideal) ((c.tc : Thread Cert.MergeKernelIdeal.nD Cert.MergeKernelIdeal.τ).loc Cert.MergeKernelIdeal.main_v9_0)) (v1 : (c : Dev Cert.MergeKernelIdeal.nD) → Buf (Elt Ideal) ((c.tc : Thread Cert.MergeKernelIdeal.nD Cert.MergeKernelIdeal.τ).loc Cert.MergeKernelIdeal.main_v9_1)) (v2 : (c : Dev Cert.MergeKernelIdeal.nD) → Buf (Elt Ideal) ((c.tc : Thread Cert.MergeKernelIdeal.nD Cert.MergeKernelIdeal.τ).loc Cert.MergeKernelIdeal.main_v9_2)) (v3 : (c : Dev Cert.MergeKernelIdeal.nD) → Buf (Elt Ideal) ((c.tc : Thread Cert.MergeKernelIdeal.nD Cert.MergeKernelIdeal.τ).loc Cert.MergeKernelIdeal.main_v9_3)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v9_0) = v0 c
          ∧ r.2.mem ((c.tc : Thread Cert.MergeKernelIdeal.nD Cert.MergeKernelIdeal.τ).loc Cert.MergeKernelIdeal.main_v9_1) = v1 c
          ∧ r.2.mem ((c.tc : Thread Cert.MergeKernelIdeal.nD Cert.MergeKernelIdeal.τ).loc Cert.MergeKernelIdeal.main_v9_2) = v2 c
          ∧ r.2.mem ((c.tc : Thread Cert.MergeKernelIdeal.nD Cert.MergeKernelIdeal.τ).loc Cert.MergeKernelIdeal.main_v9_3) = v3 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
          ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
          ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11)
          ∧ r.2.mem ((c.tc : Thread Cert.MergeKernelIdeal.nD Cert.MergeKernelIdeal.τ).loc Cert.MergeKernelIdeal.main_arg12) = m ((c.tc : Thread Cert.MergeKernelIdeal.nD Cert.MergeKernelIdeal.τ).loc Cert.MergeKernelIdeal.main_arg12)
          ∧ r.2.mem ((c.tc : Thread Cert.MergeKernelIdeal.nD Cert.MergeKernelIdeal.τ).loc Cert.MergeKernelIdeal.main_arg13) = m ((c.tc : Thread Cert.MergeKernelIdeal.nD Cert.MergeKernelIdeal.τ).loc Cert.MergeKernelIdeal.main_arg13))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v15) = v0 c
          ∧ r.2.mem ((c.tc : Thread Cert.MergeReferenceIdeal.nD Cert.MergeReferenceIdeal.τ).loc Cert.MergeReferenceIdeal.main_v34) = v1 c
          ∧ r.2.mem ((c.tc : Thread Cert.MergeReferenceIdeal.nD Cert.MergeReferenceIdeal.τ).loc Cert.MergeReferenceIdeal.main_v38) = v2 c
          ∧ r.2.mem ((c.tc : Thread Cert.MergeReferenceIdeal.nD Cert.MergeReferenceIdeal.τ).loc Cert.MergeReferenceIdeal.main_v42) = v3 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13))

def preserves_FinalKernel_FinalKernelIdeal : Prop :=
  True

def algebraic_FinalKernelIdeal_FinalReferenceIdeal [hFinalKernelIdeal : Cert.FinalKernelIdeal.Facts] [hFinalReferenceIdeal : Cert.FinalReferenceIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalKernelIdeal m →
    (∀ c : Dev Cert.FinalKernelIdeal.nD,
      m' ((c.tc : Thread Cert.FinalReferenceIdeal.nD Cert.FinalReferenceIdeal.τ).loc Cert.FinalReferenceIdeal.main_arg0) = m ((c.tc : Thread Cert.FinalKernelIdeal.nD Cert.FinalKernelIdeal.τ).loc Cert.FinalKernelIdeal.main_arg0)
      ∧ m' ((c.tc : Thread Cert.FinalReferenceIdeal.nD Cert.FinalReferenceIdeal.τ).loc Cert.FinalReferenceIdeal.main_arg1) = m ((c.tc : Thread Cert.FinalKernelIdeal.nD Cert.FinalKernelIdeal.τ).loc Cert.FinalKernelIdeal.main_arg1)
      ∧ m' ((c.tc : Thread Cert.FinalReferenceIdeal.nD Cert.FinalReferenceIdeal.τ).loc Cert.FinalReferenceIdeal.main_arg2) = m ((c.tc : Thread Cert.FinalKernelIdeal.nD Cert.FinalKernelIdeal.τ).loc Cert.FinalKernelIdeal.main_arg2)
      ∧ m' ((c.tc : Thread Cert.FinalReferenceIdeal.nD Cert.FinalReferenceIdeal.τ).loc Cert.FinalReferenceIdeal.main_arg3) = m ((c.tc : Thread Cert.FinalKernelIdeal.nD Cert.FinalKernelIdeal.τ).loc Cert.FinalKernelIdeal.main_arg3)
      ∧ m' ((c.tc : Thread Cert.FinalReferenceIdeal.nD Cert.FinalReferenceIdeal.τ).loc Cert.FinalReferenceIdeal.main_arg4) = m ((c.tc : Thread Cert.FinalKernelIdeal.nD Cert.FinalKernelIdeal.τ).loc Cert.FinalKernelIdeal.main_arg4)) →
    ∃ (v0 : (c : Dev Cert.FinalKernelIdeal.nD) → Buf (Elt Ideal) ((c.tc : Thread Cert.FinalKernelIdeal.nD Cert.FinalKernelIdeal.τ).loc Cert.FinalKernelIdeal.main_v4)),
      θ_run (Cert.FinalKernelIdeal.defs (F := Ideal)) (onTc (τ := Cert.FinalKernelIdeal.τ) (Cert.FinalKernelIdeal.main (F := Ideal))) ⟨m, fun _ => 0, g⟩ (fun r => ∀ c : Dev Cert.FinalKernelIdeal.nD,
          r.2.mem ((c.tc : Thread Cert.FinalKernelIdeal.nD Cert.FinalKernelIdeal.τ).loc Cert.FinalKernelIdeal.main_v4) = v0 c
          ∧ r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
          ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
          ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2)
          ∧ r.2.mem ((c.tc : Thread Cert.FinalKernelIdeal.nD Cert.FinalKernelIdeal.τ).loc Cert.FinalKernelIdeal.main_arg3) = m ((c.tc : Thread Cert.FinalKernelIdeal.nD Cert.FinalKernelIdeal.τ).loc Cert.FinalKernelIdeal.main_arg3)
          ∧ r.2.mem ((c.tc : Thread Cert.FinalKernelIdeal.nD Cert.FinalKernelIdeal.τ).loc Cert.FinalKernelIdeal.main_arg4) = m ((c.tc : Thread Cert.FinalKernelIdeal.nD Cert.FinalKernelIdeal.τ).loc Cert.FinalKernelIdeal.main_arg4))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v24) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3)
          ∧ r.2.mem ((c.tc : Thread Cert.FinalReferenceIdeal.nD Cert.FinalReferenceIdeal.τ).loc Cert.FinalReferenceIdeal.main_arg4) = m' ((c.tc : Thread Cert.FinalReferenceIdeal.nD Cert.FinalReferenceIdeal.τ).loc Cert.FinalReferenceIdeal.main_arg4))

def Claim : Prop :=
  ∃ (hMixKernel : Cert.MixKernel.Facts) (hMixKernelIdeal : Cert.MixKernelIdeal.Facts) (hMixReferenceIdeal : Cert.MixReferenceIdeal.Facts) (hProjKernel : Cert.ProjKernel.Facts) (hProjKernelIdeal : Cert.ProjKernelIdeal.Facts) (hProjReferenceIdeal : Cert.ProjReferenceIdeal.Facts) (hSampleKernel : Cert.SampleKernel.Facts) (hSampleKernelIdeal : Cert.SampleKernelIdeal.Facts) (hSampleReferenceIdeal : Cert.SampleReferenceIdeal.Facts) (hMergeKernel : Cert.MergeKernel.Facts) (hMergeKernelIdeal : Cert.MergeKernelIdeal.Facts) (hMergeReferenceIdeal : Cert.MergeReferenceIdeal.Facts) (hFinalKernel : Cert.FinalKernel.Facts) (hFinalKernelIdeal : Cert.FinalKernelIdeal.Facts) (hFinalReferenceIdeal : Cert.FinalReferenceIdeal.Facts) (hPre_finite_inputs : Cert.Pre_finite_inputs.Facts) (hPre_finite_projection : Cert.Pre_finite_projection.Facts),
    quiescent_MixKernel (hMixKernel := hMixKernel)
    ∧ quiescent_MixKernelIdeal (hMixKernelIdeal := hMixKernelIdeal)
    ∧ quiescent_MixKernelIdeal_pre_finite_inputs (hMixKernelIdeal := hMixKernelIdeal) (hPre_finite_inputs := hPre_finite_inputs)
    ∧ quiescent_MixReferenceIdeal (hMixReferenceIdeal := hMixReferenceIdeal)
    ∧ quiescent_MixReferenceIdeal_pre_finite_inputs (hMixReferenceIdeal := hMixReferenceIdeal) (hPre_finite_inputs := hPre_finite_inputs)
    ∧ quiescent_ProjKernel (hProjKernel := hProjKernel)
    ∧ quiescent_ProjKernelIdeal (hProjKernelIdeal := hProjKernelIdeal)
    ∧ quiescent_ProjKernelIdeal_pre_finite_projection (hProjKernelIdeal := hProjKernelIdeal) (hPre_finite_projection := hPre_finite_projection)
    ∧ quiescent_ProjReferenceIdeal (hProjReferenceIdeal := hProjReferenceIdeal)
    ∧ quiescent_ProjReferenceIdeal_pre_finite_projection (hProjReferenceIdeal := hProjReferenceIdeal) (hPre_finite_projection := hPre_finite_projection)
    ∧ quiescent_SampleKernel (hSampleKernel := hSampleKernel)
    ∧ quiescent_SampleKernelIdeal (hSampleKernelIdeal := hSampleKernelIdeal)
    ∧ quiescent_SampleReferenceIdeal (hSampleReferenceIdeal := hSampleReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_FinalKernel (hFinalKernel := hFinalKernel)
    ∧ quiescent_FinalKernelIdeal (hFinalKernelIdeal := hFinalKernelIdeal)
    ∧ quiescent_FinalReferenceIdeal (hFinalReferenceIdeal := hFinalReferenceIdeal)
    ∧ preserves_MixKernel_MixKernelIdeal
    ∧ algebraic_MixKernelIdeal_MixReferenceIdeal_pre_finite_inputs (hMixKernelIdeal := hMixKernelIdeal) (hMixReferenceIdeal := hMixReferenceIdeal) (hPre_finite_inputs := hPre_finite_inputs)
    ∧ preserves_ProjKernel_ProjKernelIdeal
    ∧ algebraic_ProjKernelIdeal_ProjReferenceIdeal_pre_finite_projection (hProjKernelIdeal := hProjKernelIdeal) (hProjReferenceIdeal := hProjReferenceIdeal) (hPre_finite_projection := hPre_finite_projection)
    ∧ preserves_SampleKernel_SampleKernelIdeal
    ∧ algebraic_SampleKernelIdeal_SampleReferenceIdeal (hSampleKernelIdeal := hSampleKernelIdeal) (hSampleReferenceIdeal := hSampleReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_FinalKernel_FinalKernelIdeal
    ∧ algebraic_FinalKernelIdeal_FinalReferenceIdeal (hFinalKernelIdeal := hFinalKernelIdeal) (hFinalReferenceIdeal := hFinalReferenceIdeal)
-- ==== Pre_finite_inputs.lean ====
abbrev S8 : Shape := ⟨1, ![8]⟩
abbrev S33792x512 : Shape := ⟨2, ![33792, 512]⟩
abbrev S33792x128 : Shape := ⟨2, ![33792, 128]⟩
abbrev S4x128x128 : Shape := ⟨3, ![4, 128, 128]⟩
abbrev S4x128 : Shape := ⟨2, ![4, 128]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bitsLt_bf16_f32 : FTy.bits .bf16 < FTy.bits .f32
  bcast_S_S33792x512 : S_.BroadcastsInDim S33792x512 (![] : Fin 0 → Fin S33792x512.rank)
  reducesTo_S33792x512_S_d0_1 : S33792x512.ReducesTo [0, 1] S_
  bcast_S_S33792x128 : S_.BroadcastsInDim S33792x128 (![] : Fin 0 → Fin S33792x128.rank)
  reducesTo_S33792x128_S_d0_1 : S33792x128.ReducesTo [0, 1] S_

variable [Facts]

def fn {F : FTy → Type} [FloatOps F] (main_arg0 : FVec F S8 .f32) (main_arg1 : FVec F S33792x512 .bf16) (main_arg2 : FVec F S33792x128 .f32) (main_arg3 : FVec F S33792x128 .f32) (main_arg4 : FVec F S33792x512 .f32) (main_arg5 : FVec F S33792x512 .bf16) (main_arg6 : FVec F S4x128x128 .f32) (main_arg7 : FVec F S4x128 .f32) : IVec S_ 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_v4 : FVec F S33792x512 .f32 := (extf .f32 · bitsLt_bf16_f32) main_arg1
  let main_v5 : FVec F S33792x512 .f32 := Host.absf main_v4
  let main_cst_0 : FVec F S_ .f32 := constant S_ .f32 0x7F800000#32
  let main_v6 : FVec F S33792x512 .f32 := broadcastInDim S33792x512 ![] bcast_S_S33792x512 main_cst_0
  let main_v7 : IVec S33792x512 1 := cmpf .olt main_v5 main_v6
  let main_c_1 : IVec S_ 1 := constantI S_ 1 1#1
  let main_v8 : IVec S_ 1 := (fun x v => Host.reduce IntOp.andi x v reducesTo_S33792x512_S_d0_1 h_S_) main_v7 main_c_1
  let main_v9 : IVec S_ 1 := andi main_v3 main_v8
  let main_v10 : FVec F S33792x128 .f32 := Host.absf main_arg2
  let main_cst_2 : FVec F S_ .f32 := constant S_ .f32 0x7F800000#32
  let main_v11 : FVec F S33792x128 .f32 := broadcastInDim S33792x128 ![] bcast_S_S33792x128 main_cst_2
  let main_v12 : IVec S33792x128 1 := cmpf .olt main_v10 main_v11
  let main_c_3 : IVec S_ 1 := constantI S_ 1 1#1
  let main_v13 : IVec S_ 1 := (fun x v => Host.reduce IntOp.andi x v reducesTo_S33792x128_S_d0_1 h_S_) main_v12 main_c_3
  let main_v14 : IVec S_ 1 := andi main_v9 main_v13
  main_v14
-- ==== Pre_finite_projection.lean ====
abbrev S8x4096x1024 : Shape := ⟨3, ![8, 4096, 1024]⟩
abbrev S128x8x1024 : Shape := ⟨3, ![128, 8, 1024]⟩
abbrev S1024 : Shape := ⟨1, ![1024]⟩
abbrev S1024x3840 : Shape := ⟨2, ![1024, 3840]⟩
abbrev S64 : Shape := ⟨1, ![64]⟩
abbrev S512 : Shape := ⟨1, ![512]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3840 : S_.BroadcastsInDim S1024x3840 (![] : Fin 0 → Fin S1024x3840.rank)
  reducesTo_S1024x3840_S_d0_1 : S1024x3840.ReducesTo [0, 1] S_

variable [Facts]

def fn {F : FTy → Type} [FloatOps F] (main_arg0 : FVec F S8x4096x1024 .f32) (main_arg1 : FVec F S128x8x1024 .f32) (main_arg2 : FVec F S1024 .f32) (main_arg3 : FVec F S1024x3840 .f32) (main_arg4 : FVec F S64 .f32) (main_arg5 : FVec F S64 .f32) (main_arg6 : FVec F S512 .f32) (main_arg7 : FVec F S512 .f32) : IVec S_ 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3840 .f32 := Host.absf main_arg3
  let main_cst_0 : FVec F S_ .f32 := constant S_ .f32 0x7F800000#32
  let main_v5 : FVec F S1024x3840 .f32 := broadcastInDim S1024x3840 ![] bcast_S_S1024x3840 main_cst_0
  let main_v6 : IVec S1024x3840 1 := cmpf .olt main_v4 main_v5
  let main_c_1 : IVec S_ 1 := constantI S_ 1 1#1
  let main_v7 : IVec S_ 1 := (fun x v => Host.reduce IntOp.andi x v reducesTo_S1024x3840_S_d0_1 h_S_) main_v6 main_c_1
  let main_v8 : IVec S_ 1 := andi main_v3 main_v7
  main_v8
-- ==== MixKernel.lean ====
abbrev S8 : Shape := ⟨1, ![8]⟩
abbrev S33792x512 : Shape := ⟨2, ![33792, 512]⟩
abbrev S33792x128 : Shape := ⟨2, ![33792, 128]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S32768x512 : Shape := ⟨2, ![32768, 512]⟩
abbrev S512x512 : Shape := ⟨2, ![512, 512]⟩
abbrev S512x128 : Shape := ⟨2, ![512, 128]⟩
abbrev S128x128 : Shape := ⟨2, ![128, 128]⟩
abbrev S128x256 : Shape := ⟨2, ![128, 256]⟩
abbrev S256x128 : Shape := ⟨2, ![256, 128]⟩
abbrev S128x64 : Shape := ⟨2, ![128, 64]⟩
abbrev S512x64 : Shape := ⟨2, ![512, 64]⟩
abbrev S256x64 : Shape := ⟨2, ![256, 64]⟩
abbrev S512x256 : Shape := ⟨2, ![512, 256]⟩
abbrev S1 : Shape := ⟨1, ![1]⟩
abbrev S128 : Shape := ⟨1, ![128]⟩
abbrev S128x1 : Shape := ⟨2, ![128, 1]⟩
abbrev S1x128x128 : Shape := ⟨3, ![1, 128, 128]⟩

abbrev nBuf : Space → Nat
  | .hbm => 13
  | .vmem => 20
  | .smem => 1
  | _ => 0

abbrev bufTy : (tb : Table) → Fin (tcTables nBuf tb) → BufTy
  | .hbm, ⟨0, _⟩ => ⟨S8, .f32⟩
  | .hbm, ⟨1, _⟩ => ⟨S33792x512, .bf16⟩
  | .hbm, ⟨2, _⟩ => ⟨S33792x128, .f32⟩
  | .hbm, ⟨3, _⟩ => ⟨S33792x128, .f32⟩
  | .hbm, ⟨4, _⟩ => ⟨S33792x512, .f32⟩
  | .hbm, ⟨5, _⟩ => ⟨S33792x512, .bf16⟩
  | .hbm, ⟨6, _⟩ => ⟨S4x128x128, .f32⟩
  | .hbm, ⟨7, _⟩ => ⟨S4x128, .f32⟩
  | .hbm, ⟨8, _⟩ => ⟨S128x4, .f32⟩
  | .hbm, ⟨9, _⟩ => ⟨S128x4x128, .f32⟩
  | .hbm, ⟨10, _⟩ => ⟨S128x512, .f32⟩
  | .hbm, ⟨11, _⟩ => ⟨S32768x512, .bf16⟩
  | .hbm, ⟨12, _⟩ => ⟨S32768x512, .bf16⟩
  | .local _ .vmem, ⟨0, _⟩ => ⟨S512x512, .bf16⟩
  | .local _ .vmem, ⟨1, _⟩ => ⟨S512x512, .bf16⟩
  | .local _ .vmem, ⟨2, _⟩ => ⟨S512x128, .f32⟩
  | .local _ .vmem, ⟨3, _⟩ => ⟨S512x128, .f32⟩
  | .local _ .vmem, ⟨4, _⟩ => ⟨S128x128, .f32⟩
  | .local _ .vmem, ⟨5, _⟩ => ⟨S128x128, .f32⟩
  | .local _ .vmem, ⟨6, _⟩ => ⟨S512x128, .f32⟩
  | .local _ .vmem, ⟨7, _⟩ => ⟨S512x128, .f32⟩
  | .local _ .vmem, ⟨8, _⟩ => ⟨S128x128, .f32⟩
  | .local _ .vmem, ⟨9, _⟩ => ⟨S128x128, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S4x128x128, .f32⟩
  | .local _ .vmem, ⟨15, _⟩ => ⟨S128x512, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MixKernelIdeal.lean ====
variable {F : FTy → Type} [FloatOps F] [Named F]
def κ : String → Option EReal := fun
  | "mask" => some ⊥
  | _ => none
-- ==== MixReferenceIdeal.lean ====
abbrev S8 : Shape := ⟨1, ![8]⟩
abbrev S33792x512 : Shape := ⟨2, ![33792, 512]⟩
abbrev S33792x128 : Shape := ⟨2, ![33792, 128]⟩
abbrev S4x128x128 : Shape := ⟨3, ![4, 128, 128]⟩
abbrev S4x128 : Shape := ⟨2, ![4, 128]⟩
abbrev S32768x512 : Shape := ⟨2, ![32768, 512]⟩
abbrev S8x32x128x2x4x64 : Shape := ⟨6, ![8, 32, 128, 2, 4, 64]⟩
abbrev S32768x128 : Shape := ⟨2, ![32768, 128]⟩
abbrev S8x32x128x2x64 : Shape := ⟨5, ![8, 32, 128, 2, 64]⟩
abbrev S8x31x128x2x64 : Shape := ⟨5, ![8, 31, 128, 2, 64]⟩
abbrev S_ : Shape := ⟨0, ![]⟩
abbrev S8x32x256x2x64 : Shape := ⟨5, ![8, 32, 256, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S8x32x2x256x128x4 : Shape := ⟨6, ![8, 32, 2, 256, 128, 4]⟩
abbrev S8x32x2x4x128x256 : Shape := ⟨6, ![8, 32, 2, 4, 128, 256]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x1x2x4x128x256 : Shape := ⟨6, ![1, 1, 2, 4, 128, 256]⟩
abbrev S8x32x2x4x128x1 : Shape := ⟨6, ![8, 32, 2, 4, 128, 1]⟩
abbrev S8x32x2x4x128x257 : Shape := ⟨6, ![8, 32, 2, 4, 128, 257]⟩
abbrev S8x32x2x4x128 : Shape := ⟨5, ![8, 32, 2, 4, 128]⟩
abbrev S8x32x2x64x4x128 : Shape := ⟨6, ![8, 32, 2, 64, 4, 128]⟩
abbrev S8x32x128x4x128 : Shape := ⟨5, ![8, 32, 128, 4, 128]⟩
abbrev S128x128 : Shape := ⟨2, ![128, 128]⟩
abbrev S1x128x128 : Shape := ⟨3, ![1, 128, 128]⟩
abbrev S4x8x32x128x128 : Shape := ⟨5, ![4, 8, 32, 128, 128]⟩
abbrev S128x4 : Shape := ⟨2, ![128, 4]⟩
abbrev S128x4x1 : Shape := ⟨3, ![128, 4, 1]⟩
abbrev S1x1x128x4x1 : Shape := ⟨5, ![1, 1, 128, 4, 1]⟩

abbrev nBuf : Space → Nat
  | .hbm => 126
  | .vmem => 0
  | .smem => 0
  | _ => 0

abbrev bufTy : (tb : Table) → Fin (tcTables nBuf tb) → BufTy
  | .hbm, ⟨0, _⟩ => ⟨S8, .f32⟩
  | .hbm, ⟨1, _⟩ => ⟨S33792x512, .bf16⟩
  | .hbm, ⟨2, _⟩ => ⟨S33792x128, .f32⟩
  | .hbm, ⟨3, _⟩ => ⟨S33792x128, .f32⟩
  | .hbm, ⟨4, _⟩ => ⟨S33792x512, .f32⟩
  | .hbm, ⟨5, _⟩ => ⟨S33792x512, .bf16⟩
  | .hbm, ⟨6, _⟩ => ⟨S4x128x128, .f32⟩
  | .hbm, ⟨7, _⟩ => ⟨S4x128, .f32⟩
  | .hbm, ⟨8, _⟩ => ⟨S8, .f32⟩
  | .hbm, ⟨9, _⟩ => ⟨S32768x512, .bf16⟩
  | .hbm, ⟨10, _⟩ => ⟨S32768x512, .f32⟩
  | .hbm, ⟨11, _⟩ => ⟨S8x32x128x2x4x64, .f32⟩
  | .hbm, ⟨12, _⟩ => ⟨S32768x128, .f32⟩
  | .hbm, ⟨13, _⟩ => ⟨S8x32x128x2x64, .f32⟩
  | .hbm, ⟨14, _⟩ => ⟨S32768x128, .f32⟩
  | .hbm, ⟨15, _⟩ => ⟨S8x32x128x2x64, .f32⟩
  | .hbm, ⟨16, _⟩ => ⟨S8x31x128x2x64, .f32⟩
  | .hbm, ⟨17, _⟩ => ⟨S_, .i32⟩
  | .hbm, ⟨18, _⟩ => ⟨S_, .f32⟩
  | .hbm, ⟨19, _⟩ => ⟨S8x32x128x2x64, .f32⟩
  | .hbm, ⟨20, _⟩ => ⟨S8x32x256x2x64, .f32⟩
  | .hbm, ⟨21, _⟩ => ⟨S8x31x128x2x64, .f32⟩
  | .hbm, ⟨22, _⟩ => ⟨S_, .i32⟩
  | .hbm, ⟨23, _⟩ => ⟨S_, .f32⟩
  | .hbm, ⟨24, _⟩ => ⟨S8x32x128x2x64, .f32⟩
  | .hbm, ⟨25, _⟩ => ⟨S8x32x256x2x64, .f32⟩
  | .hbm, ⟨26, _⟩ => ⟨S128, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S128x256, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i32⟩
  | .hbm, ⟨36, _⟩ => ⟨S32, .i32⟩
  | .hbm, ⟨37, _⟩ => ⟨S_, .i32⟩
  | .hbm, ⟨38, _⟩ => ⟨S32, .i32⟩
  | .hbm, ⟨39, _⟩ => ⟨S32, .i1⟩
  | .hbm, ⟨40, _⟩ => ⟨S32x1x1, .i1⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S128x256, .i1⟩
  | .hbm, ⟨48, _⟩ => ⟨S_, .i32⟩
  | .hbm, ⟨49, _⟩ => ⟨S1x256, .i32⟩
  | .hbm, ⟨50, _⟩ => ⟨S1x256, .i1⟩
  | .hbm, ⟨51, _⟩ => ⟨S1x1x256, .i1⟩
  | .hbm, ⟨52, _⟩ => ⟨S32x1x256, .i1⟩
  | .hbm, ⟨53, _⟩ => ⟨S32x1x256, .i1⟩
  | .hbm, ⟨54, _⟩ => ⟨S32x1x256, .i1⟩
  | .hbm, ⟨55, _⟩ => ⟨S1x128x256, .i1⟩
  | .hbm, ⟨56, _⟩ => ⟨S32x128x256, .i1⟩
  | .hbm, ⟨57, _⟩ => ⟨S32x128x256, .i1⟩
  | .hbm, ⟨58, _⟩ => ⟨S32x128x256, .i1⟩
  | .hbm, ⟨59, _⟩ => ⟨S32x1x1x128x256, .i1⟩
  | .hbm, ⟨60, _⟩ => ⟨S8x32x2x256x128x4, .f32⟩
  | .hbm, ⟨61, _⟩ => ⟨S8x32x2x4x128x256, .f32⟩
  | .hbm, ⟨62, _⟩ => ⟨S2x4x1x1, .f32⟩
  | .hbm, ⟨63, _⟩ => ⟨S128x256, .f32⟩
  | .hbm, ⟨64, _⟩ => ⟨S1x1x128x256, .f32⟩
  | .hbm, ⟨65, _⟩ => ⟨S2x4x128x256, .f32⟩
  | .hbm, ⟨66, _⟩ => ⟨S2x4x128x256, .f32⟩
  | .hbm, ⟨67, _⟩ => ⟨S2x4x128x256, .f32⟩
  | .hbm, ⟨68, _⟩ => ⟨S1x1x2x4x128x256, .f32⟩
  | .hbm, ⟨69, _⟩ => ⟨S8x32x2x4x128x256, .f32⟩
  | .hbm, ⟨70, _⟩ => ⟨S8x32x2x4x128x256, .f32⟩
  | .hbm, ⟨71, _⟩ => ⟨S_, .f32⟩
  | .hbm, ⟨72, _⟩ => ⟨S_, .f32⟩
  | .hbm, ⟨73, _⟩ => ⟨S8x32x2x4x128x256, .i1⟩
  | .hbm, ⟨74, _⟩ => ⟨S8x32x2x4x128x256, .f32⟩
  | .hbm, ⟨75, _⟩ => ⟨S8x32x2x4x128x256, .f32⟩
  | .hbm, ⟨76, _⟩ => ⟨S2x4x1x1, .f32⟩
  | .hbm, ⟨77, _⟩ => ⟨S8x32x2x4x128x1, .f32⟩
  | .hbm, ⟨78, _⟩ => ⟨S8x32x2x4x128x257, .f32⟩
  | .hbm, ⟨79, _⟩ => ⟨S_, .f32⟩
  | .hbm, ⟨80, _⟩ => ⟨S8x32x2x4x128, .f32⟩
  | .hbm, ⟨81, _⟩ => ⟨S_, .f32⟩
  | .hbm, ⟨82, _⟩ => ⟨S8x32x2x4x128, .f32⟩
  | .hbm, ⟨83, _⟩ => ⟨S8x32x2x4x128, .f32⟩
  | .hbm, ⟨84, _⟩ => ⟨S8x32x2x4x128x1, .f32⟩
  | .hbm, ⟨85, _⟩ => ⟨S8x32x2x4x128x257, .f32⟩
  | .hbm, ⟨86, _⟩ => ⟨S8x32x2x4x128x257, .f32⟩
  | .hbm, ⟨87, _⟩ => ⟨S8x32x2x4x128x257, .f32⟩
  | .hbm, ⟨88, _⟩ => ⟨S_, .f32⟩
  | .hbm, ⟨89, _⟩ => ⟨S8x32x2x4x128, .f32⟩
  | .hbm, ⟨90, _⟩ => ⟨S8x32x2x4x128x1, .f32⟩
  | .hbm, ⟨91, _⟩ => ⟨S8x32x2x4x128x257, .f32⟩
  | .hbm, ⟨92, _⟩ => ⟨S8x32x2x4x128x257, .f32⟩
  | .hbm, ⟨93, _⟩ => ⟨S8x32x2x4x128x256, .f32⟩
  | .hbm, ⟨94, _⟩ => ⟨S8x32x2x64x4x128, .f32⟩
  | .hbm, ⟨95, _⟩ => ⟨S8x32x128x2x4x64, .f32⟩
  | .hbm, ⟨96, _⟩ => ⟨S32768x512, .f32⟩
  | .hbm, ⟨97, _⟩ => ⟨S32768x512, .bf16⟩
  | .hbm, ⟨98, _⟩ => ⟨S32768x512, .f32⟩
  | .hbm, ⟨99, _⟩ => ⟨S8x32x128x4x128, .f32⟩
  | .hbm, ⟨100, _⟩ => ⟨S_, .f32⟩
  | .hbm, ⟨101, _⟩ => ⟨S128x128, .f32⟩
  | .hbm, ⟨102, _⟩ => ⟨S128x128, .i32⟩
  | .hbm, ⟨103, _⟩ => ⟨S_, .i32⟩
  | .hbm, ⟨104, _⟩ => ⟨S128x128, .i32⟩
  | .hbm, ⟨105, _⟩ => ⟨S128x128, .i32⟩
  | .hbm, ⟨106, _⟩ => ⟨S128x128, .i32⟩
  | .hbm, ⟨107, _⟩ => ⟨S128x128, .i1⟩
  | .hbm, ⟨108, _⟩ => ⟨S_, .f32⟩
  | .hbm, ⟨109, _⟩ => ⟨S128x128, .f32⟩
  | .hbm, ⟨110, _⟩ => ⟨S128x128, .f32⟩
  | .hbm, ⟨111, _⟩ => ⟨S1x128x128, .f32⟩
  | .hbm, ⟨112, _⟩ => ⟨S4x128x128, .f32⟩
  | .hbm, ⟨113, _⟩ => ⟨S4x128x128, .f32⟩
  | .hbm, ⟨114, _⟩ => ⟨S4x8x32x128x128, .f32⟩
  | .hbm, ⟨115, _⟩ => ⟨S8x32x128x4x128, .f32⟩
  | .hbm, ⟨116, _⟩ => ⟨S128x4, .f32⟩
  | .hbm, ⟨117, _⟩ => ⟨S128x4x1, .f32⟩
  | .hbm, ⟨118, _⟩ => ⟨S1x1x128x4x1, .f32⟩
  | .hbm, ⟨119, _⟩ => ⟨S8x32x128x4x128, .f32⟩
  | .hbm, ⟨120, _⟩ => ⟨S8x32x128x4x128, .f32⟩
  | .hbm, ⟨121, _⟩ => ⟨S32768x512, .f32⟩
  | .hbm, ⟨122, _⟩ => ⟨S32768x512, .bf16⟩
  | .hbm, ⟨123, _⟩ => ⟨S32768x512, .f32⟩
  | .hbm, ⟨124, _⟩ => ⟨S32768x512, .f32⟩
  | .hbm, ⟨125, _⟩ => ⟨S32768x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_6 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_7 : Ref sig .tc := ⟨.hbm, 79, rfl⟩
abbrev main_v57 : Ref sig .tc := ⟨.hbm, 80, rfl⟩
abbrev main_cst_8 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_9 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_10 : Ref sig .tc := ⟨.hbm, 100, rfl⟩
abbrev main_v75 : Ref sig .tc := ⟨.hbm, 101, rfl⟩
abbrev main_call3_v0 : Ref sig .tc := ⟨.hbm, 102, rfl⟩
abbrev main_call3_c : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_cst : Ref sig .tc := ⟨.hbm, 108, rfl⟩
abbrev main_call3_v5 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩

abbrev nD : Nat := 1
abbrev τ : Topo := Topo.v7x

variable {F : FTy → Type} [FloatOps F]
-- ==== ProjKernel.lean ====
abbrev S8x4096x1024 : Shape := ⟨3, ![8, 4096, 1024]⟩
abbrev S128x8x1024 : Shape := ⟨3, ![128, 8, 1024]⟩
abbrev S1024 : Shape := ⟨1, ![1024]⟩
abbrev S1024x3840 : Shape := ⟨2, ![1024, 3840]⟩
abbrev S64 : Shape := ⟨1, ![64]⟩
abbrev S512 : Shape := ⟨1, ![512]⟩
abbrev S32768x1024 : Shape := ⟨2, ![32768, 1024]⟩
abbrev S1024x1024 : Shape := ⟨2, ![1024, 1024]⟩
abbrev S1x1024 : Shape := ⟨2, ![1, 1024]⟩
abbrev S1x64 : Shape := ⟨2, ![1, 64]⟩
abbrev S8x64 : Shape := ⟨2, ![8, 64]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S_ : Shape := ⟨0, ![]⟩
abbrev S512x1 : Shape := ⟨2, ![512, 1]⟩
abbrev S512x512 : Shape := ⟨2, ![512, 512]⟩
abbrev S128x128 : Shape := ⟨2, ![128, 128]⟩
abbrev S33792x512 : Shape := ⟨2, ![33792, 512]⟩
abbrev S33792x128 : Shape := ⟨2, ![33792, 128]⟩
abbrev S33792x1024 : Shape := ⟨2, ![33792, 1024]⟩
abbrev S512x1024 : Shape := ⟨2, ![512, 1024]⟩
abbrev S512x128 : Shape := ⟨2, ![512, 128]⟩
abbrev S512x3840 : Shape := ⟨2, ![512, 3840]⟩
abbrev S1x128x128 : Shape := ⟨3, ![1, 128, 128]⟩
abbrev S8x128x128 : Shape := ⟨3, ![8, 128, 128]⟩
abbrev S8x128x2x64 : Shape := ⟨4, ![8, 128, 2, 64]⟩
abbrev S1024x128 : Shape := ⟨2, ![1024, 128]⟩
abbrev S128x8x128 : Shape := ⟨3, ![128, 8, 128]⟩
abbrev S128x8x2x64 : Shape := ⟨4, ![128, 8, 2, 64]⟩
abbrev S128x512 : Shape := ⟨2, ![128, 512]⟩
abbrev S1x128x512 : Shape := ⟨3, ![1, 128, 512]⟩
abbrev S8x128x512 : Shape := ⟨3, ![8, 128, 512]⟩
abbrev S1024x512 : Shape := ⟨2, ![1024, 512]⟩
abbrev S128x8x512 : Shape := ⟨3, ![128, 8, 512]⟩

abbrev nBuf : Space → Nat
  | .hbm => 116
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S128x8x1024, .f32⟩
  | .hbm, ⟨2, _⟩ => ⟨S1024, .f32⟩
  | .hbm, ⟨3, _⟩ => ⟨S1024x3840, .f32⟩
  | .hbm, ⟨4, _⟩ => ⟨S64, .f32⟩
  | .hbm, ⟨5, _⟩ => ⟨S64, .f32⟩
  | .hbm, ⟨6, _⟩ => ⟨S512, .f32⟩
  | .hbm, ⟨7, _⟩ => ⟨S512, .f32⟩
  | .hbm, ⟨8, _⟩ => ⟨S32768x1024, .f32⟩
  | .hbm, ⟨9, _⟩ => ⟨S1024x1024, .f32⟩
  | .hbm, ⟨10, _⟩ => ⟨S1x1024, .f32⟩
  | .hbm, ⟨11, _⟩ => ⟨S1024x3840, .bf16⟩
  | .hbm, ⟨12, _⟩ => ⟨S1x64, .f32⟩
  | .hbm, ⟨13, _⟩ => ⟨S8x64, .f32⟩
  | .hbm, ⟨14, _⟩ => ⟨S512, .f32⟩
  | .hbm, ⟨15, _⟩ => ⟨S1x512, .f32⟩
  | .hbm, ⟨16, _⟩ => ⟨S1x64, .f32⟩
  | .hbm, ⟨17, _⟩ => ⟨S2x64, .f32⟩
  | .hbm, ⟨18, _⟩ => ⟨S128, .f32⟩
  | .hbm, ⟨19, _⟩ => ⟨S1x128, .f32⟩
  | .hbm, ⟨20, _⟩ => ⟨S1x512, .f32⟩
  | .hbm, ⟨21, _⟩ => ⟨S1x512, .f32⟩
  | .hbm, ⟨22, _⟩ => ⟨S512, .i32⟩
  | .hbm, ⟨23, _⟩ => ⟨S_, .i32⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i1⟩
  | .hbm, ⟨37, _⟩ => ⟨S_, .i32⟩
  | .hbm, ⟨38, _⟩ => ⟨S512, .i32⟩
  | .hbm, ⟨39, _⟩ => ⟨S512, .i32⟩
  | .hbm, ⟨40, _⟩ => ⟨S512, .i32⟩
  | .hbm, ⟨41, _⟩ => ⟨S512x1, .i32⟩
  | .hbm, ⟨42, _⟩ => ⟨S1x512, .i32⟩
  | .hbm, ⟨43, _⟩ => ⟨S512x512, .i32⟩
  | .hbm, ⟨44, _⟩ => ⟨S512x512, .i32⟩
  | .hbm, ⟨45, _⟩ => ⟨S512x512, .i1⟩
  | .hbm, ⟨46, _⟩ => ⟨S512x512, .bf16⟩
  | .hbm, ⟨47, _⟩ => ⟨S128x128, .bf16⟩
  | .hbm, ⟨48, _⟩ => ⟨S33792x512, .bf16⟩
  | .hbm, ⟨49, _⟩ => ⟨S33792x128, .f32⟩
  | .hbm, ⟨50, _⟩ => ⟨S33792x128, .f32⟩
  | .hbm, ⟨51, _⟩ => ⟨S33792x512, .bf16⟩
  | .hbm, ⟨52, _⟩ => ⟨S33792x512, .f32⟩
  | .hbm, ⟨53, _⟩ => ⟨S33792x1024, .bf16⟩
  | .hbm, ⟨54, _⟩ => ⟨S33792x1024, .bf16⟩
  | .hbm, ⟨55, _⟩ => ⟨S128x128, .f32⟩
  | .hbm, ⟨56, _⟩ => ⟨S128x128, .f32⟩
  | .hbm, ⟨57, _⟩ => ⟨S128x128, .f32⟩
  | .hbm, ⟨58, _⟩ => ⟨S128x128, .f32⟩
  | .hbm, ⟨59, _⟩ => ⟨S128x128, .f32⟩
  | .hbm, ⟨60, _⟩ => ⟨S128x128, .f32⟩
  | .hbm, ⟨61, _⟩ => ⟨S128x128, .f32⟩
  | .hbm, ⟨62, _⟩ => ⟨S128x128, .f32⟩
  | .hbm, ⟨63, _⟩ => ⟨S1x128x128, .f32⟩
  | .hbm, ⟨64, _⟩ => ⟨S1x128x128, .f32⟩
  | .hbm, ⟨65, _⟩ => ⟨S1x128x128, .f32⟩
  | .hbm, ⟨66, _⟩ => ⟨S1x128x128, .f32⟩
  | .hbm, ⟨67, _⟩ => ⟨S1x128x128, .f32⟩
  | .hbm, ⟨68, _⟩ => ⟨S1x128x128, .f32⟩
  | .hbm, ⟨69, _⟩ => ⟨S1x128x128, .f32⟩
  | .hbm, ⟨70, _⟩ => ⟨S1x128x128, .f32⟩
  | .hbm, ⟨71, _⟩ => ⟨S8x128x128, .f32⟩
  | .hbm, ⟨72, _⟩ => ⟨S8x128x2x64, .f32⟩
  | .hbm, ⟨73, _⟩ => ⟨S128x128, .f32⟩
  | .hbm, ⟨74, _⟩ => ⟨S128x128, .f32⟩
  | .hbm, ⟨75, _⟩ => ⟨S128x128, .f32⟩
  | .hbm, ⟨76, _⟩ => ⟨S128x128, .f32⟩
  | .hbm, ⟨77, _⟩ => ⟨S128x128, .f32⟩
  | .hbm, ⟨78, _⟩ => ⟨S128x128, .f32⟩
  | .hbm, ⟨79, _⟩ => ⟨S128x128, .f32⟩
  | .hbm, ⟨80, _⟩ => ⟨S128x128, .f32⟩
  | .hbm, ⟨81, _⟩ => ⟨S1x128x128, .f32⟩
  | .hbm, ⟨82, _⟩ => ⟨S1x128x128, .f32⟩
  | .hbm, ⟨83, _⟩ => ⟨S1x128x128, .f32⟩
  | .hbm, ⟨84, _⟩ => ⟨S1x128x128, .f32⟩
  | .hbm, ⟨85, _⟩ => ⟨S1x128x128, .f32⟩
  | .hbm, ⟨86, _⟩ => ⟨S1x128x128, .f32⟩
  | .hbm, ⟨87, _⟩ => ⟨S1x128x128, .f32⟩
  | .hbm, ⟨88, _⟩ => ⟨S1x128x128, .f32⟩
  | .hbm, ⟨89, _⟩ => ⟨S8x128x128, .f32⟩
  | .hbm, ⟨90, _⟩ => ⟨S8x128x2x64, .f32⟩
  | .hbm, ⟨91, _⟩ => ⟨S1024x128, .f32⟩
  | .hbm, ⟨92, _⟩ => ⟨S128x8x128, .f32⟩
  | .hbm, ⟨93, _⟩ => ⟨S128x8x2x64, .f32⟩
  | .hbm, ⟨94, _⟩ => ⟨S1024x128, .f32⟩
  | .hbm, ⟨95, _⟩ => ⟨S128x8x128, .f32⟩
  | .hbm, ⟨96, _⟩ => ⟨S128x8x2x64, .f32⟩
  | .hbm, ⟨97, _⟩ => ⟨S128x512, .f32⟩
  | .hbm, ⟨98, _⟩ => ⟨S128x512, .f32⟩
  | .hbm, ⟨99, _⟩ => ⟨S128x512, .f32⟩
  | .hbm, ⟨100, _⟩ => ⟨S128x512, .f32⟩
  | .hbm, ⟨101, _⟩ => ⟨S128x512, .f32⟩
  | .hbm, ⟨102, _⟩ => ⟨S128x512, .f32⟩
  | .hbm, ⟨103, _⟩ => ⟨S128x512, .f32⟩
  | .hbm, ⟨104, _⟩ => ⟨S128x512, .f32⟩
  | .hbm, ⟨105, _⟩ => ⟨S1x128x512, .f32⟩
  | .hbm, ⟨106, _⟩ => ⟨S1x128x512, .f32⟩
  | .hbm, ⟨107, _⟩ => ⟨S1x128x512, .f32⟩
  | .hbm, ⟨108, _⟩ => ⟨S1x128x512, .f32⟩
  | .hbm, ⟨109, _⟩ => ⟨S1x128x512, .f32⟩
  | .hbm, ⟨110, _⟩ => ⟨S1x128x512, .f32⟩
  | .hbm, ⟨111, _⟩ => ⟨S1x128x512, .f32⟩
  | .hbm, ⟨112, _⟩ => ⟨S1x128x512, .f32⟩
  | .hbm, ⟨113, _⟩ => ⟨S8x128x512, .f32⟩
  | .hbm, ⟨114, _⟩ => ⟨S1024x512, .f32⟩
  | .hbm, ⟨115, _⟩ => ⟨S128x8x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x3840, .bf16⟩
  | .local _ .vmem, ⟨6, _⟩ => ⟨S1x512, .f32⟩
  | .local _ .vmem, ⟨7, _⟩ => ⟨S1x128, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S128x128, .bf16⟩
  | .local _ .vmem, ⟨12, _⟩ => ⟨S512x512, .bf16⟩
  | .local _ .vmem, ⟨13, _⟩ => ⟨S512x512, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x512, .bf16⟩
  | .local _ .vmem, ⟨19, _⟩ => ⟨S512x512, .bf16⟩
  | .local _ .vmem, ⟨20, _⟩ => ⟨S512x512, .f32⟩
  | .local _ .vmem, ⟨21, _⟩ => ⟨S512x512, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23_0 : Ref sig .tc := ⟨.hbm, 48, rfl⟩
abbrev main_v23_1 : Ref sig .tc := ⟨.hbm, 49, rfl⟩
abbrev main_v23_2 : Ref sig .tc := ⟨.hbm, 50, rfl⟩
abbrev main_v23_3 : Ref sig .tc := ⟨.hbm, 51, rfl⟩
abbrev main_v23_4 : Ref sig .tc := ⟨.hbm, 52, rfl⟩
abbrev main_v23_5 : Ref sig .tc := ⟨.hbm, 53, rfl⟩
abbrev main_v23_6 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3840 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjReferenceIdeal.lean ====
abbrev S8x4096x1024 : Shape := ⟨3, ![8, 4096, 1024]⟩
abbrev S128x8x1024 : Shape := ⟨3, ![128, 8, 1024]⟩
abbrev S1024 : Shape := ⟨1, ![1024]⟩
abbrev S1024x3840 : Shape := ⟨2, ![1024, 3840]⟩
abbrev S64 : Shape := ⟨1, ![64]⟩
abbrev S512 : Shape := ⟨1, ![512]⟩
abbrev S32768x1024 : Shape := ⟨2, ![32768, 1024]⟩
abbrev S1024x1024 : Shape := ⟨2, ![1024, 1024]⟩
abbrev S33792x1024 : Shape := ⟨2, ![33792, 1024]⟩
abbrev S_ : Shape := ⟨0, ![]⟩
abbrev S33792 : Shape := ⟨1, ![33792]⟩
abbrev S33792x1 : Shape := ⟨2, ![33792, 1]⟩
abbrev S1x1024 : Shape := ⟨2, ![1, 1024]⟩
abbrev S33792x3840 : Shape := ⟨2, ![33792, 3840]⟩
abbrev S33792x512 : Shape := ⟨2, ![33792, 512]⟩
abbrev S33792x128 : Shape := ⟨2, ![33792, 128]⟩
abbrev S33792x8x64 : Shape := ⟨3, ![33792, 8, 64]⟩
abbrev S33792x8 : Shape := ⟨2, ![33792, 8]⟩
abbrev S33792x8x1 : Shape := ⟨3, ![33792, 8, 1]⟩
abbrev S1x1x64 : Shape := ⟨3, ![1, 1, 64]⟩
abbrev S33792x2x64 : Shape := ⟨3, ![33792, 2, 64]⟩
abbrev S33792x2 : Shape := ⟨2, ![33792, 2]⟩
abbrev S33792x2x1 : Shape := ⟨3, ![33792, 2, 1]⟩
abbrev S1x512 : Shape := ⟨2, ![1, 512]⟩
abbrev S32768x2x64 : Shape := ⟨3, ![32768, 2, 64]⟩
abbrev S8x4096x2x64 : Shape := ⟨4, ![8, 4096, 2, 64]⟩
abbrev S8x128x2x64 : Shape := ⟨4, ![8, 128, 2, 64]⟩
abbrev S1024x2x64 : Shape := ⟨3, ![1024, 2, 64]⟩
abbrev S128x8x2x64 : Shape := ⟨4, ![128, 8, 2, 64]⟩
abbrev S32768x512 : Shape := ⟨2, ![32768, 512]⟩
abbrev S8x4096x512 : Shape := ⟨3, ![8, 4096, 512]⟩
abbrev S8x128x512 : Shape := ⟨3, ![8, 128, 512]⟩
abbrev S1024x512 : Shape := ⟨2, ![1024, 512]⟩
abbrev S128x8x512 : Shape := ⟨3, ![128, 8, 512]⟩

abbrev nBuf : Space → Nat
  | .hbm => 172
  | .vmem => 0
  | .smem => 0
  | _ => 0

abbrev hbmTy0_0 (i : Nat) : BufTy := match i % 128 with
  | 0 => ⟨S8x4096x1024, .f32⟩
  | 1 => ⟨S128x8x1024, .f32⟩
  | 2 => ⟨S1024, .f32⟩
  | 3 => ⟨S1024x3840, .f32⟩
  | 4 => ⟨S64, .f32⟩
  | 5 => ⟨S64, .f32⟩
  | 6 => ⟨S512, .f32⟩
  | 7 => ⟨S512, .f32⟩
  | 8 => ⟨S32768x1024, .f32⟩
  | 9 => ⟨S1024x1024, .f32⟩
  | 10 => ⟨S33792x1024, .f32⟩
  | 11 => ⟨S33792x1024, .f32⟩
  | 12 => ⟨S_, .f32⟩
  | 13 => ⟨S33792, .f32⟩
  | 14 => ⟨S33792x1, .f32⟩
  | 15 => ⟨S_, .f32⟩
  | 16 => ⟨S33792x1, .f32⟩
  | 17 => ⟨S33792x1, .f32⟩
  | 18 => ⟨S_, .f32⟩
  | 19 => ⟨S33792x1, .f32⟩
  | 20 => ⟨S33792x1, .f32⟩
  | 21 => ⟨S33792x1, .f32⟩
  | 22 => ⟨S33792x1024, .f32⟩
  | 23 => ⟨S33792x1024, .f32⟩
  | 24 => ⟨S1x1024, .f32⟩
  | 25 => ⟨S33792x1024, .f32⟩
  | 26 => ⟨S33792x1024, .f32⟩
  | 27 => ⟨S33792x3840, .f32⟩
  | 28 => ⟨S33792x512, .f32⟩
  | 29 => ⟨S33792x128, .f32⟩
  | 30 => ⟨S33792x128, .f32⟩
  | 31 => ⟨S33792x512, .f32⟩
  | 32 => ⟨S33792x512, .f32⟩
  | 33 => ⟨S33792x1024, .f32⟩
  | 34 => ⟨S33792x1024, .f32⟩
  | 35 => ⟨S33792x8x64, .f32⟩
  | 36 => ⟨S33792x8x64, .f32⟩
  | 37 => ⟨S_, .f32⟩
  | 38 => ⟨S33792x8, .f32⟩
  | 39 => ⟨S33792x8x1, .f32⟩
  | 40 => ⟨S_, .f32⟩
  | 41 => ⟨S33792x8x1, .f32⟩
  | 42 => ⟨S33792x8x1, .f32⟩
  | 43 => ⟨S_, .f32⟩
  | 44 => ⟨S33792x8x1, .f32⟩
  | 45 => ⟨S33792x8x1, .f32⟩
  | 46 => ⟨S33792x8x1, .f32⟩
  | 47 => ⟨S33792x8x64, .f32⟩
  | 48 => ⟨S33792x8x64, .f32⟩
  | 49 => ⟨S1x1x64, .f32⟩
  | 50 => ⟨S33792x8x64, .f32⟩
  | 51 => ⟨S33792x8x64, .f32⟩
  | 52 => ⟨S33792x512, .f32⟩
  | 53 => ⟨S_, .f32⟩
  | 54 => ⟨S33792x512, .f32⟩
  | 55 => ⟨S33792x512, .f32⟩
  | 56 => ⟨S33792x2x64, .f32⟩
  | 57 => ⟨S33792x2x64, .f32⟩
  | 58 => ⟨S_, .f32⟩
  | 59 => ⟨S33792x2, .f32⟩
  | 60 => ⟨S33792x2x1, .f32⟩
  | 61 => ⟨S_, .f32⟩
  | 62 => ⟨S33792x2x1, .f32⟩
  | 63 => ⟨S33792x2x1, .f32⟩
  | 64 => ⟨S_, .f32⟩
  | 65 => ⟨S33792x2x1, .f32⟩
  | 66 => ⟨S33792x2x1, .f32⟩
  | 67 => ⟨S33792x2x1, .f32⟩
  | 68 => ⟨S33792x2x64, .f32⟩
  | 69 => ⟨S33792x2x64, .f32⟩
  | 70 => ⟨S1x1x64, .f32⟩
  | 71 => ⟨S33792x2x64, .f32⟩
  | 72 => ⟨S33792x2x64, .f32⟩
  | 73 => ⟨S33792x2x64, .f32⟩
  | 74 => ⟨S33792x512, .f32⟩
  | 75 => ⟨S33792x512, .f32⟩
  | 76 => ⟨S_, .f32⟩
  | 77 => ⟨S33792x512, .f32⟩
  | 78 => ⟨S33792x512, .f32⟩
  | 79 => ⟨S33792x512, .f32⟩
  | 80 => ⟨S_, .f32⟩
  | 81 => ⟨S33792x512, .f32⟩
  | 82 => ⟨S33792x512, .f32⟩
  | 83 => ⟨S33792x512, .f32⟩
  | 84 => ⟨S_, .f32⟩
  | 85 => ⟨S33792x512, .f32⟩
  | 86 => ⟨S33792x512, .f32⟩
  | 87 => ⟨S_, .f32⟩
  | 88 => ⟨S33792x512, .f32⟩
  | 89 => ⟨S33792x512, .f32⟩
  | 90 => ⟨S33792x512, .f32⟩
  | 91 => ⟨S33792x512, .f32⟩
  | 92 => ⟨S33792x512, .f32⟩
  | 93 => ⟨S_, .f32⟩
  | 94 => ⟨S33792x512, .f32⟩
  | 95 => ⟨S33792x512, .f32⟩
  | 96 => ⟨S33792x512, .f32⟩
  | 97 => ⟨S_, .f32⟩
  | 98 => ⟨S33792x512, .f32⟩
  | 99 => ⟨S33792x512, .f32⟩
  | 100 => ⟨S33792x512, .f32⟩
  | 101 => ⟨S_, .f32⟩
  | 102 => ⟨S33792x512, .f32⟩
  | 103 => ⟨S33792x512, .f32⟩
  | 104 => ⟨S_, .f32⟩
  | 105 => ⟨S33792x512, .f32⟩
  | 106 => ⟨S33792x512, .f32⟩
  | 107 => ⟨S33792x512, .f32⟩
  | 108 => ⟨S_, .f32⟩
  | 109 => ⟨S33792, .f32⟩
  | 110 => ⟨S33792x1, .f32⟩
  | 111 => ⟨S_, .f32⟩
  | 112 => ⟨S33792x1, .f32⟩
  | 113 => ⟨S33792x1, .f32⟩
  | 114 => ⟨S33792x512, .f32⟩
  | 115 => ⟨S33792x512, .f32⟩
  | 116 => ⟨S33792x512, .f32⟩
  | 117 => ⟨S_, .f32⟩
  | 118 => ⟨S33792, .f32⟩
  | 119 => ⟨S33792x1, .f32⟩
  | 120 => ⟨S_, .f32⟩
  | 121 => ⟨S33792x1, .f32⟩
  | 122 => ⟨S33792x1, .f32⟩
  | 123 => ⟨S_, .f32⟩
  | 124 => ⟨S33792x1, .f32⟩
  | 125 => ⟨S33792x1, .f32⟩
  | 126 => ⟨S33792x1, .f32⟩
  | 127 => ⟨S33792x512, .f32⟩
  | _ => ⟨S8x4096x1024, .f32⟩

abbrev hbmTy0_1 (i : Nat) : BufTy := match i % 128 with
  | 0 => ⟨S33792x512, .f32⟩
  | 1 => ⟨S1x512, .f32⟩
  | 2 => ⟨S33792x512, .f32⟩
  | 3 => ⟨S33792x512, .f32⟩
  | 4 => ⟨S1x512, .f32⟩
  | 5 => ⟨S33792x512, .f32⟩
  | 6 => ⟨S33792x512, .f32⟩
  | 7 => ⟨S33792x512, .bf16⟩
  | 8 => ⟨S33792x128, .f32⟩
  | 9 => ⟨S33792x128, .f32⟩
  | 10 => ⟨S33792x512, .bf16⟩
  | 11 => ⟨S33792x1024, .f32⟩
  | 12 => ⟨S33792x1024, .f32⟩
  | 13 => ⟨S_, .f32⟩
  | 14 => ⟨S33792x1024, .f32⟩
  | 15 => ⟨S33792x1024, .f32⟩
  | 16 => ⟨S_, .f32⟩
  | 17 => ⟨S33792x1024, .f32⟩
  | 18 => ⟨S33792x1024, .f32⟩
  | 19 => ⟨S33792x1024, .bf16⟩
  | 20 => ⟨S33792x1024, .f32⟩
  | 21 => ⟨S33792x1024, .f32⟩
  | 22 => ⟨S_, .f32⟩
  | 23 => ⟨S33792x1024, .f32⟩
  | 24 => ⟨S33792x1024, .f32⟩
  | 25 => ⟨S_, .f32⟩
  | 26 => ⟨S33792x1024, .f32⟩
  | 27 => ⟨S33792x1024, .f32⟩
  | 28 => ⟨S33792x1024, .bf16⟩
  | 29 => ⟨S32768x2x64, .f32⟩
  | 30 => ⟨S8x4096x2x64, .f32⟩
  | 31 => ⟨S8x128x2x64, .f32⟩
  | 32 => ⟨S32768x2x64, .f32⟩
  | 33 => ⟨S8x4096x2x64, .f32⟩
  | 34 => ⟨S8x128x2x64, .f32⟩
  | 35 => ⟨S1024x2x64, .f32⟩
  | 36 => ⟨S128x8x2x64, .f32⟩
  | 37 => ⟨S1024x2x64, .f32⟩
  | 38 => ⟨S128x8x2x64, .f32⟩
  | 39 => ⟨S32768x512, .f32⟩
  | 40 => ⟨S8x4096x512, .f32⟩
  | 41 => ⟨S8x128x512, .f32⟩
  | 42 => ⟨S1024x512, .f32⟩
  | 43 => ⟨S128x8x512, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_13 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_14 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_15 : Ref sig .tc := ⟨.hbm, 101, rfl⟩
abbrev main_v77 : Ref sig .tc := ⟨.hbm, 102, rfl⟩
abbrev main_v78 : Ref sig .tc := ⟨.hbm, 103, rfl⟩
abbrev main_cst_16 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_17 : Ref sig .tc := ⟨.hbm, 108, rfl⟩
abbrev main_v82 : Ref sig .tc := ⟨.hbm, 109, rfl⟩
abbrev main_v83 : Ref sig .tc := ⟨.hbm, 110, rfl⟩
abbrev main_cst_18 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_19 : Ref sig .tc := ⟨.hbm, 117, rfl⟩
abbrev main_v89 : Ref sig .tc := ⟨.hbm, 118, rfl⟩
abbrev main_v90 : Ref sig .tc := ⟨.hbm, 119, rfl⟩
abbrev main_cst_20 : Ref sig .tc := ⟨.hbm, 120, rfl⟩
abbrev main_v91 : Ref sig .tc := ⟨.hbm, 121, rfl⟩
abbrev main_v92 : Ref sig .tc := ⟨.hbm, 122, rfl⟩
abbrev main_cst_21 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_22 : Ref sig .tc := ⟨.hbm, 141, rfl⟩
abbrev main_v110 : Ref sig .tc := ⟨.hbm, 142, rfl⟩
abbrev main_v111 : Ref sig .tc := ⟨.hbm, 143, rfl⟩
abbrev main_cst_23 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_24 : Ref sig .tc := ⟨.hbm, 150, rfl⟩
abbrev main_v117 : Ref sig .tc := ⟨.hbm, 151, rfl⟩
abbrev main_v118 : Ref sig .tc := ⟨.hbm, 152, rfl⟩
abbrev main_cst_25 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩

abbrev nD : Nat := 1
abbrev τ : Topo := Topo.v7x

variable {F : FTy → Type} [FloatOps F]
-- ==== SampleKernel.lean ====
abbrev S8 : Shape := ⟨1, ![8]⟩
abbrev S33792x512 : Shape := ⟨2, ![33792, 512]⟩
abbrev S33792x128 : Shape := ⟨2, ![33792, 128]⟩
abbrev S128x128x2x64 : Shape := ⟨4, ![128, 128, 2, 64]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S4x8x8 : Shape := ⟨3, ![4, 8, 8]⟩
abbrev S8x8x4 : Shape := ⟨3, ![8, 8, 4]⟩
abbrev S8x8x4x128 : Shape := ⟨4, ![8, 8, 4, 128]⟩
abbrev S8x8x512 : Shape := ⟨3, ![8, 8, 512]⟩
abbrev S128x128x128 : Shape := ⟨3, ![128, 128, 128]⟩
abbrev S8x512 : Shape := ⟨2, ![8, 512]⟩
abbrev S1024x512 : Shape := ⟨2, ![1024, 512]⟩
abbrev S128x128 : Shape := ⟨2, ![128, 128]⟩
abbrev S16x128x128 : Shape := ⟨3, ![16, 128, 128]⟩
abbrev S16x8x512 : Shape := ⟨3, ![16, 8, 512]⟩
abbrev S16x8x128 : Shape := ⟨3, ![16, 8, 128]⟩
abbrev S16x136x128 : Shape := ⟨3, ![16, 136, 128]⟩
abbrev S32x136 : Shape := ⟨2, ![32, 136]⟩
abbrev S32x1 : Shape := ⟨2, ![32, 1]⟩
abbrev S16x8x64 : Shape := ⟨3, ![16, 8, 64]⟩
abbrev S16x32x64 : Shape := ⟨3, ![16, 32, 64]⟩
abbrev S16x136x64 : Shape := ⟨3, ![16, 136, 64]⟩
abbrev S16x32x136 : Shape := ⟨3, ![16, 32, 136]⟩
abbrev S1 : Shape := ⟨1, ![1]⟩
abbrev S1x32x136 : Shape := ⟨3, ![1, 32, 136]⟩
abbrev S1x32x1 : Shape := ⟨3, ![1, 32, 1]⟩
abbrev S16x32 : Shape := ⟨2, ![16, 32]⟩
abbrev S16x32x1 : Shape := ⟨3, ![16, 32, 1]⟩
abbrev S128x64 : Shape := ⟨2, ![128, 64]⟩
abbrev S1x8x512 : Shape := ⟨3, ![1, 8, 512]⟩
abbrev S16x1x512 : Shape := ⟨3, ![16, 1, 512]⟩

abbrev nBuf : Space → Nat
  | .hbm => 22
  | .vmem => 20
  | .smem => 1
  | _ => 0

abbrev bufTy : (tb : Table) → Fin (tcTables nBuf tb) → BufTy
  | .hbm, ⟨0, _⟩ => ⟨S8, .f32⟩
  | .hbm, ⟨1, _⟩ => ⟨S33792x512, .bf16⟩
  | .hbm, ⟨2, _⟩ => ⟨S33792x128, .f32⟩
  | .hbm, ⟨3, _⟩ => ⟨S33792x128, .f32⟩
  | .hbm, ⟨4, _⟩ => ⟨S128x128x2x64, .f32⟩
  | .hbm, ⟨5, _⟩ => ⟨S128x128x2x64, .f32⟩
  | .hbm, ⟨6, _⟩ => ⟨S33792x512, .f32⟩
  | .hbm, ⟨7, _⟩ => ⟨S33792x512, .bf16⟩
  | .hbm, ⟨8, _⟩ => ⟨S4x128x128, .f32⟩
  | .hbm, ⟨9, _⟩ => ⟨S4x128, .f32⟩
  | .hbm, ⟨10, _⟩ => ⟨S128x4, .f32⟩
  | .hbm, ⟨11, _⟩ => ⟨S128x4x128, .f32⟩
  | .hbm, ⟨12, _⟩ => ⟨S128x512, .f32⟩
  | .hbm, ⟨13, _⟩ => ⟨S4x8x8, .f32⟩
  | .hbm, ⟨14, _⟩ => ⟨S8x8x4, .f32⟩
  | .hbm, ⟨15, _⟩ => ⟨S8x8x4x128, .f32⟩
  | .hbm, ⟨16, _⟩ => ⟨S8x8x512, .f32⟩
  | .hbm, ⟨17, _⟩ => ⟨S128x128x128, .f32⟩
  | .hbm, ⟨18, _⟩ => ⟨S128x128x128, .f32⟩
  | .hbm, ⟨19, _⟩ => ⟨S8x512, .f32⟩
  | .hbm, ⟨20, _⟩ => ⟨S1024x512, .bf16⟩
  | .hbm, ⟨21, _⟩ => ⟨S1024x512, .bf16⟩
  | .local _ .vmem, ⟨0, _⟩ => ⟨S128x512, .bf16⟩
  | .local _ .vmem, ⟨1, _⟩ => ⟨S128x512, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S16x128x128, .f32⟩
  | .local _ .vmem, ⟨7, _⟩ => ⟨S16x128x128, .f32⟩
  | .local _ .vmem, ⟨8, _⟩ => ⟨S16x128x128, .f32⟩
  | .local _ .vmem, ⟨9, _⟩ => ⟨S16x128x128, .f32⟩
  | .local _ .vmem, ⟨10, _⟩ => ⟨S128x512, .f32⟩
  | .local _ .vmem, ⟨11, _⟩ => ⟨S128x512, .f32⟩
  | .local _ .vmem, ⟨12, _⟩ => ⟨S128x512, .bf16⟩
  | .local _ .vmem, ⟨13, _⟩ => ⟨S128x512, .bf16⟩
  | .local _ .vmem, ⟨14, _⟩ => ⟨S8x8x512, .f32⟩
  | .local _ .vmem, ⟨15, _⟩ => ⟨S8x512, .f32⟩
  | .local _ .vmem, ⟨16, _⟩ => ⟨S128x512, .bf16⟩
  | .local _ .vmem, ⟨17, _⟩ => ⟨S128x512, .bf16⟩
  | .local _ .vmem, ⟨18, _⟩ => ⟨S128x512, .bf16⟩
  | .local _ .vmem, ⟨19, _⟩ => ⟨S128x512, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== SampleKernelIdeal.lean ====
variable {F : FTy → Type} [FloatOps F] [Named F]
def κ : String → Option EReal := fun
  | "mask" => some ⊥
  | _ => none
-- ==== SampleReferenceIdeal.lean ====
abbrev S8 : Shape := ⟨1, ![8]⟩
abbrev S33792x512 : Shape := ⟨2, ![33792, 512]⟩
abbrev S33792x128 : Shape := ⟨2, ![33792, 128]⟩
abbrev S128x128x2x64 : Shape := ⟨4, ![128, 128, 2, 64]⟩
abbrev S4x128x128 : Shape := ⟨3, ![4, 128, 128]⟩
abbrev S4x128 : Shape := ⟨2, ![4, 128]⟩
abbrev S1024x512 : Shape := ⟨2, ![1024, 512]⟩
abbrev S128x8x2x4x64 : Shape := ⟨5, ![128, 8, 2, 4, 64]⟩
abbrev S1024x128 : Shape := ⟨2, ![1024, 128]⟩
abbrev S128x8x2x64 : Shape := ⟨4, ![128, 8, 2, 64]⟩
abbrev S128x136x2x64 : Shape := ⟨4, ![128, 136, 2, 64]⟩
abbrev S128 : Shape := ⟨1, ![128]⟩
abbrev S_ : Shape := ⟨0, ![]⟩
abbrev S136 : Shape := ⟨1, ![136]⟩
abbrev S8x1 : Shape := ⟨2, ![8, 1]⟩
abbrev S1x136 : Shape := ⟨2, ![1, 136]⟩
abbrev S8x136 : Shape := ⟨2, ![8, 136]⟩
abbrev S128x2x136x8x4 : Shape := ⟨5, ![128, 2, 136, 8, 4]⟩
abbrev S128x2x4x8x136 : Shape := ⟨5, ![128, 2, 4, 8, 136]⟩
abbrev S2x4x1x1 : Shape := ⟨4, ![2, 4, 1, 1]⟩
abbrev S1x1x8x136 : Shape := ⟨4, ![1, 1, 8, 136]⟩
abbrev S2x4x8x136 : Shape := ⟨4, ![2, 4, 8, 136]⟩
abbrev S1x2x4x8x136 : Shape := ⟨5, ![1, 2, 4, 8, 136]⟩
abbrev S128x2x4x8x1 : Shape := ⟨5, ![128, 2, 4, 8, 1]⟩
abbrev S128x2x4x8x137 : Shape := ⟨5, ![128, 2, 4, 8, 137]⟩
abbrev S128x2x4x8 : Shape := ⟨4, ![128, 2, 4, 8]⟩
abbrev S128x2x64x4x8 : Shape := ⟨5, ![128, 2, 64, 4, 8]⟩
abbrev S128x8x4x128 : Shape := ⟨4, ![128, 8, 4, 128]⟩
abbrev S4x8x8 : Shape := ⟨3, ![4, 8, 8]⟩
abbrev S8x8 : Shape := ⟨2, ![8, 8]⟩
abbrev S1x8x8 : Shape := ⟨3, ![1, 8, 8]⟩
abbrev S4x128x128x8 : Shape := ⟨4, ![4, 128, 128, 8]⟩
abbrev S4x8 : Shape := ⟨2, ![4, 8]⟩
abbrev S8x4 : Shape := ⟨2, ![8, 4]⟩
abbrev S8x4x1 : Shape := ⟨3, ![8, 4, 1]⟩
abbrev S1x8x4x1 : Shape := ⟨4, ![1, 8, 4, 1]⟩

abbrev nBuf : Space → Nat
  | .hbm => 107
  | .vmem => 0
  | .smem => 0
  | _ => 0

abbrev bufTy : (tb : Table) → Fin (tcTables nBuf tb) → BufTy
  | .hbm, ⟨0, _⟩ => ⟨S8, .f32⟩
  | .hbm, ⟨1, _⟩ => ⟨S33792x512, .bf16⟩
  | .hbm, ⟨2, _⟩ => ⟨S33792x128, .f32⟩
  | .hbm, ⟨3, _⟩ => ⟨S33792x128, .f32⟩
  | .hbm, ⟨4, _⟩ => ⟨S128x128x2x64, .f32⟩
  | .hbm, ⟨5, _⟩ => ⟨S128x128x2x64, .f32⟩
  | .hbm, ⟨6, _⟩ => ⟨S33792x512, .f32⟩
  | .hbm, ⟨7, _⟩ => ⟨S33792x512, .bf16⟩
  | .hbm, ⟨8, _⟩ => ⟨S4x128x128, .f32⟩
  | .hbm, ⟨9, _⟩ => ⟨S4x128, .f32⟩
  | .hbm, ⟨10, _⟩ => ⟨S8, .f32⟩
  | .hbm, ⟨11, _⟩ => ⟨S1024x512, .bf16⟩
  | .hbm, ⟨12, _⟩ => ⟨S1024x512, .f32⟩
  | .hbm, ⟨13, _⟩ => ⟨S128x8x2x4x64, .f32⟩
  | .hbm, ⟨14, _⟩ => ⟨S1024x128, .f32⟩
  | .hbm, ⟨15, _⟩ => ⟨S128x8x2x64, .f32⟩
  | .hbm, ⟨16, _⟩ => ⟨S128x136x2x64, .f32⟩
  | .hbm, ⟨17, _⟩ => ⟨S1024x128, .f32⟩
  | .hbm, ⟨18, _⟩ => ⟨S128x8x2x64, .f32⟩
  | .hbm, ⟨19, _⟩ => ⟨S128x136x2x64, .f32⟩
  | .hbm, ⟨20, _⟩ => ⟨S128, .i32⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S8, .i32⟩
  | .hbm, ⟨25, _⟩ => ⟨S136, .i32⟩
  | .hbm, ⟨26, _⟩ => ⟨S8, .i32⟩
  | .hbm, ⟨27, _⟩ => ⟨S8x1, .i32⟩
  | .hbm, ⟨28, _⟩ => ⟨S1x136, .i32⟩
  | .hbm, ⟨29, _⟩ => ⟨S8x136, .i32⟩
  | .hbm, ⟨30, _⟩ => ⟨S8x136, .i32⟩
  | .hbm, ⟨31, _⟩ => ⟨S8x136, .i32⟩
  | .hbm, ⟨32, _⟩ => ⟨S_, .i32⟩
  | .hbm, ⟨33, _⟩ => ⟨S8x136, .i32⟩
  | .hbm, ⟨34, _⟩ => ⟨S8x136, .i1⟩
  | .hbm, ⟨35, _⟩ => ⟨S_, .i32⟩
  | .hbm, ⟨36, _⟩ => ⟨S8x136, .i32⟩
  | .hbm, ⟨37, _⟩ => ⟨S8x136, .i1⟩
  | .hbm, ⟨38, _⟩ => ⟨S8x136, .i1⟩
  | .hbm, ⟨39, _⟩ => ⟨S128x2x136x8x4, .f32⟩
  | .hbm, ⟨40, _⟩ => ⟨S128x2x4x8x136, .f32⟩
  | .hbm, ⟨41, _⟩ => ⟨S2x4x1x1, .f32⟩
  | .hbm, ⟨42, _⟩ => ⟨S8x136, .f32⟩
  | .hbm, ⟨43, _⟩ => ⟨S1x1x8x136, .f32⟩
  | .hbm, ⟨44, _⟩ => ⟨S2x4x8x136, .f32⟩
  | .hbm, ⟨45, _⟩ => ⟨S2x4x8x136, .f32⟩
  | .hbm, ⟨46, _⟩ => ⟨S2x4x8x136, .f32⟩
  | .hbm, ⟨47, _⟩ => ⟨S1x2x4x8x136, .f32⟩
  | .hbm, ⟨48, _⟩ => ⟨S128x2x4x8x136, .f32⟩
  | .hbm, ⟨49, _⟩ => ⟨S128x2x4x8x136, .f32⟩
  | .hbm, ⟨50, _⟩ => ⟨S_, .f32⟩
  | .hbm, ⟨51, _⟩ => ⟨S_, .f32⟩
  | .hbm, ⟨52, _⟩ => ⟨S128x2x4x8x136, .i1⟩
  | .hbm, ⟨53, _⟩ => ⟨S128x2x4x8x136, .f32⟩
  | .hbm, ⟨54, _⟩ => ⟨S128x2x4x8x136, .f32⟩
  | .hbm, ⟨55, _⟩ => ⟨S2x4x1x1, .f32⟩
  | .hbm, ⟨56, _⟩ => ⟨S128x2x4x8x1, .f32⟩
  | .hbm, ⟨57, _⟩ => ⟨S128x2x4x8x137, .f32⟩
  | .hbm, ⟨58, _⟩ => ⟨S_, .f32⟩
  | .hbm, ⟨59, _⟩ => ⟨S128x2x4x8, .f32⟩
  | .hbm, ⟨60, _⟩ => ⟨S_, .f32⟩
  | .hbm, ⟨61, _⟩ => ⟨S128x2x4x8, .f32⟩
  | .hbm, ⟨62, _⟩ => ⟨S128x2x4x8, .f32⟩
  | .hbm, ⟨63, _⟩ => ⟨S128x2x4x8x1, .f32⟩
  | .hbm, ⟨64, _⟩ => ⟨S128x2x4x8x137, .f32⟩
  | .hbm, ⟨65, _⟩ => ⟨S128x2x4x8x137, .f32⟩
  | .hbm, ⟨66, _⟩ => ⟨S128x2x4x8x137, .f32⟩
  | .hbm, ⟨67, _⟩ => ⟨S_, .f32⟩
  | .hbm, ⟨68, _⟩ => ⟨S128x2x4x8, .f32⟩
  | .hbm, ⟨69, _⟩ => ⟨S128x2x4x8x1, .f32⟩
  | .hbm, ⟨70, _⟩ => ⟨S128x2x4x8x137, .f32⟩
  | .hbm, ⟨71, _⟩ => ⟨S128x2x4x8x137, .f32⟩
  | .hbm, ⟨72, _⟩ => ⟨S128x2x4x8x136, .f32⟩
  | .hbm, ⟨73, _⟩ => ⟨S128x2x64x4x8, .f32⟩
  | .hbm, ⟨74, _⟩ => ⟨S128x8x2x4x64, .f32⟩
  | .hbm, ⟨75, _⟩ => ⟨S1024x512, .f32⟩
  | .hbm, ⟨76, _⟩ => ⟨S1024x512, .bf16⟩
  | .hbm, ⟨77, _⟩ => ⟨S1024x512, .f32⟩
  | .hbm, ⟨78, _⟩ => ⟨S128x8x4x128, .f32⟩
  | .hbm, ⟨79, _⟩ => ⟨S4x8x8, .f32⟩
  | .hbm, ⟨80, _⟩ => ⟨S_, .f32⟩
  | .hbm, ⟨81, _⟩ => ⟨S8x8, .f32⟩
  | .hbm, ⟨82, _⟩ => ⟨S8x8, .i32⟩
  | .hbm, ⟨83, _⟩ => ⟨S_, .i32⟩
  | .hbm, ⟨84, _⟩ => ⟨S8x8, .i32⟩
  | .hbm, ⟨85, _⟩ => ⟨S8x8, .i32⟩
  | .hbm, ⟨86, _⟩ => ⟨S8x8, .i32⟩
  | .hbm, ⟨87, _⟩ => ⟨S8x8, .i1⟩
  | .hbm, ⟨88, _⟩ => ⟨S_, .f32⟩
  | .hbm, ⟨89, _⟩ => ⟨S8x8, .f32⟩
  | .hbm, ⟨90, _⟩ => ⟨S8x8, .f32⟩
  | .hbm, ⟨91, _⟩ => ⟨S1x8x8, .f32⟩
  | .hbm, ⟨92, _⟩ => ⟨S4x8x8, .f32⟩
  | .hbm, ⟨93, _⟩ => ⟨S4x8x8, .f32⟩
  | .hbm, ⟨94, _⟩ => ⟨S4x128x128x8, .f32⟩
  | .hbm, ⟨95, _⟩ => ⟨S128x8x4x128, .f32⟩
  | .hbm, ⟨96, _⟩ => ⟨S4x8, .f32⟩
  | .hbm, ⟨97, _⟩ => ⟨S8x4, .f32⟩
  | .hbm, ⟨98, _⟩ => ⟨S8x4x1, .f32⟩
  | .hbm, ⟨99, _⟩ => ⟨S1x8x4x1, .f32⟩
  | .hbm, ⟨100, _⟩ => ⟨S128x8x4x128, .f32⟩
  | .hbm, ⟨101, _⟩ => ⟨S128x8x4x128, .f32⟩
  | .hbm, ⟨102, _⟩ => ⟨S1024x512, .f32⟩
  | .hbm, ⟨103, _⟩ => ⟨S1024x512, .bf16⟩
  | .hbm, ⟨104, _⟩ => ⟨S1024x512, .f32⟩
  | .hbm, ⟨105, _⟩ => ⟨S1024x512, .f32⟩
  | .hbm, ⟨106, _⟩ => ⟨S1024x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_0 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_6 : Ref sig .tc := ⟨.hbm, 80, rfl⟩
abbrev main_v59 : Ref sig .tc := ⟨.hbm, 81, rfl⟩
abbrev main_call1_v0 : Ref sig .tc := ⟨.hbm, 82, rfl⟩
abbrev main_call1_c : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_cst : Ref sig .tc := ⟨.hbm, 88, rfl⟩
abbrev main_call1_v5 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]
-- ==== MergeKernel.lean ====
abbrev S8x4096x1024 : Shape := ⟨3, ![8, 4096, 1024]⟩
abbrev S128x8x1024 : Shape := ⟨3, ![128, 8, 1024]⟩
abbrev S32768x512 : Shape := ⟨2, ![32768, 512]⟩
abbrev S1024x512 : Shape := ⟨2, ![1024, 512]⟩
abbrev S33792x1024 : Shape := ⟨2, ![33792, 1024]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S16x128x128 : Shape := ⟨3, ![16, 128, 128]⟩
abbrev S32768x1024 : Shape := ⟨2, ![32768, 1024]⟩
abbrev S1x1024 : Shape := ⟨2, ![1, 1024]⟩
abbrev S1024x33792 : Shape := ⟨2, ![1024, 33792]⟩
abbrev S264x8x128x128 : Shape := ⟨4, ![264, 8, 128, 128]⟩
abbrev S512x512 : Shape := ⟨2, ![512, 512]⟩
abbrev S4x8x128x128 : Shape := ⟨4, ![4, 8, 128, 128]⟩
abbrev S512 : Shape := ⟨1, ![512]⟩
abbrev S512x1 : Shape := ⟨2, ![512, 1]⟩
abbrev S512x2048 : Shape := ⟨2, ![512, 2048]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x1x128x128 : Shape := ⟨4, ![1, 1, 128, 128]⟩

abbrev nBuf : Space → Nat
  | .hbm => 27
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S128x8x1024, .f32⟩
  | .hbm, ⟨2, _⟩ => ⟨S32768x512, .bf16⟩
  | .hbm, ⟨3, _⟩ => ⟨S1024x512, .bf16⟩
  | .hbm, ⟨4, _⟩ => ⟨S32768x512, .bf16⟩
  | .hbm, ⟨5, _⟩ => ⟨S1024x512, .bf16⟩
  | .hbm, ⟨6, _⟩ => ⟨S33792x1024, .bf16⟩
  | .hbm, ⟨7, _⟩ => ⟨S33792x1024, .bf16⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024x2048, .f32⟩
  | .hbm, ⟨13, _⟩ => ⟨S8x2x128x128, .f32⟩
  | .hbm, ⟨14, _⟩ => ⟨S16x128x128, .f32⟩
  | .hbm, ⟨15, _⟩ => ⟨S16x128x128, .bf16⟩
  | .hbm, ⟨16, _⟩ => ⟨S32768x1024, .f32⟩
  | .hbm, ⟨17, _⟩ => ⟨S1024x1024, .f32⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S1x1024, .f32⟩
  | .hbm, ⟨22, _⟩ => ⟨S1024x2048, .bf16⟩
  | .hbm, ⟨23, _⟩ => ⟨S33792x1024, .f32⟩
  | .hbm, ⟨24, _⟩ => ⟨S1024x33792, .bf16⟩
  | .hbm, ⟨25, _⟩ => ⟨S264x8x128x128, .f32⟩
  | .hbm, ⟨26, _⟩ => ⟨S264x8x128x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S1024x2048, .bf16⟩
  | .local _ .vmem, ⟨21, _⟩ => ⟨S16x128x128, .bf16⟩
  | .local _ .vmem, ⟨22, _⟩ => ⟨S512x1024, .f32⟩
  | .local _ .vmem, ⟨23, _⟩ => ⟨S512x1024, .f32⟩
  | .local _ .vmem, ⟨24, _⟩ => ⟨S1024x512, .bf16⟩
  | .local _ .vmem, ⟨25, _⟩ => ⟨S1024x512, .bf16⟩
  | .local _ .vmem, ⟨26, _⟩ => ⟨S4x8x128x128, .f32⟩
  | .local _ .vmem, ⟨27, _⟩ => ⟨S4x8x128x128, .f32⟩
  | .local _ .vmem, ⟨28, _⟩ => ⟨S4x8x128x128, .f32⟩
  | .local _ .vmem, ⟨29, _⟩ => ⟨S4x8x128x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v9_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x8x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x8x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeReferenceIdeal.lean ====
abbrev S8x4096x1024 : Shape := ⟨3, ![8, 4096, 1024]⟩
abbrev S128x8x1024 : Shape := ⟨3, ![128, 8, 1024]⟩
abbrev S32768x512 : Shape := ⟨2, ![32768, 512]⟩
abbrev S1024x512 : Shape := ⟨2, ![1024, 512]⟩
abbrev S33792x1024 : Shape := ⟨2, ![33792, 1024]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S32768x1024 : Shape := ⟨2, ![32768, 1024]⟩
abbrev S33792x512 : Shape := ⟨2, ![33792, 512]⟩
abbrev S_ : Shape := ⟨0, ![]⟩
abbrev S33792 : Shape := ⟨1, ![33792]⟩
abbrev S33792x1 : Shape := ⟨2, ![33792, 1]⟩
abbrev S1x1024 : Shape := ⟨2, ![1, 1024]⟩
abbrev S33792x2048 : Shape := ⟨2, ![33792, 2048]⟩
abbrev S33792x8x2x128 : Shape := ⟨4, ![33792, 8, 2, 128]⟩
abbrev S8x2x128x33792 : Shape := ⟨4, ![8, 2, 128, 33792]⟩
abbrev S1024x33792 : Shape := ⟨2, ![1024, 33792]⟩
abbrev S33792x8x1x128 : Shape := ⟨4, ![33792, 8, 1, 128]⟩
abbrev S33792x8x128 : Shape := ⟨3, ![33792, 8, 128]⟩
abbrev S264x128x8x128 : Shape := ⟨4, ![264, 128, 8, 128]⟩
abbrev S264x8x128x128 : Shape := ⟨4, ![264, 8, 128, 128]⟩

abbrev nBuf : Space → Nat
  | .hbm => 60
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S128x8x1024, .f32⟩
  | .hbm, ⟨2, _⟩ => ⟨S32768x512, .bf16⟩
  | .hbm, ⟨3, _⟩ => ⟨S1024x512, .bf16⟩
  | .hbm, ⟨4, _⟩ => ⟨S32768x512, .bf16⟩
  | .hbm, ⟨5, _⟩ => ⟨S1024x512, .bf16⟩
  | .hbm, ⟨6, _⟩ => ⟨S33792x1024, .bf16⟩
  | .hbm, ⟨7, _⟩ => ⟨S33792x1024, .bf16⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024x2048, .f32⟩
  | .hbm, ⟨13, _⟩ => ⟨S8x2x128x128, .f32⟩
  | .hbm, ⟨14, _⟩ => ⟨S32768x1024, .f32⟩
  | .hbm, ⟨15, _⟩ => ⟨S1024x1024, .f32⟩
  | .hbm, ⟨16, _⟩ => ⟨S33792x1024, .f32⟩
  | .hbm, ⟨17, _⟩ => ⟨S33792x512, .bf16⟩
  | .hbm, ⟨18, _⟩ => ⟨S33792x512, .f32⟩
  | .hbm, ⟨19, _⟩ => ⟨S33792x512, .bf16⟩
  | .hbm, ⟨20, _⟩ => ⟨S33792x512, .f32⟩
  | .hbm, ⟨21, _⟩ => ⟨S33792x1024, .f32⟩
  | .hbm, ⟨22, _⟩ => ⟨S33792x1024, .f32⟩
  | .hbm, ⟨23, _⟩ => ⟨S33792x1024, .f32⟩
  | .hbm, ⟨24, _⟩ => ⟨S33792x1024, .f32⟩
  | .hbm, ⟨25, _⟩ => ⟨S33792x1024, .f32⟩
  | .hbm, ⟨26, _⟩ => ⟨S33792x1024, .f32⟩
  | .hbm, ⟨27, _⟩ => ⟨S33792x1024, .f32⟩
  | .hbm, ⟨28, _⟩ => ⟨S33792x1024, .f32⟩
  | .hbm, ⟨29, _⟩ => ⟨S33792x1024, .f32⟩
  | .hbm, ⟨30, _⟩ => ⟨S33792x1024, .f32⟩
  | .hbm, ⟨31, _⟩ => ⟨S_, .f32⟩
  | .hbm, ⟨32, _⟩ => ⟨S33792, .f32⟩
  | .hbm, ⟨33, _⟩ => ⟨S33792x1, .f32⟩
  | .hbm, ⟨34, _⟩ => ⟨S_, .f32⟩
  | .hbm, ⟨35, _⟩ => ⟨S33792x1, .f32⟩
  | .hbm, ⟨36, _⟩ => ⟨S33792x1, .f32⟩
  | .hbm, ⟨37, _⟩ => ⟨S_, .f32⟩
  | .hbm, ⟨38, _⟩ => ⟨S33792x1, .f32⟩
  | .hbm, ⟨39, _⟩ => ⟨S33792x1, .f32⟩
  | .hbm, ⟨40, _⟩ => ⟨S33792x1, .f32⟩
  | .hbm, ⟨41, _⟩ => ⟨S33792x1024, .f32⟩
  | .hbm, ⟨42, _⟩ => ⟨S33792x1024, .f32⟩
  | .hbm, ⟨43, _⟩ => ⟨S1x1024, .f32⟩
  | .hbm, ⟨44, _⟩ => ⟨S33792x1024, .f32⟩
  | .hbm, ⟨45, _⟩ => ⟨S33792x1024, .f32⟩
  | .hbm, ⟨46, _⟩ => ⟨S33792x2048, .f32⟩
  | .hbm, ⟨47, _⟩ => ⟨S33792x8x2x128, .f32⟩
  | .hbm, ⟨48, _⟩ => ⟨S8x2x128x33792, .f32⟩
  | .hbm, ⟨49, _⟩ => ⟨S33792x8x2x128, .f32⟩
  | .hbm, ⟨50, _⟩ => ⟨S1024x33792, .f32⟩
  | .hbm, ⟨51, _⟩ => ⟨S1024x33792, .bf16⟩
  | .hbm, ⟨52, _⟩ => ⟨S33792x8x1x128, .f32⟩
  | .hbm, ⟨53, _⟩ => ⟨S33792x8x128, .f32⟩
  | .hbm, ⟨54, _⟩ => ⟨S264x128x8x128, .f32⟩
  | .hbm, ⟨55, _⟩ => ⟨S264x8x128x128, .f32⟩
  | .hbm, ⟨56, _⟩ => ⟨S33792x8x1x128, .f32⟩
  | .hbm, ⟨57, _⟩ => ⟨S33792x8x128, .f32⟩
  | .hbm, ⟨58, _⟩ => ⟨S264x128x8x128, .f32⟩
  | .hbm, ⟨59, _⟩ => ⟨S264x8x128x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== FinalKernel.lean ====
abbrev S33792x1024 : Shape := ⟨2, ![33792, 1024]⟩
abbrev S8x4096x256 : Shape := ⟨3, ![8, 4096, 256]⟩
abbrev S1024 : Shape := ⟨1, ![1024]⟩
abbrev S1024x1024 : Shape := ⟨2, ![1024, 1024]⟩
abbrev S256x1024 : Shape := ⟨2, ![256, 1024]⟩
abbrev S32768x256 : Shape := ⟨2, ![32768, 256]⟩
abbrev S1x1024 : Shape := ⟨2, ![1, 1024]⟩
abbrev S32768x1024 : Shape := ⟨2, ![32768, 1024]⟩
abbrev S1024x256 : Shape := ⟨2, ![1024, 256]⟩
abbrev S1024x1 : Shape := ⟨2, ![1024, 1]⟩

abbrev nBuf : Space → Nat
  | .hbm => 10
  | .vmem => 9
  | .smem => 0
  | _ => 0

abbrev bufTy : (tb : Table) → Fin (tcTables nBuf tb) → BufTy
  | .hbm, ⟨0, _⟩ => ⟨S33792x1024, .f32⟩
  | .hbm, ⟨1, _⟩ => ⟨S8x4096x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S32768x256, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1024x1024, .f32⟩
  | .local _ .vmem, ⟨8, _⟩ => ⟨S1024x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FinalReferenceIdeal.lean ====
abbrev S33792x1024 : Shape := ⟨2, ![33792, 1024]⟩
abbrev S8x4096x256 : Shape := ⟨3, ![8, 4096, 256]⟩
abbrev S1024 : Shape := ⟨1, ![1024]⟩
abbrev S1024x1024 : Shape := ⟨2, ![1024, 1024]⟩
abbrev S256x1024 : Shape := ⟨2, ![256, 1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x256 : Shape := ⟨2, ![32768, 256]⟩

abbrev nBuf : Space → Nat
  | .hbm => 35
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S8x4096x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S32768x1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x256, .f32⟩
  | .hbm, ⟨32, _⟩ => ⟨S32768x1024, .f32⟩
  | .hbm, ⟨33, _⟩ => ⟨S32768x1024, .f32⟩
  | .hbm, ⟨34, _⟩ => ⟨S32768x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.Attention.lean ====
/- The attention of one query against the keys of its own chunk and of the chunk before it, as a formula over the
   extended reals: a query attends to the 128 positions that end with its own, a learned sink takes part in the
   softmax's denominator only, and the score falls with the distance by a slope of the head. -/
module

public import Idealize.ShloMosaic.Lib.Pointwise

@[expose] public section

noncomputable section

namespace Cert.Attention

open Idealize.ShloMosaic

/-- How far key `r` (of 256: the chunk before, then the own chunk) lies behind query `i` of the own chunk. -/
def lag (i : Fin 128) (r : Fin 256) : ℤ := (i.val : ℤ) - r.val + 128

/-- Query `i` sees key `r`: at a distance of 0 to 127, and not in the chunk before when there is none. -/
def Sees (first : Prop) (i : Fin 128) (r : Fin 256) : Prop := 0 ≤ lag i r ∧ lag i r < 128 ∧ (first → 128 ≤ r.val)

open Classical in
/-- The score of key `r`: the inner product less the slope times the distance, or −∞ where the key is not seen. -/
def score (first : Prop) (slope : EReal) (q : Fin 64 → EReal) (k : Fin 256 → Fin 64 → EReal) (i : Fin 128) (r : Fin 256) : EReal :=
  if Sees first i r then (∑ d, q d * k r d) - slope * (((lag i r : ℤ) : ℝ) : EReal) else ⊥

/-- The largest of the scores and the sink. -/
def top (f : Fin 256 → EReal) (sink : EReal) : EReal := max (Finset.univ.fold max ⊥ f) sink

/-- The softmax's denominator, the sink included. -/
def den (f : Fin 256 → EReal) (sink : EReal) : EReal :=
  (∑ r, Ideal.exp (f r - top f sink)) + Ideal.exp (sink - top f sink)

/-- The weight of key `r`. -/
def prob (f : Fin 256 → EReal) (sink : EReal) (r : Fin 256) : EReal :=
  Ideal.div (Ideal.exp (f r - top f sink)) (den f sink)

/-- One coordinate of a query's attention. -/
def att (first : Prop) (slope sink : EReal) (q : Fin 64 → EReal) (k : Fin 256 → Fin 64 → EReal) (v : Fin 256 → EReal)
    (i : Fin 128) : EReal :=
  ∑ r, prob (score first slope q k i) sink r * v r

/-- The slope of head `h`: the power `2 ^ -(h + 1)`, by its pattern. -/
def slope (h : Fin 8) : EReal :=
  Ideal.ofBits .f32 (![0x3F000000#32, 0x3E800000#32, 0x3E000000#32, 0x3D800000#32, 0x3D000000#32, 0x3C800000#32, 0x3C000000#32, 0x3B800000#32] h)

/-- The pattern of −∞. -/
theorem negInf : Ideal.ofBits .f32 0xFF800000#32 = ⊥ := by
  have h1 : (0xFF800000#32 : BitVec 32).extractLsb' 23 8 = 255#8 := by decide
  have h2 : (0xFF800000#32 : BitVec 32).extractLsb' 0 23 = 0#23 := by decide
  have h3 : (0xFF800000#32 : BitVec 32).extractLsb' 31 1 = 1#1 := by decide
  simp [Ideal.ofBits, Ideal.ieee, h1, h2, h3]

/-- A pattern whose exponent field is not full stands for a real number. -/
theorem ofBits_real (w : BitVec 32) (h : (w.extractLsb' 23 8).toNat ≠ 255) : ∃ x : ℝ, Ideal.ofBits .f32 w = x := by
  show ∃ x : ℝ, Ideal.ieee 8 23 w = x
  unfold Ideal.ieee
  dsimp only
  rw [if_neg (by simpa using h)]
  split <;> exact ⟨_, rfl⟩

theorem slope_real (h : Fin 8) : ∃ x : ℝ, slope h = x := by
  unfold slope
  apply ofBits_real
  fin_cases h <;> decide

theorem sum_real {ι : Type} (s : Finset ι) (f : ι → EReal) (h : ∀ i, ∃ x : ℝ, f i = x) : ∃ x : ℝ, ∑ i ∈ s, f i = x := by
  classical
  induction s using Finset.induction_on with
  | empty => exact ⟨0, by simp⟩
  | insert a s ha ih =>
    obtain ⟨x, hx⟩ := ih
    obtain ⟨y, hy⟩ := h a
    exact ⟨y + x, by rw [Finset.sum_insert ha, hx, hy, EReal.coe_add]⟩

/-- With real queries, real seen keys and a real slope no score is +∞. -/
theorem score_ne_top {first : Prop} {s : EReal} {q : Fin 64 → EReal} {k : Fin 256 → Fin 64 → EReal} {i : Fin 128}
    (hs : ∃ x : ℝ, s = x) (hq : ∀ d, ∃ x : ℝ, q d = x) (r : Fin 256) (hk : Sees first i r → ∀ d, ∃ x : ℝ, k r d = x) :
    score first s q k i r ≠ ⊤ := by
  classical
  unfold score
  split
  · rename_i h
    obtain ⟨x, hx⟩ := sum_real Finset.univ (fun d => q d * k r d) (fun d => by
      obtain ⟨a, ha⟩ := hq d
      obtain ⟨b, hb⟩ := hk h d
      exact ⟨a * b, by rw [ha, hb, EReal.coe_mul]⟩)
    obtain ⟨y, hy⟩ := hs
    rw [hx, hy, ← EReal.coe_mul, ← EReal.coe_sub]
    exact EReal.coe_ne_top _
  · exact bot_ne_top

theorem exp_nonneg (x : EReal) : 0 ≤ Ideal.exp x := by
  induction x using EReal.rec with
  | bot => exact le_refl _
  | coe x => exact EReal.coe_nonneg.2 (Real.exp_pos x).le
  | top => exact le_top

theorem top_real {f : Fin 256 → EReal} {sink : EReal} (hs : ∃ x : ℝ, sink = x) (hf : ∀ r, f r ≠ ⊤) : ∃ x : ℝ, top f sink = x := by
  obtain ⟨x, hx⟩ := hs
  have h1 : top f sink ≠ ⊤ := by
    unfold top
    rw [Ne, max_eq_top, not_or]
    refine ⟨?_, by rw [hx]; exact EReal.coe_ne_top _⟩
    have : ∀ s : Finset (Fin 256), s.fold max ⊥ f ≠ ⊤ := fun s => by
      induction s using Finset.induction_on with
      | empty => exact bot_ne_top
      | insert a s ha ih => rw [Finset.fold_insert ha, Ne, max_eq_top, not_or]; exact ⟨hf a, ih⟩
    exact this _
  have h2 : top f sink ≠ ⊥ := by
    unfold top
    rw [Ne, max_eq_bot, not_and_or]
    exact Or.inr (by rw [hx]; exact EReal.coe_ne_bot _)
  exact ⟨(top f sink).toReal, (EReal.coe_toReal h1 h2).symm⟩

/-- The sink keeps the denominator off zero. -/
theorem den_ne_zero {f : Fin 256 → EReal} {sink : EReal} (hs : ∃ x : ℝ, sink = x) (hf : ∀ r, f r ≠ ⊤) : den f sink ≠ 0 := by
  obtain ⟨t, ht⟩ := top_real hs hf
  obtain ⟨x, hx⟩ := hs
  have h : 0 < Ideal.exp (sink - top f sink) := by
    rw [ht, hx, ← EReal.coe_sub]
    exact EReal.coe_pos.2 (Real.exp_pos _)
  exact ne_of_gt (lt_of_lt_of_le h (le_add_of_nonneg_left (Finset.sum_nonneg fun r _ => exp_nonneg _)))

/-- A key that is not seen weighs nothing. -/
theorem prob_zero {f : Fin 256 → EReal} {sink : EReal} (hs : ∃ x : ℝ, sink = x) (hf : ∀ r, f r ≠ ⊤) (r : Fin 256) (h : f r = ⊥) :
    prob f sink r = 0 := by
  unfold prob Ideal.div
  rw [if_neg (den_ne_zero hs hf), h, EReal.bot_sub]
  exact zero_mul _

/-- Keys and values that are not seen do not matter. -/
theorem att_congr {first : Prop} {s sink : EReal} {q : Fin 64 → EReal} {k k' : Fin 256 → Fin 64 → EReal} {v v' : Fin 256 → EReal} {i : Fin 128}
    (hs : ∃ x : ℝ, s = x) (hsink : ∃ x : ℝ, sink = x) (hq : ∀ d, ∃ x : ℝ, q d = x) (hk : ∀ r, Sees first i r → ∀ d, ∃ x : ℝ, k r d = x)
    (ek : ∀ r, Sees first i r → k r = k' r) (ev : ∀ r, Sees first i r → v r = v' r) :
    att first s sink q k v i = att first s sink q k' v' i := by
  classical
  have e : score first s q k i = score first s q k' i := by
    funext r
    unfold score
    split
    · rename_i h; rw [ek r h]
    · rfl
  unfold att
  rw [e]
  refine Finset.sum_congr rfl fun r _ => ?_
  by_cases h : Sees first i r
  · rw [ev r h]
  · rw [prob_zero hsink (fun r => e ▸ score_ne_top hs hq r (hk r)) r (by unfold score; exact if_neg h), zero_mul, zero_mul]

end Cert.Attention
-- ==== Proof.Heads.lean ====
/- One head of one chunk of the kernel's attention, read at an index: the towers of vector operations that the kernel
   body is made of, each stated once for all heads and chunks. -/
module

public import proofs.«01_k».proof.Proof.Gen.MixKernelIdeal.Skeleton
public import proofs.«01_k».proof.Proof.Attention
public import Idealize.ShloMosaic.Lib.Pipeline.ValueKit
public import Idealize.ShloMosaic.Lib.Pointwise
public import Idealize.ShloMosaic.Lib.Tactic.WordOmega

@[expose] public section

set_option maxRecDepth 16384

noncomputable section

namespace Cert.MixKernelIdeal.Heads

open Idealize.ShloMosaic Idealize.ShloMosaic.TcCoe
open Cert.MixKernelIdeal Cert.MixKernelIdeal.Gen Cert.Attention

/-- The mask constant stands for −∞. -/
theorem mask_eq : Named.named (F := Ideal) (φ := .f32) κ "mask" 0xF149F2CA#32 = (⊥ : EReal) :=
  IdealRules.named_const.ideal_named_scalar _ _ _ _ rfl

/-- The softmax with a sink, as the kernel computes it for one head of one chunk. -/
def probsT (mk : IVec S128x256 1) (s : FVec Ideal S128x256 .f32) (sink : Ideal .f32) : FVec Ideal S128x256 .bf16 :=
  let f : FVec Ideal S128x256 .f32 := select mk s (broadcast S128x256 (Named.named (F := Ideal) (φ := .f32) κ "mask" 0xF149F2CA#32))
  let mx : FVec Ideal S128x1 .f32 := maximumf (shapeCast S128x1 (multiReduction .maximumf [1] S128 f 0xFF800000#32 reduces_S128x256_S128 (.inl rfl) rfl) shapeCasts_S128_S128x1) (broadcast S128x1 sink)
  let e : FVec Ideal S128x256 .f32 := exp (subf f (broadcastTo S128x256 mx broadcasts_S128x1_S128x256))
  let dn : FVec Ideal S128x1 .f32 := addf (shapeCast S128x1 (multiReduction .add [1] S128 e 0x00000000#32 reduces_S128x256_S128 (.inl rfl) rfl) shapeCasts_S128_S128x1) (exp (subf (broadcast S128x1 sink) mx))
  truncf .bf16 (divf e (broadcastTo S128x256 dn broadcasts_S128x1_S128x256)) bitsLt_bf16_f32

theorem probsT_apply (mk : IVec S128x256 1) (s : FVec Ideal S128x256 .f32) (sink : Ideal .f32) (i : Fin 128) (r : Fin 256) :
    probsT mk s sink (ix2 i r) = prob (fun r => if mk (ix2 i r) = 1#1 then s (ix2 i r) else ⊥) sink r := by
  unfold probsT prob den top
  pointwise [mask_eq, negInf]
  rfl

/-- The keys' distances behind the queries, as words. -/
def lagT : IVec S128x256 32 :=
  addi (subi (iota .tc S128x256 32 [0] iota_S128x256_d0_w32) (iota .tc S128x256 32 [1] iota_S128x256_d1_w32)) (broadcast S128x256 128#32)

theorem lagT_apply (i : Fin 128) (r : Fin 256) : (lagT (ix2 i r)).toInt = lag i r := by
  have hi := i.isLt
  have hr := r.isLt
  unfold lagT lag
  pointwise
  unfold IntOp.addi IntOp.subi
  rw [BitVec.toInt_eq_toNat_cond, BitVec.toNat_add, BitVec.toNat_sub, BitVec.toNat_ofNat, BitVec.toNat_ofNat]
  simp only [BitVec.toNat_ofNat]
  split <;> omega

/-- The keys within the window, whatever chunk they are of. -/
def windowT : IVec S128x256 1 :=
  andi (cmpi .sge lagT (broadcast S128x256 0#32)) (cmpi .slt lagT (broadcast S128x256 128#32))

theorem and_one (a b : BitVec 1) : IntOp.andi a b = 1#1 ↔ a = 1#1 ∧ b = 1#1 := by
  revert a b; decide

theorem windowT_apply (i : Fin 128) (r : Fin 256) : windowT (ix2 i r) = 1#1 ↔ Sees False i r := by
  have h := lagT_apply i r
  unfold windowT Sees
  pointwise
  rw [and_one, IntOp.cmpi_sge, IntOp.cmpi_slt, h]
  simp

/-- The same where the chunk before is left out when the run's second coordinate is zero. -/
def firstT (i : grid0.Coords) : IVec S128x256 1 :=
  andi windowT (cmpi .sge (iota .tc S128x256 32 [1] iota_S128x256_d1_w32)
    (broadcast S128x256 (Scalar.select (Scalar.cmpi .sgt (BitVec.ofNat 32 (i 1).val) 0#32) 0#32 128#32)))

theorem firstT_apply (c : grid0.Coords) (i : Fin 128) (r : Fin 256) :
    firstT c (ix2 i r) = 1#1 ↔ Sees ((c 1).val = 0) i r := by
  have h := windowT_apply i r
  unfold firstT
  pointwise
  have hc : (c 1).val < 8 := (c 1).isLt
  have hr := r.isLt
  rw [and_one, h]
  unfold Sees
  have hg : IntOp.cmpi .sge (BitVec.ofNat 32 r.val) (Scalar.select (Scalar.cmpi .sgt (BitVec.ofNat 32 (c 1).val) 0#32) 0#32 128#32) = 1#1
      ↔ ((c 1).val = 0 → 128 ≤ r.val) := by
    generalize (c 1).val = n at hc ⊢
    have h0 : (BitVec.ofNat 32 r.val).toInt = r.val := by
      rw [BitVec.toInt_eq_toNat_cond, BitVec.toNat_ofNat]; split <;> omega
    rw [IntOp.cmpi_sge, h0]
    interval_cases n
    · show ((128 : ℤ) ≤ _) ↔ _
      omega
    all_goals
      show ((0 : ℤ) ≤ _) ↔ _
      omega
  rw [hg]
  simp only [false_implies, and_true, and_assoc]

/-- One head's rows of its group's output: `ro` is the chunk's first row, `co` the group's first query column, `g` its
    first key column, and `no` is 128 times the head's place in its group of four. -/
theorem head_apply (first : Prop) (mk : IVec S128x256 1) (D : FVec Ideal S128x256 .f32) (q : FVec Ideal S512x512 .bf16)
    (K V : FVec Ideal S256x128 .bf16) (ro co g no : Nat) (l0 l1 l2 l3 k0 k1 k2 k3 : Ideal .f32)
    (h0 : S512x512.Slices ![ro, co] S128x64) (h1 : S512x512.Slices ![ro, co + 64] S128x64)
    (h2 : S512x512.Slices ![ro, co + 128] S128x64) (h3 : S512x512.Slices ![ro, co + 192] S128x64)
    (hg : S256x128.Slices ![0, g] S256x64) (hn : S512x64.Slices ![no, 0] S128x64)
    (hmk : ∀ i r, mk (ix2 i r) = 1#1 ↔ Sees first i r) (hD : ∀ i r, D (ix2 i r) = (((lag i r : ℤ) : ℝ) : EReal))
    (hno : no % 128 = 0) (bno : no < 512) (br : ro + 128 ≤ 512) (bc : co + 256 ≤ 512) (bg : g + 64 ≤ 128) (i : Fin 128) (d : Fin 64) :
    (let S : FVec Ideal S512x256 .f32 := matmul dot_S512x64_S256x64_S512x256_1_1_0_0_n_n none
      (concatenate S512x64 0 [⟨S128x64, extractStridedSlice S128x64 ![ro, co] q h0⟩, ⟨S128x64, extractStridedSlice S128x64 ![ro, co + 64] q h1⟩,
        ⟨S128x64, extractStridedSlice S128x64 ![ro, co + 128] q h2⟩, ⟨S128x64, extractStridedSlice S128x64 ![ro, co + 192] q h3⟩]
        concatenates_S128x64_S128x64_S128x64_S128x64_S512x64_d0) (extractStridedSlice S256x64 ![0, g] K hg) (constant S512x256 .f32 0x00000000#32)
    truncf .bf16 (extractStridedSlice S128x64 ![no, 0] (matmul dot_S512x256_S256x64_S512x64_1_0_0_1_n_n none
      (concatenate S512x256 0 [
        ⟨S128x256, probsT mk (subf (extractStridedSlice S128x256 ![0, 0] S slices_S512x256_o0_0_S128x256) (mulf (broadcast S128x256 l0) D)) k0⟩,
        ⟨S128x256, probsT mk (subf (extractStridedSlice S128x256 ![128, 0] S slices_S512x256_o128_0_S128x256) (mulf (broadcast S128x256 l1) D)) k1⟩,
        ⟨S128x256, probsT mk (subf (extractStridedSlice S128x256 ![256, 0] S slices_S512x256_o256_0_S128x256) (mulf (broadcast S128x256 l2) D)) k2⟩,
        ⟨S128x256, probsT mk (subf (extractStridedSlice S128x256 ![384, 0] S slices_S512x256_o384_0_S128x256) (mulf (broadcast S128x256 l3) D)) k3⟩]
        concatenates_S128x256_S128x256_S128x256_S128x256_S512x256_d0) (extractStridedSlice S256x64 ![0, g] V hg)
      (constant S512x64 .f32 0x00000000#32)) hn) bitsLt_bf16_f32) (ix2 i d)
    = att first (![l0, l1, l2, l3] ⟨no / 128, by omega⟩) (![k0, k1, k2, k3] ⟨no / 128, by omega⟩)
      (fun e => q (ix2 ⟨ro + i.val, by omega⟩ ⟨co + 64 * (no / 128) + e.val, by omega⟩))
      (fun r e => K (ix2 r ⟨g + e.val, by omega⟩)) (fun r => V (ix2 r ⟨g + d.val, by omega⟩)) i := by
  obtain ⟨n, bn⟩ : ∃ n : Fin 4, no = 128 * n.val := ⟨⟨no / 128, by omega⟩, by simp only; omega⟩
  subst bn
  simp only [Nat.mul_div_cancel_left _ (show 0 < 128 by decide)]
  classical
  unfold att score
  have n1 : ¬ 256 + i.val < 128 := by omega
  have n2 : ¬ 384 + i.val < 128 := by omega
  have e1 : 256 + i.val - 128 = 128 + i.val := by omega
  have e2 : 384 + i.val - 128 = 256 + i.val := by omega
  fin_cases n
  all_goals
    pointwise [probsT_apply, hD, n1, n2, e1, e2]
    refine Finset.sum_congr rfl fun x _ => ?_
    congr 2
    funext r
    rw [if_congr (hmk i r) rfl rfl]

end Cert.MixKernelIdeal.Heads
-- ==== Proof.Blocks.lean ====
/- What one run of the kernel body leaves in the attention's output block, read at an index. -/
module

public import proofs.«01_k».proof.Proof.Gen.MixKernelIdeal.Value
public import proofs.«01_k».proof.Proof.Heads

@[expose] public section

set_option maxRecDepth 16384

noncomputable section

namespace Cert.MixKernelIdeal.Blocks

open Idealize.ShloMosaic Idealize.ShloMosaic.TcCoe
open Cert.MixKernelIdeal Cert.MixKernelIdeal.Gen Cert.Attention Cert.MixKernelIdeal.Heads

/-- Row `r` of the two chunks that end with chunk `jq` of a block: of the block, or of the chunk before the block. -/
def cat (cur : S512x128.Idx → EReal) (prev : S128x128.Idx → EReal) (jq : Fin 4) (r : Fin 256) (c : Fin 128) : EReal :=
  if h : 128 * jq.val + r.val < 128 then prev (ix2 ⟨128 * jq.val + r.val, h⟩ c)
  else cur (ix2 ⟨128 * jq.val + r.val - 128, by omega⟩ c)

/-- The attention of row `128 * jq + i` of a block, at coordinate `d` of head `h`. -/
def blockAt (start : Prop) (x0 : Vec Ideal S8 .f32) (x1 : Vec Ideal S512x512 .bf16) (x2 : Vec Ideal S512x128 .f32) (x3 : Vec Ideal S128x128 .f32)
    (x4 : Vec Ideal S512x128 .f32) (x5 : Vec Ideal S128x128 .f32) (jq : Fin 4) (h : Fin 8) (i : Fin 128) (d : Fin 64) : EReal :=
  att (start ∧ jq = 0) (slope h) (x0 (ix1 h))
    (fun e => x1 (ix2 ⟨128 * jq.val + i.val, by omega⟩ ⟨64 * h.val + e.val, by omega⟩))
    (fun r e => cat x2 x3 jq r ⟨64 * (h.val / 4) + e.val, by omega⟩)
    (fun r => cat x4 x5 jq r ⟨64 * (h.val / 4) + d.val, by omega⟩) i

/-- The same at a row and a column of the block. -/
def block (start : Prop) (x0 : Vec Ideal S8 .f32) (x1 : Vec Ideal S512x512 .bf16) (x2 : Vec Ideal S512x128 .f32) (x3 : Vec Ideal S128x128 .f32)
    (x4 : Vec Ideal S512x128 .f32) (x5 : Vec Ideal S128x128 .f32) (y : S512x512.Idx) : EReal :=
  have h0 : (y 0).val < 512 := (y 0).isLt
  have h1 : (y 1).val < 512 := (y 1).isLt
  blockAt start x0 x1 x2 x3 x4 x5 ⟨(y 0).val / 128, by omega⟩ ⟨(y 1).val / 64, by omega⟩ ⟨(y 0).val % 128, by omega⟩ ⟨(y 1).val % 64, by omega⟩

theorem block_eq (start : Prop) (x0 : Vec Ideal S8 .f32) (x1 : Vec Ideal S512x512 .bf16) (x2 : Vec Ideal S512x128 .f32) (x3 : Vec Ideal S128x128 .f32)
    (x4 : Vec Ideal S512x128 .f32) (x5 : Vec Ideal S128x128 .f32) (y : S512x512.Idx) {R C : Nat} {i : Fin 128} {d : Fin 64}
    (h0 : (y 0).val = R + i.val) (h1 : (y 1).val = C + d.val) (hR : R % 128 = 0) (hC : C % 64 = 0) (bR : R < 512) (bC : C < 512) :
    block start x0 x1 x2 x3 x4 x5 y = blockAt start x0 x1 x2 x3 x4 x5 ⟨R / 128, by omega⟩ ⟨C / 64, by omega⟩ i d := by
  unfold block
  dsimp only
  congr 1 <;> apply Fin.ext <;> simp only [h0, h1] <;> omega

/-- Two chunks of a block, one after the other: the chunks that end with chunk `jq`. -/
theorem cat_mid (X : FVec Ideal S512x128 .bf16) (cur : S512x128.Idx → EReal) (prev : S128x128.Idx → EReal) (a b : Nat)
    (ha : S512x128.Slices ![a, 0] S128x128) (hb : S512x128.Slices ![b, 0] S128x128) (hc : Shape.Concatenates [S128x128, S128x128] S256x128 0) (hX : X = cur)
    (jq : Fin 4) (ea : a + 128 = 128 * jq.val) (eb : b = 128 * jq.val) (r : Fin 256) (c c' : Fin 128) (e : c = c') :
    concatenate S256x128 0 [⟨S128x128, extractStridedSlice S128x128 ![a, 0] X ha⟩, ⟨S128x128, extractStridedSlice S128x128 ![b, 0] X hb⟩] hc (ix2 r c)
      = cat cur prev jq r c' := by
  subst hX eb e
  unfold cat
  rw [dif_neg (by omega)]
  have hr := r.isLt
  have hj := jq.isLt
  by_cases h : r.val < 128
  · pointwise [h]
    congr 3
    omega
  · pointwise [h]
    congr 3
    omega

/-- The chunk before a block and the block's first chunk: the chunks that end with chunk 0. -/
theorem cat_first (X : FVec Ideal S512x128 .bf16) (Y : FVec Ideal S128x128 .bf16) (cur : S512x128.Idx → EReal) (prev : S128x128.Idx → EReal)
    (hb : S512x128.Slices ![0, 0] S128x128) (hc : Shape.Concatenates [S128x128, S128x128] S256x128 0) (hX : X = cur) (hY : Y = prev)
    (jq : Fin 4) (eb : jq.val = 0) (r : Fin 256) (c c' : Fin 128) (e : c = c') :
    concatenate S256x128 0 [⟨S128x128, Y⟩, ⟨S128x128, extractStridedSlice S128x128 ![0, 0] X hb⟩] hc (ix2 r c)
      = cat cur prev jq r c' := by
  subst hX hY e
  unfold cat
  by_cases h : r.val < 128
  · rw [dif_pos (by omega)]
    pointwise [h, eb]
  · rw [dif_neg (by omega)]
    pointwise [h, eb]

/-- A whole buffer loaded whole and rounded is what was stored in it. -/
theorem whole_cur {m : Memref sig .tc .vmem S512x128 .f32} (h : m.IsWhole) (a : Vec Ideal S512x128 .f32) (hi) (hb : FTy.bf16.bits < FTy.f32.bits) :
    truncf (F := Ideal) (φ := .f32) .bf16 (View.ld (View.read (Elt Ideal) m.view (h.unread a)) (Rect.unit ![0, 0] ![512, 128] hi)) hb = (fun x => a x : FVec Ideal S512x128 .bf16) := by
  funext x
  idx_vars x
  pointwise [h.read_unread]

theorem whole_prev {m : Memref sig .tc .vmem S128x128 .f32} (h : m.IsWhole) (a : Vec Ideal S128x128 .f32) (hi) (hb : FTy.bf16.bits < FTy.f32.bits) :
    truncf (F := Ideal) (φ := .f32) .bf16 (View.ld (View.read (Elt Ideal) m.view (h.unread a)) (Rect.unit ![0, 0] ![128, 128] hi)) hb = (fun x => a x : FVec Ideal S128x128 .bf16) := by
  funext x
  idx_vars x
  pointwise [h.read_unread]

theorem lag_real (i : Fin 128) (r : Fin 256) : (sitofp .f32 lagT : FVec Ideal S128x256 .f32) (ix2 i r) = (((lag i r : ℤ) : ℝ) : EReal) := by
  rw [← lagT_apply]
  rfl

set_option maxHeartbeats 4000000 in
theorem out_a (c : Dev nD) (t : Fin grid0.N) (a0 : Vec Ideal S8 .f32) (a1 : Vec Ideal S512x512 .bf16) (a2 : Vec Ideal S512x128 .f32) (a3 : Vec Ideal S128x128 .f32) (a4 : Vec Ideal S512x128 .f32) (a5 : Vec Ideal S128x128 .f32) (a6 : Vec Ideal S512x512 .f32) (a7 : Vec Ideal S512x512 .bf16) (a8 : Vec Ideal S4x128x128 .f32) (a9 : Vec Ideal S128x512 .f32) (y : S512x512.Idx) :
    out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) a0 a1 a2 a3 a4 a5 a6 a7 a8 a9 y
      = block ((grid0.coords t 1).val = 0) a0 a1 a2 a3 a4 a5 y := by
  frame_out
  canon_tiles x h
  all_goals
    unfold_payloads
    idx_vars x
    first
    | have hb : 128 ≤ (y 0).val := by omega
      refine (head_apply False _ _ _ _ _ _ _ _ _ _ _ _ _ _ _ _ _ _ _ _ _ _ _ windowT_apply lag_real rfl (by decide) (by decide) (by decide) (by decide) _ _).trans ?_
    | refine (head_apply _ _ _ _ _ _ _ _ _ _ _ _ _ _ _ _ _ _ _ _ _ _ _ _ (firstT_apply (grid0.coords t)) lag_real rfl (by decide) (by decide) (by decide) (by decide) _ _).trans ?_
    first
    | rw [block_eq _ _ _ _ _ _ _ y h0 h1 rfl rfl (by decide) (by decide)]
    | rw [block_eq _ _ _ _ _ _ _ y (h0.trans (Nat.zero_add _).symm) h1 rfl rfl (by decide) (by decide)]
    | rw [block_eq _ _ _ _ _ _ _ y h0 (h1.trans (Nat.zero_add _).symm) rfl rfl (by decide) (by decide)]
    | rw [block_eq _ _ _ _ _ _ _ y (h0.trans (Nat.zero_add _).symm) (h1.trans (Nat.zero_add _).symm) rfl rfl (by decide) (by decide)]
    unfold blockAt
    congr 1
    · simp
    · simp [Cert.Attention.slope]; done
    · pointwise [(hs0_0 t).read_unread]
    · funext e
      pointwise [(hs0_1 t).read_unread]
    · funext r e
      first
      | have hb : 128 ≤ (y 0).val := by omega
        refine cat_mid _ a2 a3 _ _ _ _ _ ?_ _ ?_ ?_ _ _ _ ?_
        · exact whole_cur (hs0_2 t) a2 _ _
        · rfl
        · rfl
        · exact Fin.ext (by simp)
      | refine cat_first _ _ a2 a3 _ _ ?_ ?_ _ ?_ _ _ _ ?_
        · exact whole_cur (hs0_2 t) a2 _ _
        · exact whole_prev (hs0_3 t) a3 _ _
        · rfl
        · exact Fin.ext (by simp)
    · funext r
      first
      | have hb : 128 ≤ (y 0).val := by omega
        refine cat_mid _ a4 a5 _ _ _ _ _ ?_ _ ?_ ?_ _ _ _ ?_
        · exact whole_cur (hs0_4 t) a4 _ _
        · rfl
        · rfl
        · exact Fin.ext (by simp)
      | refine cat_first _ _ a4 a5 _ _ ?_ ?_ _ ?_ _ _ _ ?_
        · exact whole_cur (hs0_4 t) a4 _ _
        · exact whole_prev (hs0_5 t) a5 _ _
        · rfl
        · exact Fin.ext (by simp)

end Cert.MixKernelIdeal.Blocks
-- ==== Proof.Stages.lean ====
/- The reference's attention, stage by stage, each stage read at an index. -/
module

public import proofs.«01_k».proof.Proof.Gen.MixReferenceIdeal.Run
public import proofs.«01_k».proof.Proof.Attention
public import Idealize.ShloMosaic.Lib.Tactic.CleanTypes
public import Idealize.ShloMosaic.Lib.Pointwise
public import Idealize.ShloMosaic.Lib.Tactic.WordOmega

@[expose] public section

set_option maxRecDepth 16384

noncomputable section

namespace Cert.MixReferenceIdeal.Stages

open Idealize.ShloMosaic Idealize.ShloMosaic.TcCoe
open Cert.MixReferenceIdeal Cert.MixReferenceIdeal.Gen Cert.Attention Cert.MixReferenceIdeal.Value

/-- Every chunk of 128 rows after the chunk before it, zeros before a sequence's first. -/
def keys (A : FVec Ideal S33792x128 .f32) : FVec Ideal S8x32x256x2x64 .f32 :=
  concatenate S8x32x256x2x64 2 [⟨S8x32x128x2x64, (pad S8x32x128x2x64 ![0, 1, 0, 0, 0] ![0, 0, 0, 0, 0] ![0, 0, 0, 0, 0] (extractStridedSlice S8x31x128x2x64 ![0, 0, 0, 0, 0] (shapeCast _ (extractStridedSlice S32768x128 ![0, 0] A slices_S33792x128_S32768x128_0_0) shapeCasts_S32768x128_S8x32x128x2x64) slices_S8x32x128x2x64_S8x31x128x2x64_0_0_0_0_0) (sitofp .f32 (constantI S_ 32 0#32)) pads_S8x31x128x2x64_S8x32x128x2x64_000_100_000_000_000 h_S_)⟩, ⟨S8x32x128x2x64, (shapeCast _ (extractStridedSlice S32768x128 ![0, 0] A slices_S33792x128_S32768x128_0_0) shapeCasts_S32768x128_S8x32x128x2x64)⟩] concatenates_S8x32x128x2x64_S8x32x128x2x64_S8x32x256x2x64_d2

/-- How far row `r` of the two chunks lies behind row `i` of the second. -/
def lags : IVec S128x256 32 :=
  addi (subi (broadcastInDim S128x256 ![0, 1] bcast_S128x1_S128x256_0_1 (broadcastInDim S128x1 ![0] bcast_S128_S128x1_0 (iotaInDim S128 32 0))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32))

/-- The rows a chunk's rows attend to. -/
def masks : IVec S32x128x256 1 :=
  andi (broadcastInDim S32x128x256 ![0, 1, 2] bcast_S1x128x256_S32x128x256_0_1_2 (broadcastInDim S1x128x256 ![1, 2] bcast_S128x256_S1x128x256_1_2 (andi (cmpi .sge lags (broadcastInDim S128x256 ![] bcast_S_S128x256 (constantI S_ 32 0#32))) (cmpi .slt lags (broadcastInDim S128x256 ![] bcast_S_S128x256 (constantI S_ 32 128#32)))))) (broadcastInDim S32x128x256 ![0, 1, 2] bcast_S32x1x256_S32x128x256_0_1_2 (ori (broadcastInDim S32x1x256 ![0, 1, 2] bcast_S32x1x1_S32x1x256_0_1_2 (broadcastInDim S32x1x1 ![0] bcast_S32_S32x1x1_0 (cmpi .sgt (iotaInDim S32 32 0) (broadcastInDim S32 ![] bcast_S_S32 (constantI S_ 32 0#32))))) (broadcastInDim S32x1x256 ![0, 1, 2] bcast_S1x1x256_S32x1x256_0_1_2 (broadcastInDim S1x1x256 ![1, 2] bcast_S1x256_S1x1x256_1_2 (cmpi .sge (broadcastInDim S1x256 ![1] bcast_S256_S1x256_1 (iotaInDim S256 32 0)) (broadcastInDim S1x256 ![] bcast_S_S1x256 (constantI S_ 32 128#32)))))))

def scores (Q : FVec Ideal S33792x512 .bf16) (K : FVec Ideal S33792x128 .f32) : FVec Ideal S8x32x2x4x128x256 .f32 :=
  select (broadcastInDim S8x32x2x4x128x256 ![1, 2, 3, 4, 5] bcast_S32x1x1x128x256_S8x32x2x4x128x256_1_2_3_4_5 (broadcastInDim S32x1x1x128x256 ![0, 3, 4] bcast_S32x128x256_S32x1x1x128x256_0_3_4 masks)) (subf (transpose S8x32x2x4x128x256 [0, 1, 2, 5, 4, 3] (Host.dotGeneral dot_S8x32x256x2x64_S8x32x128x2x4x64_S8x32x2x256x128x4_4_5_2_24_013_013 none (keys K) (shapeCast _ (extf .f32 (extractStridedSlice S32768x512 ![0, 0] Q slices_S33792x512_S32768x512_0_0) bitsLt_bf16_f32) shapeCasts_S32768x512_S8x32x128x2x4x64)) transposes_S8x32x2x256x128x4_S8x32x2x4x128x256_0_1_2_5_4_3) (broadcastInDim S8x32x2x4x128x256 ![0, 1, 2, 3, 4, 5] bcast_S1x1x2x4x128x256_S8x32x2x4x128x256_0_1_2_3_4_5 (broadcastInDim S1x1x2x4x128x256 ![2, 3, 4, 5] bcast_S2x4x128x256_S1x1x2x4x128x256_2_3_4_5 (mulf (broadcastInDim S2x4x128x256 ![0, 1, 2, 3] bcast_S2x4x1x1_S2x4x128x256_0_1_2_3 (shapeCast _ ((fun i => FloatOps.ofBits .f32 (lit0 (S8.rowMajor i)))) shapeCasts_S8_S2x4x1x1)) (broadcastInDim S2x4x128x256 ![0, 1, 2, 3] bcast_S1x1x128x256_S2x4x128x256_0_1_2_3 (broadcastInDim S1x1x128x256 ![2, 3] bcast_S128x256_S1x1x128x256_2_3 (sitofp .f32 lags))))))) (broadcastInDim S8x32x2x4x128x256 ![] bcast_S_S8x32x2x4x128x256 (id (constant S_ .f32 0xFF800000#32)))

/-- The scores with the head's sink after them. -/
def cats (sinks : FVec Ideal S8 .f32) (Q : FVec Ideal S33792x512 .bf16) (K : FVec Ideal S33792x128 .f32) : FVec Ideal S8x32x2x4x128x257 .f32 :=
  concatenate S8x32x2x4x128x257 5 [⟨S8x32x2x4x128x256, (scores Q K)⟩, ⟨S8x32x2x4x128x1, (broadcastInDim S8x32x2x4x128x1 ![2, 3, 4, 5] bcast_S2x4x1x1_S8x32x2x4x128x1_2_3_4_5 (shapeCast _ sinks shapeCasts_S8_S2x4x1x1))⟩] concatenates_S8x32x2x4x128x256_S8x32x2x4x128x1_S8x32x2x4x128x257_d5

/-- The largest entry of every row. -/
def tops (C : FVec Ideal S8x32x2x4x128x257 .f32) : FVec Ideal S8x32x2x4x128 .f32 :=
  Host.reduce FloatOps.maximumf C (constant S_ .f32 0xFF800000#32) reducesTo_S8x32x2x4x128x257_S8x32x2x4x128_d5 h_S_

def exps (C : FVec Ideal S8x32x2x4x128x257 .f32) : FVec Ideal S8x32x2x4x128x257 .f32 :=
  Host.exp (subf C (broadcastInDim S8x32x2x4x128x257 ![0, 1, 2, 3, 4, 5] bcast_S8x32x2x4x128x1_S8x32x2x4x128x257_0_1_2_3_4_5 (broadcastInDim S8x32x2x4x128x1 ![0, 1, 2, 3, 4] bcast_S8x32x2x4x128_S8x32x2x4x128x1_0_1_2_3_4 (maximumf (broadcastInDim S8x32x2x4x128 ![] bcast_S_S8x32x2x4x128 (constant S_ .f32 0xFF800000#32)) (tops C)))))

def sums (C : FVec Ideal S8x32x2x4x128x257 .f32) : FVec Ideal S8x32x2x4x128 .f32 :=
  Host.reduceAdd (exps C) (constant S_ .f32 0x00000000#32) reducesTo_S8x32x2x4x128x257_S8x32x2x4x128_d5 h_S_

def probs (C : FVec Ideal S8x32x2x4x128x257 .f32) : FVec Ideal S8x32x2x4x128x257 .f32 :=
  Host.divf (exps C) (broadcastInDim S8x32x2x4x128x257 ![0, 1, 2, 3, 4, 5] bcast_S8x32x2x4x128x1_S8x32x2x4x128x257_0_1_2_3_4_5 (broadcastInDim S8x32x2x4x128x1 ![0, 1, 2, 3, 4] bcast_S8x32x2x4x128_S8x32x2x4x128x1_0_1_2_3_4 (sums C)))

def outs (sinks : FVec Ideal S8 .f32) (Q : FVec Ideal S33792x512 .bf16) (K V : FVec Ideal S33792x128 .f32) : FVec Ideal S32768x512 .bf16 :=
  truncf .bf16 (shapeCast _ (transpose S8x32x128x2x4x64 [0, 1, 5, 2, 4, 3] (Host.dotGeneral dot_S8x32x256x2x64_S8x32x2x4x128x256_S8x32x2x64x4x128_2_5_4_34_013_012 none (keys V) (extractStridedSlice S8x32x2x4x128x256 ![0, 0, 0, 0, 0, 0] (probs (cats sinks Q K)) slices_S8x32x2x4x128x257_S8x32x2x4x128x256_0_0_0_0_0_0)) transposes_S8x32x2x64x4x128_S8x32x128x2x4x64_0_1_5_2_4_3) shapeCasts_S8x32x128x2x4x64_S32768x512) bitsLt_bf16_f32

theorem res_eq (m : (ℓ : Loc nD τ sig) → Buf (Elt Ideal) ℓ) (c : Dev nD) :
    res_main_v72 m c = outs (m ((c.tc : Thread nD τ).loc main_arg0)) (m ((c.tc : Thread nD τ).loc main_arg1)) (m ((c.tc : Thread nD τ).loc main_arg2)) (m ((c.tc : Thread nD τ).loc main_arg3)) := by
  unfold res_main_v72 outs probs sums exps tops cats scores masks lags keys
  rfl

/-- The chunk `ch` of sequence `b` after the chunk before it, zeros before the first. -/
def past (A : FVec Ideal S33792x128 .f32) (b : Fin 8) (ch : Fin 32) (kh : Fin 2) (r : Fin 256) (d : Fin 64) : EReal :=
  if ch.val = 0 ∧ r.val < 128 then 0 else A (ix2 ⟨b.val * 4096 + ch.val * 128 + r.val - 128, by omega⟩ ⟨kh.val * 64 + d.val, by omega⟩)

theorem past_zero (A : FVec Ideal S33792x128 .f32) (b : Fin 8) (ch : Fin 32) (kh : Fin 2) (r : Fin 256) (d : Fin 64)
    (h : ch.val = 0 ∧ r.val < 128) : past A b ch kh r d = 0 := if_pos h

theorem past_row (A : FVec Ideal S33792x128 .f32) (b : Fin 8) (ch : Fin 32) (kh : Fin 2) (r : Fin 256) (d : Fin 64)
    (h : ¬ (ch.val = 0 ∧ r.val < 128)) (n : Fin 33792) (hn : n.val = b.val * 4096 + ch.val * 128 + r.val - 128) :
    A (ix2 n ⟨kh.val * 64 + d.val, by omega⟩) = past A b ch kh r d := by
  have e : n = ⟨b.val * 4096 + ch.val * 128 + r.val - 128, by omega⟩ := Fin.ext hn
  have e2 := congrArg (fun x : Fin 33792 => A (ix2 x (⟨kh.val * 64 + d.val, by omega⟩ : Fin 128))) e
  exact e2.trans (if_neg h).symm

theorem keys_apply (A : FVec Ideal S33792x128 .f32) (b : Fin 8) (ch : Fin 32) (r : Fin 256) (kh : Fin 2) (d : Fin 64) :
    keys A (ix5 b ch r kh d) = past A b ch kh r d := by
  unfold keys
  pointwise
  have hch := ch.isLt
  have hr := r.isLt
  by_cases h : r.val < 128
  · by_cases h' : ch.val = 0
    · have n1 : ¬ ((1 ≤ ch.val ∧ ch.val - 1 < 31) ∧ r.val < 128) := by omega
      rw [dif_pos h, dif_neg n1, past_zero A b ch kh r d ⟨h', h⟩]
      simp [FloatOps.sitofp]
    · have n1 : (1 ≤ ch.val ∧ ch.val - 1 < 31) ∧ r.val < 128 := by omega
      rw [dif_pos h, dif_pos n1]
      exact past_row A b ch kh r d (by omega) _ (show b.val * 4096 + (ch.val - 1) * 128 + r.val = _ by omega)
  · rw [dif_neg h]
    exact past_row A b ch kh r d (by omega) _ (show b.val * 4096 + ch.val * 128 + (r.val - 128) = _ by omega)

theorem lags_apply (i : Fin 128) (r : Fin 256) : (lags (ix2 i r)).toInt = lag i r := by
  have hi := i.isLt
  have hr := r.isLt
  unfold lags lag
  pointwise
  unfold IntOp.addi IntOp.subi
  rw [BitVec.toInt_eq_toNat_cond, BitVec.toNat_add, BitVec.toNat_sub, BitVec.toNat_ofNat, BitVec.toNat_ofNat]
  simp only [BitVec.toNat_ofNat]
  split <;> omega

theorem and_one (a b : BitVec 1) : IntOp.andi a b = 1#1 ↔ a = 1#1 ∧ b = 1#1 := by
  revert a b; decide

theorem or_one (a b : BitVec 1) : IntOp.ori a b = 1#1 ↔ a = 1#1 ∨ b = 1#1 := by
  revert a b; decide

theorem masks_apply (ch : Fin 32) (i : Fin 128) (r : Fin 256) : masks (ix3 ch i r) = 1#1 ↔ Sees (ch.val = 0) i r := by
  have h := lags_apply i r
  have hch := ch.isLt
  have hr := r.isLt
  unfold masks Sees
  pointwise
  have h1 : (BitVec.ofNat 32 ch.val).toInt = ch.val := by
    rw [BitVec.toInt_eq_toNat_cond, BitVec.toNat_ofNat]; split <;> omega
  have h2 : (BitVec.ofNat 32 r.val).toInt = r.val := by
    rw [BitVec.toInt_eq_toNat_cond, BitVec.toNat_ofNat]; split <;> omega
  rw [and_one, and_one, or_one, IntOp.cmpi_sge, IntOp.cmpi_slt, IntOp.cmpi_sgt, IntOp.cmpi_sge, h, h1, h2]
  show ((0 : ℤ) ≤ _ ∧ _ < (128 : ℤ)) ∧ ((0 : ℤ) < _ ∨ (128 : ℤ) ≤ _) ↔ _
  omega

theorem lit_slope (kh : Fin 2) (g : Fin 4) :
    Ideal.ofBits .f32 (lit0 (S8.rowMajor (ix1 ⟨kh.val * 4 + g.val, by omega⟩))) = slope ⟨kh.val * 4 + g.val, by omega⟩ := by
  unfold Cert.Attention.slope
  fin_cases kh <;> fin_cases g <;> congr 1

/-- The row of the batch that is row `i` of chunk `ch` of sequence `b`. -/
def row (b : Fin 8) (ch : Fin 32) (i : Fin 128) : Fin 33792 := ⟨b.val * 4096 + ch.val * 128 + i.val, by omega⟩

/-- A head's scores, as the attention's formula has them. -/
abbrev scoreF (Q : FVec Ideal S33792x512 .bf16) (K : FVec Ideal S33792x128 .f32) (b : Fin 8) (ch : Fin 32) (kh : Fin 2) (g : Fin 4) (i : Fin 128) : Fin 256 → EReal :=
  score (ch.val = 0) (slope ⟨kh.val * 4 + g.val, by omega⟩) (fun e => Q (ix2 (row b ch i) ⟨kh.val * 256 + g.val * 64 + e.val, by omega⟩)) (past K b ch kh) i

theorem scores_apply (Q : FVec Ideal S33792x512 .bf16) (K : FVec Ideal S33792x128 .f32) (b : Fin 8) (ch : Fin 32) (kh : Fin 2) (g : Fin 4) (i : Fin 128) (r : Fin 256) :
    scores Q K (ix6 b ch kh g i r) = scoreF Q K b ch kh g i r := by
  classical
  unfold scores
  pointwise
  rw [lit_slope]
  unfold Scalar.select scoreF score
  refine if_congr (masks_apply ch i r) ?_ negInf
  rw [← lags_apply]
  refine congrArg (· - _) (Finset.sum_congr rfl fun x _ => ?_)
  rw [keys_apply, mul_comm]
  rfl

theorem cats_apply (sinks : FVec Ideal S8 .f32) (Q : FVec Ideal S33792x512 .bf16) (K : FVec Ideal S33792x128 .f32) (b : Fin 8) (ch : Fin 32) (kh : Fin 2) (g : Fin 4) (i : Fin 128) (r : Fin 257) :
    cats sinks Q K (ix6 b ch kh g i r) = Fin.snoc (α := fun _ => EReal) (scoreF Q K b ch kh g i) (sinks (ix1 ⟨kh.val * 4 + g.val, by omega⟩)) r := by
  unfold cats
  pointwise
  unfold Fin.snoc
  simp only [scores_apply]
  rfl

theorem red : Shape.Reduces S8x32x2x4x128x257 [5] S8x32x2x4x128 := by decide

theorem lift_eq (b : Fin 8) (ch : Fin 32) (kh : Fin 2) (g : Fin 4) (i : Fin 128) (k : Fin 257) :
    red.lift (ix5 b ch kh g i) k = ix6 b ch kh g i k := by
  funext a
  apply Fin.ext
  fin_cases a <;> rfl

/-- A maximum from minus infinity over the scores and the sink. -/
theorem fold_snoc (f : Fin 256 → EReal) (s : EReal) :
    (Finset.univ : Finset (Fin 257)).fold max (Ideal.ofBits .f32 0xFF800000#32) (Fin.snoc (α := fun _ => EReal) f s) = top f s := by
  rw [negInf, Fin.univ_castSuccEmb, Finset.fold_cons, Finset.fold_map, Fin.snoc_last]
  unfold top
  rw [max_comm]
  congr 2
  funext r
  exact Fin.snoc_castSucc ..

theorem fold_max (s : Finset (Fin 257)) (b : EReal) (g : Fin 257 → EReal) :
    s.fold (FloatOps.maximumf (F := Ideal) (φ := .f32)) b g = s.fold max b g := rfl

/-- A maximum along the last axis. -/
theorem max_apply (C : FVec Ideal S8x32x2x4x128x257 .f32) (b : Fin 8) (ch : Fin 32) (kh : Fin 2) (g : Fin 4) (i : Fin 128) :
    tops C (ix5 b ch kh g i)
      = (Finset.univ : Finset (Fin 257)).fold max (Ideal.ofBits .f32 0xFF800000#32) fun r => C (ix6 b ch kh g i r) := by
  refine Eq.trans ?_ (fold_max _ _ _)
  refine (Host.reduce_eq_fold_single FloatOps.maximumf C _ _ red _ _).trans ?_
  exact congrArg (fun w => Finset.fold (FloatOps.maximumf (F := Ideal) (φ := .f32)) (Ideal.ofBits .f32 0xFF800000#32) w (Finset.univ : Finset (Fin 257)))
    (funext fun r => congrArg C (lift_eq b ch kh g i r))

theorem max_at (T : FVec Ideal S8x32x2x4x128 .f32) (b : Fin 8) (ch : Fin 32) (kh : Fin 2) (g : Fin 4) (i : Fin 128) :
    maximumf (broadcastInDim S8x32x2x4x128 ![] bcast_S_S8x32x2x4x128 (constant S_ .f32 0xFF800000#32)) T (ix5 b ch kh g i) = T (ix5 b ch kh g i) :=
  (congrArg (max · _) negInf).trans (max_eq_right bot_le)

theorem spread_at (M : FVec Ideal S8x32x2x4x128 .f32) (b : Fin 8) (ch : Fin 32) (kh : Fin 2) (g : Fin 4) (i : Fin 128) (r : Fin 257) :
    (broadcastInDim S8x32x2x4x128x257 ![0, 1, 2, 3, 4, 5] bcast_S8x32x2x4x128x1_S8x32x2x4x128x257_0_1_2_3_4_5 (broadcastInDim S8x32x2x4x128x1 ![0, 1, 2, 3, 4] bcast_S8x32x2x4x128_S8x32x2x4x128x1_0_1_2_3_4 M)) (ix6 b ch kh g i r) = M (ix5 b ch kh g i) := by
  pointwise

theorem exps_at (C : FVec Ideal S8x32x2x4x128x257 .f32) (b : Fin 8) (ch : Fin 32) (kh : Fin 2) (g : Fin 4) (i : Fin 128) (r : Fin 257) :
    exps C (ix6 b ch kh g i r) = Ideal.exp (C (ix6 b ch kh g i r) - tops C (ix5 b ch kh g i)) := by
  unfold exps
  generalize tops C = T
  exact congrArg (fun z => Ideal.exp (C (ix6 b ch kh g i r) - z)) ((spread_at _ b ch kh g i r).trans (max_at T b ch kh g i))

theorem exps_apply (C : FVec Ideal S8x32x2x4x128x257 .f32) (b : Fin 8) (ch : Fin 32) (kh : Fin 2) (g : Fin 4) (i : Fin 128)
    (f : Fin 256 → EReal) (s : EReal) (hC : ∀ r, C (ix6 b ch kh g i r) = Fin.snoc (α := fun _ => EReal) f s r) (r : Fin 257) :
    exps C (ix6 b ch kh g i r) = Ideal.exp (Fin.snoc (α := fun _ => EReal) f s r - top f s) := by
  have e : tops C (ix5 b ch kh g i) = top f s :=
    (max_apply C b ch kh g i).trans ((congrArg (fun w => Finset.fold max (Ideal.ofBits .f32 0xFF800000#32) w (Finset.univ : Finset (Fin 257))) (funext hC)).trans (fold_snoc f s))
  rw [exps_at, e, hC]

theorem probs_apply (C : FVec Ideal S8x32x2x4x128x257 .f32) (b : Fin 8) (ch : Fin 32) (kh : Fin 2) (g : Fin 4) (i : Fin 128)
    (f : Fin 256 → EReal) (s : EReal) (hC : ∀ r, C (ix6 b ch kh g i r) = Fin.snoc (α := fun _ => EReal) f s r) (r : Fin 256) :
    probs C (ix6 b ch kh g i r.castSucc) = prob f s r := by
  have e : Host.reduceAdd (exps C) (constant S_ .f32 0x00000000#32) reducesTo_S8x32x2x4x128x257_S8x32x2x4x128_d5 h_S_ (ix5 b ch kh g i) = den f s := by
    refine (Ideal.hostReduceAdd_single _ red _ _ _).trans ?_
    have e : ∀ k, exps C (red.lift (ix5 b ch kh g i) k) = Ideal.exp (Fin.snoc (α := fun _ => EReal) f s k - top f s) := fun k =>
      (congrArg (exps C) (lift_eq b ch kh g i k)).trans (exps_apply C b ch kh g i f s hC k)
    refine (congrArg (_ + ·) (Finset.sum_congr rfl fun k _ => e k)).trans ?_
    refine (congrArg (_ + ·) (Fin.sum_univ_castSucc (n := 256) _)).trans ?_
    simp only [Fin.snoc_castSucc, Fin.snoc_last]
    have z : constant (F := Ideal) S_ .f32 0x00000000#32 (Shape.Idx.first h_S_) = (0 : EReal) := by pointwise
    rw [z]
    exact zero_add (den f s)
  have e' := exps_apply C b ch kh g i f s hC r.castSucc
  have e2 : sums C (ix5 b ch kh g i) = den f s := e
  unfold probs
  generalize sums C = T at e2 ⊢
  generalize exps C = E at e' ⊢
  pointwise [e2, e']
  rw [Fin.snoc_castSucc]
  rfl

theorem outs_apply (sinks : FVec Ideal S8 .f32) (Q : FVec Ideal S33792x512 .bf16) (K V : FVec Ideal S33792x128 .f32)
    (b : Fin 8) (ch : Fin 32) (i : Fin 128) (kh : Fin 2) (g : Fin 4) (d : Fin 64) (n : Fin 32768) (e : Fin 512)
    (hn : n.val = b.val * 4096 + ch.val * 128 + i.val) (he : e.val = kh.val * 256 + g.val * 64 + d.val) :
    outs sinks Q K V (ix2 n e) = att (ch.val = 0) (slope ⟨kh.val * 4 + g.val, by omega⟩) (sinks (ix1 ⟨kh.val * 4 + g.val, by omega⟩))
      (fun e => Q (ix2 (row b ch i) ⟨kh.val * 256 + g.val * 64 + e.val, by omega⟩)) (past K b ch kh) (fun r => past V b ch kh r d) i := by
  have b1 : (⟨n.val / 4096, by omega⟩ : Fin 8) = b := Fin.ext (by simp only; omega)
  have b2 : (⟨n.val / 128 % 32, by omega⟩ : Fin 32) = ch := Fin.ext (by simp only; omega)
  have b3 : (⟨n.val % 128, by omega⟩ : Fin 128) = i := Fin.ext (by simp only; omega)
  have b4 : (⟨e.val / 256, by omega⟩ : Fin 2) = kh := Fin.ext (by simp only; omega)
  have b5 : (⟨e.val / 64 % 4, by omega⟩ : Fin 4) = g := Fin.ext (by simp only; omega)
  have b6 : (⟨e.val % 64, by omega⟩ : Fin 64) = d := Fin.ext (by simp only; omega)
  unfold outs
  pointwise
  simp only [b1, b2, b3, b4, b5, b6]
  unfold att
  refine Finset.sum_congr rfl fun r _ => ?_
  rw [keys_apply, mul_comm]
  exact congrArg (· * _) (probs_apply _ b ch kh g i _ _ (cats_apply sinks Q K b ch kh g i) r)

end Cert.MixReferenceIdeal.Stages
-- ==== Proof.Gates.lean ====
/- What one run of the kernel body leaves in the spatial gate's output block, read at an index. -/
module

public import proofs.«01_k».proof.Proof.Gen.MixKernelIdeal.Value
public import proofs.«01_k».proof.Proof.Heads

@[expose] public section

set_option maxRecDepth 16384

noncomputable section

namespace Cert.MixKernelIdeal.Gates

open Idealize.ShloMosaic Idealize.ShloMosaic.TcCoe
open Cert.MixKernelIdeal Cert.MixKernelIdeal.Gen Cert.Attention Cert.MixKernelIdeal.Heads

/-- One entry of the gated mix of the rows of a chunk: row `t` of the lower triangle of `w` against the rows, plus the bias, times the gate. -/
def gate (w : Fin 128 → Fin 128 → EReal) (vn : Fin 128 → EReal) (bias u : EReal) (t : Fin 128) : EReal :=
  u * ((∑ s : Fin 128, (if s ≤ t then w t s else 0) * vn s) + bias)

/-- The entry of the gate's block at row `R + t` and column `C + d`. -/
def gateAt (x6 : Vec Ideal S512x512 .f32) (x7 : Vec Ideal S512x512 .bf16) (x8 : Vec Ideal S4x128x128 .f32) (x9 : Vec Ideal S128x512 .f32)
    (jq : Fin 4) (g : Fin 4) (t d : Fin 128) : EReal :=
  gate (fun t s => x8 (ix3 g t s)) (fun s => x6 (ix2 ⟨128 * jq.val + s.val, by omega⟩ ⟨128 * g.val + d.val, by omega⟩))
    (x9 (ix2 t ⟨128 * g.val + d.val, by omega⟩)) (x7 (ix2 ⟨128 * jq.val + t.val, by omega⟩ ⟨128 * g.val + d.val, by omega⟩)) t

/-- The same at a row and a column of the block. -/
def gateBlock (x6 : Vec Ideal S512x512 .f32) (x7 : Vec Ideal S512x512 .bf16) (x8 : Vec Ideal S4x128x128 .f32) (x9 : Vec Ideal S128x512 .f32) (y : S512x512.Idx) : EReal :=
  have h0 : (y 0).val < 512 := (y 0).isLt
  have h1 : (y 1).val < 512 := (y 1).isLt
  gateAt x6 x7 x8 x9 ⟨(y 0).val / 128, by omega⟩ ⟨(y 1).val / 128, by omega⟩ ⟨(y 0).val % 128, by omega⟩ ⟨(y 1).val % 128, by omega⟩

theorem gateBlock_eq (x6 : Vec Ideal S512x512 .f32) (x7 : Vec Ideal S512x512 .bf16) (x8 : Vec Ideal S4x128x128 .f32) (x9 : Vec Ideal S128x512 .f32)
    (y : S512x512.Idx) {R C : Nat} {t d : Fin 128}
    (h0 : (y 0).val = R + t.val) (h1 : (y 1).val = C + d.val) (hR : R % 128 = 0) (hC : C % 128 = 0) (bR : R < 512) (bC : C < 512) :
    gateBlock x6 x7 x8 x9 y = gateAt x6 x7 x8 x9 ⟨R / 128, by omega⟩ ⟨C / 128, by omega⟩ t d := by
  unfold gateBlock
  dsimp only
  congr 1 <;> apply Fin.ext <;> simp only [h0, h1] <;> omega

/-- The lower triangle, kept by comparing row and column numbers. -/
theorem select_le (t s : Fin 128) (a : EReal) :
    Scalar.select (IntOp.cmpi .sge (BitVec.ofNat 32 t.val) (BitVec.ofNat 32 s.val)) a 0 = if s ≤ t then a else 0 := by
  have ht : (BitVec.ofNat 32 t.val).toInt = t.val := by
    rw [BitVec.toInt_eq_toNat_cond, BitVec.toNat_ofNat]; split <;> omega
  have hs : (BitVec.ofNat 32 s.val).toInt = s.val := by
    rw [BitVec.toInt_eq_toNat_cond, BitVec.toNat_ofNat]; split <;> omega
  unfold Scalar.select
  refine if_congr ?_ rfl rfl
  refine IntOp.cmpi_sge.trans ?_
  rw [ht, hs]
  exact Int.ofNat_le

set_option maxHeartbeats 4000000 in
theorem out_m (c : Dev nD) (t : Fin grid0.N) (a0 : Vec Ideal S8 .f32) (a1 : Vec Ideal S512x512 .bf16) (a2 : Vec Ideal S512x128 .f32) (a3 : Vec Ideal S128x128 .f32) (a4 : Vec Ideal S512x128 .f32) (a5 : Vec Ideal S128x128 .f32) (a6 : Vec Ideal S512x512 .f32) (a7 : Vec Ideal S512x512 .bf16) (a8 : Vec Ideal S4x128x128 .f32) (a9 : Vec Ideal S128x512 .f32) (y : S512x512.Idx) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) a0 a1 a2 a3 a4 a5 a6 a7 a8 a9 y
      = gateBlock a6 a7 a8 a9 y := by
  frame_out
  canon_tiles x h
  all_goals
    unfold_payloads
    idx_vars x
    first
    | rw [gateBlock_eq _ _ _ _ y h0 h1 rfl rfl (by decide) (by decide)]
    | rw [gateBlock_eq _ _ _ _ y (h0.trans (Nat.zero_add _).symm) h1 rfl rfl (by decide) (by decide)]
    | rw [gateBlock_eq _ _ _ _ y h0 (h1.trans (Nat.zero_add _).symm) rfl rfl (by decide) (by decide)]
    | rw [gateBlock_eq _ _ _ _ y (h0.trans (Nat.zero_add _).symm) (h1.trans (Nat.zero_add _).symm) rfl rfl (by decide) (by decide)]
    unfold gateAt gate
    pointwise [(hs0_6 t).read_unread, (hs0_7 t).read_unread, (hs0_8 t).read_unread, (hs0_9 t).read_unread]
    refine congrArg (_ * ·) (congrArg (· + _) (Finset.sum_congr rfl fun s _ => ?_))
    rw [select_le]
    split
    · rfl
    · exact (zero_mul _).symm

end Cert.MixKernelIdeal.Gates
-- ==== Proof.RefGate.lean ====
/- The reference's spatial gate, read at an index. -/
module

public import proofs.«01_k».proof.Proof.Stages
public import proofs.«01_k».proof.Proof.Gates

@[expose] public section

set_option maxRecDepth 16384

noncomputable section

namespace Cert.MixReferenceIdeal.Stages

open Idealize.ShloMosaic Idealize.ShloMosaic.TcCoe
open Cert.MixReferenceIdeal Cert.MixReferenceIdeal.Gen Cert.MixKernelIdeal.Gates

/-- The lower triangle of ones. -/
def tril : FVec Ideal S128x128 .f32 :=
  select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))

/-- The mix of the rows of every chunk. -/
def mixed (VN : FVec Ideal S33792x512 .f32) (W : FVec Ideal S4x128x128 .f32) : FVec Ideal S4x8x32x128x128 .f32 :=
  Host.dotGeneral dot_S8x32x128x4x128_S4x128x128_S4x8x32x128x128_2_2_014_1_3_0 none (shapeCast _ (extractStridedSlice S32768x512 ![0, 0] VN slices_S33792x512_S32768x512_0_0) shapeCasts_S32768x512_S8x32x128x4x128) (mulf W (broadcastInDim S4x128x128 ![0, 1, 2] bcast_S1x128x128_S4x128x128_0_1_2 (broadcastInDim S1x128x128 ![1, 2] bcast_S128x128_S1x128x128_1_2 tril)))

def gated (VN : FVec Ideal S33792x512 .f32) (U : FVec Ideal S33792x512 .bf16) (W : FVec Ideal S4x128x128 .f32) (B : FVec Ideal S4x128 .f32) : FVec Ideal S32768x512 .bf16 :=
  truncf .bf16 (mulf (extf .f32 (extractStridedSlice S32768x512 ![0, 0] U slices_S33792x512_S32768x512_0_0) bitsLt_bf16_f32) (shapeCast _ (addf (transpose S8x32x128x4x128 [1, 2, 4, 0, 3] (mixed VN W) transposes_S4x8x32x128x128_S8x32x128x4x128_1_2_4_0_3) (broadcastInDim S8x32x128x4x128 ![0, 1, 2, 3, 4] bcast_S1x1x128x4x1_S8x32x128x4x128_0_1_2_3_4 (broadcastInDim S1x1x128x4x1 ![2, 3, 4] bcast_S128x4x1_S1x1x128x4x1_2_3_4 (broadcastInDim S128x4x1 ![0, 1] bcast_S128x4_S128x4x1_0_1 (transpose S128x4 [1, 0] B transposes_S4x128_S128x4_1_0))))) shapeCasts_S8x32x128x4x128_S32768x512)) bitsLt_bf16_f32

theorem tril_apply (t s : Fin 128) : tril (ix2 t s) = if s ≤ t then 1 else 0 := by
  have ht : (BitVec.ofNat 32 t.val + 0#32 : BitVec 32).toInt = t.val := by
    rw [BitVec.add_zero, BitVec.toInt_eq_toNat_cond, BitVec.toNat_ofNat]; split <;> omega
  have hs : (BitVec.ofNat 32 s.val).toInt = s.val := by
    rw [BitVec.toInt_eq_toNat_cond, BitVec.toNat_ofNat]; split <;> omega
  show Scalar.select (IntOp.cmpi .sge (BitVec.ofNat 32 t.val + 0#32) (BitVec.ofNat 32 s.val)) (Ideal.ofBits .f32 0x3F800000#32) (Ideal.ofBits .f32 0x00000000#32) = _
  rw [Ideal.ofBits_one_f32, Ideal.ofBits_zero_f32]
  unfold Scalar.select
  refine if_congr ?_ rfl rfl
  refine IntOp.cmpi_sge.trans ?_
  rw [ht, hs]
  exact Int.ofNat_le

theorem mixed_apply (VN : FVec Ideal S33792x512 .f32) (W : FVec Ideal S4x128x128 .f32) (b : Fin 8) (ch : Fin 32) (t : Fin 128) (g : Fin 4) (d : Fin 128) :
    mixed VN W (ix5 g b ch d t) = ∑ s : Fin 128, (if s ≤ t then W (ix3 g t s) else 0) * VN (ix2 (row b ch s) ⟨g.val * 128 + d.val, by omega⟩) := by
  unfold mixed
  have e := tril_apply
  generalize tril = T at e ⊢
  pointwise
  refine Finset.sum_congr rfl fun s _ => ?_
  rw [e, mul_comm]
  refine congr (congrArg (fun x y : EReal => x * y) ?_) ?_
  · split
    · exact mul_one _
    · exact mul_zero _
  · rfl

theorem gated_apply (VN : FVec Ideal S33792x512 .f32) (U : FVec Ideal S33792x512 .bf16) (W : FVec Ideal S4x128x128 .f32) (B : FVec Ideal S4x128 .f32)
    (b : Fin 8) (ch : Fin 32) (t : Fin 128) (g : Fin 4) (d : Fin 128) (n : Fin 32768) (e : Fin 512)
    (hn : n.val = b.val * 4096 + ch.val * 128 + t.val) (he : e.val = g.val * 128 + d.val) :
    gated VN U W B (ix2 n e) = gate (fun t s => W (ix3 g t s)) (fun s => VN (ix2 (row b ch s) ⟨g.val * 128 + d.val, by omega⟩)) (B (ix2 g t))
      (U (ix2 (row b ch t) ⟨g.val * 128 + d.val, by omega⟩)) t := by
  have b1 : (⟨n.val / 4096, by omega⟩ : Fin 8) = b := Fin.ext (by simp only; omega)
  have b2 : (⟨n.val / 128 % 32, by omega⟩ : Fin 32) = ch := Fin.ext (by simp only; omega)
  have b3 : (⟨n.val % 128, by omega⟩ : Fin 128) = t := Fin.ext (by simp only; omega)
  have b4 : (⟨e.val / 128, by omega⟩ : Fin 4) = g := Fin.ext (by simp only; omega)
  have b5 : (⟨e.val % 128, by omega⟩ : Fin 128) = d := Fin.ext (by simp only; omega)
  have hm := mixed_apply VN W b ch t g d
  unfold gated gate
  generalize mixed VN W = M at hm ⊢
  pointwise
  simp only [b1, b2, b3, b4, b5]
  rw [hm]
  have en : (⟨n.val, by omega⟩ : Fin 33792) = row b ch t := Fin.ext hn
  have ee : e = (⟨g.val * 128 + d.val, by omega⟩ : Fin 512) := Fin.ext he
  rw [← en, ← ee]

end Cert.MixReferenceIdeal.Stages
-- ==== Proof.Arrays.lean ====
/- The kernel's two output arrays after the run are the reference's two results of the same arguments. -/
module

public import proofs.«01_k».proof.Proof.Blocks
public import proofs.«01_k».proof.Proof.RefGate
public import Idealize.ShloMosaic.Lib.Pipeline.ValueKit
public import Idealize.ShloMosaic.Lib.Claim

@[expose] public section

set_option maxRecDepth 16384

noncomputable section

namespace Cert.MixKernelIdeal.Arrays

open Idealize.ShloMosaic Idealize.ShloMosaic.TcCoe Idealize.SL.Sem
open Cert.MixKernelIdeal Cert.MixKernelIdeal.Gen Cert.Attention Cert.MixKernelIdeal.Blocks Cert.MixKernelIdeal.Gates
open Cert.MixReferenceIdeal.Stages (outs outs_apply past past_row row gated gated_apply)

/-- A block's attention is the reference's, where the block's inputs are the arguments' rows. -/
theorem blockAt_outs (T : Fin 64) (start : Prop) (hstart : start ↔ T.val % 8 = 0)
    (S : FVec Ideal S8 .f32) (Q : FVec Ideal S33792x512 .bf16) (K V : FVec Ideal S33792x128 .f32)
    (fS : ∀ i, ∃ r : ℝ, S i = r) (fQ : ∀ i, ∃ r : ℝ, Q i = r) (fK : ∀ i, ∃ r : ℝ, K i = r)
    (x0 : Vec Ideal S8 .f32) (x1 : Vec Ideal S512x512 .bf16) (x2 : Vec Ideal S512x128 .f32) (x3 : Vec Ideal S128x128 .f32)
    (x4 : Vec Ideal S512x128 .f32) (x5 : Vec Ideal S128x128 .f32)
    (e0 : x0 = S) (e1 : ∀ (a c : Fin 512) (n : Fin 33792), n.val = 512 * T.val + a.val → x1 (ix2 a c) = Q (ix2 n c))
    (e2 : ∀ (a : Fin 512) (c : Fin 128) (n : Fin 33792), n.val = 512 * T.val + a.val → x2 (ix2 a c) = K (ix2 n c))
    (e3 : ∀ (a : Fin 128) (c : Fin 128) (n : Fin 33792), n.val = 128 * (4 * T.val - 1) + a.val → x3 (ix2 a c) = K (ix2 n c))
    (e4 : ∀ (a : Fin 512) (c : Fin 128) (n : Fin 33792), n.val = 512 * T.val + a.val → x4 (ix2 a c) = V (ix2 n c))
    (e5 : ∀ (a : Fin 128) (c : Fin 128) (n : Fin 33792), n.val = 128 * (4 * T.val - 1) + a.val → x5 (ix2 a c) = V (ix2 n c))
    (jq : Fin 4) (h : Fin 8) (i : Fin 128) (d : Fin 64) (n : Fin 32768) (e : Fin 512)
    (hn : n.val = 512 * T.val + 128 * jq.val + i.val) (he : e.val = 64 * h.val + d.val) :
    blockAt start x0 x1 x2 x3 x4 x5 jq h i d = outs S Q K V (ix2 n e) := by
  have hT := T.isLt
  have hj := jq.isLt
  have hh := h.isLt
  rw [outs_apply S Q K V ⟨T.val / 8, by omega⟩ ⟨4 * (T.val % 8) + jq.val, by omega⟩ i ⟨h.val / 4, by omega⟩ ⟨h.val % 4, by omega⟩ d n e
    (by simp only; omega) (by simp only; omega)]
  have eh : (⟨h.val / 4 * 4 + h.val % 4, by omega⟩ : Fin 8) = h := Fin.ext (by simp only; omega)
  have ef : (start ∧ jq = 0) = (4 * (T.val % 8) + jq.val = 0) := propext (by
    rw [hstart, Fin.ext_iff]
    show _ ∧ jq.val = 0 ↔ _
    omega)
  have eqq : (fun e : Fin 64 => x1 (ix2 (⟨128 * jq.val + i.val, by omega⟩ : Fin 512) (⟨64 * h.val + e.val, by omega⟩ : Fin 512)))
      = fun e : Fin 64 => Q (ix2 (row ⟨T.val / 8, by omega⟩ ⟨4 * (T.val % 8) + jq.val, by omega⟩ i) (⟨h.val / 4 * 256 + h.val % 4 * 64 + e.val, by omega⟩ : Fin 512)) := by
    funext e
    have ec : (⟨64 * h.val + e.val, by omega⟩ : Fin 512) = ⟨h.val / 4 * 256 + h.val % 4 * 64 + e.val, by omega⟩ := Fin.ext (by simp only; omega)
    rw [ec]
    exact e1 _ _ _ (by unfold row; simp only; omega)
  have seen : ∀ r : Fin 256, Sees (4 * (T.val % 8) + jq.val = 0) i r → ¬ (4 * (T.val % 8) + jq.val = 0 ∧ r.val < 128) := by
    rintro r ⟨_, _, h3⟩ ⟨h4, h5⟩
    have := h3 h4
    omega
  have hcat : ∀ (A : FVec Ideal S33792x128 .f32) (cur : S512x128.Idx → EReal) (prev : S128x128.Idx → EReal)
      (ec : ∀ (a : Fin 512) (c : Fin 128) (n : Fin 33792), n.val = 512 * T.val + a.val → cur (ix2 a c) = A (ix2 n c))
      (ep : ∀ (a : Fin 128) (c : Fin 128) (n : Fin 33792), n.val = 128 * (4 * T.val - 1) + a.val → prev (ix2 a c) = A (ix2 n c))
      (r : Fin 256) (hr : Sees (4 * (T.val % 8) + jq.val = 0) i r) (d : Fin 64),
      cat cur prev jq r ⟨64 * (h.val / 4) + d.val, by omega⟩
        = past A ⟨T.val / 8, by omega⟩ ⟨4 * (T.val % 8) + jq.val, by omega⟩ ⟨h.val / 4, by omega⟩ r d := by
    intro A cur prev ec ep r hr d
    have hs := seen r hr
    have hr' := r.isLt
    obtain ⟨N, hN⟩ : ∃ N : Fin 33792, N.val = T.val / 8 * 4096 + (4 * (T.val % 8) + jq.val) * 128 + r.val - 128 := ⟨⟨_, by omega⟩, rfl⟩
    refine Eq.trans ?_ (past_row A ⟨T.val / 8, by omega⟩ ⟨4 * (T.val % 8) + jq.val, by omega⟩ ⟨h.val / 4, by omega⟩ r d hs N hN)
    have ed : (⟨64 * (h.val / 4) + d.val, by omega⟩ : Fin 128) = ⟨h.val / 4 * 64 + d.val, by omega⟩ := Fin.ext (by simp only; omega)
    refine Eq.trans ?_ (congrArg (fun x : Fin 128 => A (ix2 N x)) ed)
    unfold cat
    split
    · exact ep _ _ N (by simp only; omega)
    · exact ec _ _ N (by simp only; omega)
  subst e0
  unfold blockAt
  rw [ef, eqq]
  show _ = att _ (slope ⟨h.val / 4 * 4 + h.val % 4, _⟩) (x0 (ix1 ⟨h.val / 4 * 4 + h.val % 4, _⟩)) _ _ _ i
  rw [eh]
  refine att_congr (slope_real h) (fS _) (fun d => fQ _) (fun r hr d => ?_) (fun r hr => funext fun d => hcat K x2 x3 e2 e3 r hr d)
    (fun r hr => hcat V x4 x5 e4 e5 r hr d)
  have hr' := r.isLt
  have hs := seen r hr
  obtain ⟨N, hN⟩ : ∃ N : Fin 33792, N.val = T.val / 8 * 4096 + (4 * (T.val % 8) + jq.val) * 128 + r.val - 128 := ⟨⟨_, by omega⟩, rfl⟩
  have hp := past_row K ⟨T.val / 8, by omega⟩ ⟨4 * (T.val % 8) + jq.val, by omega⟩ ⟨h.val / 4, by omega⟩ r d hs N hN
  exact (fK (ix2 N _)).imp fun x hx => (hcat K x2 x3 e2 e3 r hr d).trans (hp.symm.trans hx)

variable (m : (ℓ : Loc nD τ sig) → Buf (Elt Ideal) ℓ)

/-- Every window's block at every grid point. -/
theorem idx : ∀ t : Fin cfg0.N, win0_0.index t = ![0] ∧ win0_1.index t = ![t.val, 0] ∧ win0_2.index t = ![t.val, 0] ∧ win0_3.index t = ![4 * t.val - 1, 0]
    ∧ win0_4.index t = ![t.val, 0] ∧ win0_5.index t = ![4 * t.val - 1, 0] ∧ win0_6.index t = ![t.val, 0] ∧ win0_7.index t = ![t.val, 0]
    ∧ win0_8.index t = ![0, 0, 0] ∧ win0_9.index t = ![0, 0] ∧ win0_10.index t = ![t.val, 0] ∧ win0_11.index t = ![t.val, 0]
    ∧ (grid0.coords t 1).val = t.val % 8 :=
  (by decide +kernel : ∀ t : Fin grid0.N, _)

theorem blk0 (c : Dev nD) (t : Fin cfg0.N) : iblk m c 0 t = m ((c : Thread nD τ).loc main_arg0) := by
  blk_ext! [iblk, V, idx t]

theorem blk1 (c : Dev nD) (t : Fin cfg0.N) (a b : Fin 512) (n : Fin 33792) (h : n.val = 512 * t.val + a.val) :
    iblk m c 1 t (ix2 a b) = m ((c : Thread nD τ).loc main_arg1) (ix2 n b) := by
  blk_ext [iblk, V, idx t]

theorem blk2 (c : Dev nD) (t : Fin cfg0.N) (a : Fin 512) (b : Fin 128) (n : Fin 33792) (h : n.val = 512 * t.val + a.val) :
    iblk m c 2 t (ix2 a b) = m ((c : Thread nD τ).loc main_arg2) (ix2 n b) := by
  blk_ext [iblk, V, idx t]

theorem blk3 (c : Dev nD) (t : Fin cfg0.N) (a : Fin 128) (b : Fin 128) (n : Fin 33792) (h : n.val = 128 * (4 * t.val - 1) + a.val) :
    iblk m c 3 t (ix2 a b) = m ((c : Thread nD τ).loc main_arg2) (ix2 n b) := by
  blk_ext [iblk, V, idx t]

theorem blk4 (c : Dev nD) (t : Fin cfg0.N) (a : Fin 512) (b : Fin 128) (n : Fin 33792) (h : n.val = 512 * t.val + a.val) :
    iblk m c 4 t (ix2 a b) = m ((c : Thread nD τ).loc main_arg3) (ix2 n b) := by
  blk_ext [iblk, V, idx t]

theorem blk5 (c : Dev nD) (t : Fin cfg0.N) (a : Fin 128) (b : Fin 128) (n : Fin 33792) (h : n.val = 128 * (4 * t.val - 1) + a.val) :
    iblk m c 5 t (ix2 a b) = m ((c : Thread nD τ).loc main_arg3) (ix2 n b) := by
  blk_ext [iblk, V, idx t]

theorem blk6 (c : Dev nD) (t : Fin cfg0.N) (a b : Fin 512) (n : Fin 33792) (h : n.val = 512 * t.val + a.val) :
    iblk m c 6 t (ix2 a b) = m ((c : Thread nD τ).loc main_arg4) (ix2 n b) := by
  blk_ext [iblk, V, idx t]

theorem blk7 (c : Dev nD) (t : Fin cfg0.N) (a b : Fin 512) (n : Fin 33792) (h : n.val = 512 * t.val + a.val) :
    iblk m c 7 t (ix2 a b) = m ((c : Thread nD τ).loc main_arg5) (ix2 n b) := by
  blk_ext [iblk, V, idx t]

theorem blk8 (c : Dev nD) (t : Fin cfg0.N) : iblk m c 8 t = m ((c : Thread nD τ).loc main_arg6) := by
  blk_ext! [iblk, V, idx t]

theorem blk9 (c : Dev nD) (t : Fin cfg0.N) (a : Fin 128) (b : Fin 512) (g : Fin 4) (h : g.val = b.val / 128) :
    iblk m c 9 t (ix2 a b) = m ((c : Thread nD τ).loc main_arg7) (ix2 g a) := by
  blk_ext! [iblk, V, idx t]

/-- A block of the gate is the reference's, where the block's inputs are the arguments' rows. -/
theorem gateAt_gated (T : Fin 64) (VN : FVec Ideal S33792x512 .f32) (U : FVec Ideal S33792x512 .bf16) (W : FVec Ideal S4x128x128 .f32) (B : FVec Ideal S4x128 .f32)
    (x6 : Vec Ideal S512x512 .f32) (x7 : Vec Ideal S512x512 .bf16) (x8 : Vec Ideal S4x128x128 .f32) (x9 : Vec Ideal S128x512 .f32)
    (e6 : ∀ (a c : Fin 512) (n : Fin 33792), n.val = 512 * T.val + a.val → x6 (ix2 a c) = VN (ix2 n c))
    (e7 : ∀ (a c : Fin 512) (n : Fin 33792), n.val = 512 * T.val + a.val → x7 (ix2 a c) = U (ix2 n c))
    (e8 : x8 = W) (e9 : ∀ (a : Fin 128) (b : Fin 512) (g : Fin 4), g.val = b.val / 128 → x9 (ix2 a b) = B (ix2 g a))
    (jq g : Fin 4) (t d : Fin 128) (n : Fin 32768) (e : Fin 512)
    (hn : n.val = 512 * T.val + 128 * jq.val + t.val) (he : e.val = 128 * g.val + d.val) :
    gateAt x6 x7 x8 x9 jq g t d = gated VN U W B (ix2 n e) := by
  have hT := T.isLt
  have hj := jq.isLt
  rw [gated_apply VN U W B ⟨T.val / 8, by omega⟩ ⟨4 * (T.val % 8) + jq.val, by omega⟩ t g d n e (by simp only; omega) (by omega)]
  subst e8
  have ec : (⟨128 * g.val + d.val, by omega⟩ : Fin 512) = ⟨g.val * 128 + d.val, by omega⟩ := Fin.ext (by simp only; omega)
  have e1 : (fun s : Fin 128 => x6 (ix2 (⟨128 * jq.val + s.val, by omega⟩ : Fin 512) (⟨128 * g.val + d.val, by omega⟩ : Fin 512)))
      = fun s : Fin 128 => VN (ix2 (row ⟨T.val / 8, by omega⟩ ⟨4 * (T.val % 8) + jq.val, by omega⟩ s) (⟨g.val * 128 + d.val, by omega⟩ : Fin 512)) := by
    funext s
    rw [ec]
    exact e6 _ _ _ (by unfold row; simp only; omega)
  have e2 : x7 (ix2 (⟨128 * jq.val + t.val, by omega⟩ : Fin 512) (⟨128 * g.val + d.val, by omega⟩ : Fin 512))
      = U (ix2 (row ⟨T.val / 8, by omega⟩ ⟨4 * (T.val % 8) + jq.val, by omega⟩ t) (⟨g.val * 128 + d.val, by omega⟩ : Fin 512)) := by
    rw [ec]
    exact e7 _ _ _ (by unfold row; simp only; omega)
  have e3 : x9 (ix2 t (⟨128 * g.val + d.val, by omega⟩ : Fin 512)) = B (ix2 g t) := e9 _ _ _ (by simp only; omega)
  unfold gateAt
  rw [e1, e2, e3]

/-- Every entry of an array is a real number. -/
def AllReal {S : Shape} (A : S.Idx → EReal) : Prop := ∀ i, ∃ r : ℝ, A i = r

/-- The attention's array after the run is the reference's. -/
theorem final_a (c : Dev nD) (fS : AllReal (S := S8) (m ((c : Thread nD τ).loc main_arg0))) (fQ : AllReal (S := S33792x512) (m ((c : Thread nD τ).loc main_arg1)))
    (fK : AllReal (S := S33792x128) (m ((c : Thread nD τ).loc main_arg2))) :
    (dats m 0 c).arrAt 10 cfg0.N = outs (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  have hT : t.val < 64 := t.isLt
  have h0 : (y 0).val < 512 := (y 0).isLt
  have h1 : (y 1).val < 512 := (y 1).isLt
  blk_simp
  rw [after0_10]
  unfold outsAt0
  refine (out_a c t (iblk m c 0 t) (iblk m c 1 t) (iblk m c 2 t) (iblk m c 3 t) (iblk m c 4 t) (iblk m c 5 t) (iblk m c 6 t) (iblk m c 7 t) (iblk m c 8 t) (iblk m c 9 t) y).trans ?_
  unfold block
  dsimp only
  refine (blockAt_outs ⟨t.val, hT⟩ _ ?_ _ _ _ _ fS fQ fK _ _ _ _ _ _ (blk0 m c t) (blk1 m c t) (blk2 m c t) (blk3 m c t) (blk4 m c t) (blk5 m c t) _ _ _ _
    ⟨512 * t.val + (y 0).val, by omega⟩ ⟨(y 1).val, h1⟩ (by simp only; omega) (by simp only; omega)).trans ?_
  · rw [(idx t).2.2.2.2.2.2.2.2.2.2.2.2]
  · blk_ext [idx t]

/-- The gate's array after the run is the reference's. -/
theorem final_m (c : Dev nD) :
    (dats m 0 c).arrAt 11 cfg0.N = gated (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t hf y => ?_
  have hT : t.val < 64 := t.isLt
  have h0 : (y 0).val < 512 := (y 0).isLt
  have h1 : (y 1).val < 512 := (y 1).isLt
  blk_simp
  rw [after0_11]
  unfold outsAt0
  refine (out_m c t (iblk m c 0 t) (iblk m c 1 t) (iblk m c 2 t) (iblk m c 3 t) (iblk m c 4 t) (iblk m c 5 t) (iblk m c 6 t) (iblk m c 7 t) (iblk m c 8 t) (iblk m c 9 t) y).trans ?_
  unfold gateBlock
  dsimp only
  refine (gateAt_gated ⟨t.val, hT⟩ _ _ _ _ _ _ _ _ (blk6 m c t) (blk7 m c t) (blk8 m c t) (blk9 m c t) _ _ _ _
    ⟨512 * t.val + (y 0).val, by omega⟩ ⟨(y 1).val, h1⟩ (by simp only; omega) (by simp only; omega)).trans ?_
  blk_ext [idx t]

end Cert.MixKernelIdeal.Arrays
-- ==== Proof.Finite.lean ====
/- The precondition read back: the sinks, the queries and the keys hold real numbers. -/
module

public import proofs.«01_k».proof.Defs
public import proofs.«01_k».proof.Proof.Attention
public import Idealize.ShloMosaic.Lib.ReduceAll
public import Idealize.ShloMosaic.Lib.Pointwise

@[expose] public section

set_option maxRecDepth 16384

noncomputable section

namespace Cert.Pre_finite_inputs.Read

open Idealize.ShloMosaic Cert.Pre_finite_inputs

/-- The facts the precondition states. -/
instance facts : Cert.Pre_finite_inputs.Facts where
  bcast_S_S8 := by decide
  reducesTo_S8_S_d0 := by decide
  h_S_ := by decide
  bitsLt_bf16_f32 := by decide
  bcast_S_S33792x512 := by decide
  reducesTo_S33792x512_S_d0_1 := by decide
  bcast_S_S33792x128 := by decide
  reducesTo_S33792x128_S_d0_1 := by decide

/-- The pattern of +∞. -/
theorem posInf : Ideal.ofBits .f32 0x7F800000#32 = ⊤ := by
  have h1 : (0x7F800000#32 : BitVec 32).extractLsb' 23 8 = 255#8 := by decide
  have h2 : (0x7F800000#32 : BitVec 32).extractLsb' 0 23 = 0#23 := by decide
  have h3 : (0x7F800000#32 : BitVec 32).extractLsb' 31 1 = 0#1 := by decide
  simp [Ideal.ofBits, Ideal.ieee, h1, h2, h3]

/-- A number whose size is below +∞ is real. -/
theorem real_of_lt (x : EReal) (h : Ideal.cmp .olt (max x (-x)) (Ideal.ofBits .f32 0x7F800000#32) = 1#1) : ∃ r : ℝ, x = r := by
  rw [posInf] at h
  induction x using EReal.rec with
  | bot => simp [Ideal.cmp] at h
  | coe r => exact ⟨r, rfl⟩
  | top => simp [Ideal.cmp] at h

theorem reads (a0 : FVec Ideal S8 .f32) (a1 : FVec Ideal S33792x512 .bf16) (a2 a3 : FVec Ideal S33792x128 .f32) (a4 : FVec Ideal S33792x512 .f32)
    (a5 : FVec Ideal S33792x512 .bf16) (a6 : FVec Ideal S4x128x128 .f32) (a7 : FVec Ideal S4x128 .f32)
    (h : fn a0 a1 a2 a3 a4 a5 a6 a7 = fun _ => 1#1) :
    (∀ i, ∃ r : ℝ, a0 i = r) ∧ (∀ i, ∃ r : ℝ, a1 i = r) ∧ (∀ i, ∃ r : ℝ, a2 i = r) := by
  haveI : Subsingleton S_.Idx := ⟨fun a b => funext fun x => x.elim0⟩
  have h0 := congrFun h (fun x => x.elim0)
  unfold fn at h0
  dsimp only at h0
  obtain ⟨h1, hk⟩ := IntOp.andi_eq_one.1 h0
  obtain ⟨hs, hq⟩ := IntOp.andi_eq_one.1 h1
  exact ⟨fun i => real_of_lt _ (Host.reduce_andi_all _ _ _ _ _ hs i), fun i => real_of_lt _ (Host.reduce_andi_all _ _ _ _ _ hq i),
    fun i => real_of_lt _ (Host.reduce_andi_all _ _ _ _ _ hk i)⟩

end Cert.Pre_finite_inputs.Read
-- ==== Proof.MixClaims.lean ====
/- The claims about the attention and the spatial gate. -/
module

public import proofs.«01_k».proof.Defs
public import proofs.«01_k».proof.Proof.Arrays
public import proofs.«01_k».proof.Proof.Finite
public import proofs.«01_k».proof.Proof.Gen.MixKernel.Frame
public import Idealize.ShloMosaic.Lib.Quiescent

@[expose] public section

set_option maxRecDepth 16384

noncomputable section

namespace Cert.MixClaims

open Idealize.ShloMosaic Idealize.ShloMosaic.TcCoe Idealize.SL.Sem

theorem frame_P : Cert.quiescent_MixKernel := fun m ρ _ => Cert.MixKernel.Gen.frame m ρ

theorem frame_PI : Cert.quiescent_MixKernelIdeal := fun m ρ _ => Cert.MixKernelIdeal.Gen.frame m ρ

theorem frame_PI_pre : Cert.quiescent_MixKernelIdeal_pre_finite_inputs := fun m ρ _ => Cert.MixKernelIdeal.Gen.frame m ρ

theorem frame_RI : Cert.quiescent_MixReferenceIdeal := fun m ρ _ =>
  (θ_run Cert.MixReferenceIdeal.defs _ _).mono (fun r h => ⟨fun c => (h c).2.2,
      Idealize.ShloMosaic.sem_eq_zero_of_no_sems (by decide) r.2⟩)
    (Cert.MixReferenceIdeal.Value.run (F := Ideal) m ρ)

theorem frame_RI_pre : Cert.quiescent_MixReferenceIdeal_pre_finite_inputs := fun m ρ _ => frame_RI m ρ trivial

theorem preserves : Cert.preserves_MixKernel_MixKernelIdeal :=
  IdealRules.named_const.statement Cert.MixKernelIdeal.κ "mask" .f32 0xF149F2CA#32 ⊥ rfl

theorem algebraic : Cert.algebraic_MixKernelIdeal_MixReferenceIdeal_pre_finite_inputs := by
  intro m ρ m' ρ' hpre hag
  have hf := fun c => Cert.Pre_finite_inputs.Read.reads _ _ _ _ _ _ _ _ (hpre c)
  refine ⟨fun c => Cert.MixReferenceIdeal.Stages.outs (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)),
    fun c => Cert.MixReferenceIdeal.Stages.gated (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)), ?_, ?_⟩
  · exact (θ_run _ _ _).mono (fun _ h c => ⟨(h c).1.trans (Cert.MixKernelIdeal.Arrays.final_a m c (hf c).1 (hf c).2.1 (hf c).2.2),
      (h c).2.1.trans (Cert.MixKernelIdeal.Arrays.final_m m c), (h c).2.2⟩) (Cert.MixKernelIdeal.Value.run_blocks m ρ)
  · refine (θ_run _ _ _).mono (fun _ h c => ⟨(h c).1.trans ?_, (h c).2.1.trans ?_, (h c).2.2⟩) (Cert.MixReferenceIdeal.Value.run m' ρ')
    · obtain ⟨e0, e1, e2, e3, _⟩ := hag c
      rw [Cert.MixReferenceIdeal.Stages.res_eq m' c, e0, e1, e2, e3]
    · obtain ⟨_, _, _, _, e4, e5, e6, e7⟩ := hag c
      rw [e4, e5, e6, e7]
      rfl

end Cert.MixClaims
-- ==== Proof.Rows.lean ====
/- One token's arithmetic, as the kernels and the references both compute it: functions of a token's row and of the weights. -/
module

public import Idealize.ShloMosaic.Lib.Pointwise

@[expose] public section

noncomputable section

namespace Cert.Rows

open Idealize.ShloMosaic

/-- The root-mean-square norm of a row of 1024 numbers, with its gains. -/
def rms (x g : Fin 1024 → EReal) (d : Fin 1024) : EReal :=
  x d * Ideal.rsqrt (Ideal.div (∑ e, x e * x e) (Ideal.ofBits .f32 0x44800000#32) + Ideal.ofBits .f32 0x358637BD#32) * g d

/-- A row times a matrix. -/
def times {a b : ℕ} (x : Fin a → EReal) (w : Fin a → Fin b → EReal) (j : Fin b) : EReal := ∑ i, x i * w i j

/-- The layer's last step for one token: its row plus the gated projection of its per-layer embedding. -/
def last (x g : Fin 1024 → EReal) (wg : Fin 1024 → Fin 1024 → EReal) (p : Fin 256 → EReal) (wp : Fin 256 → Fin 1024 → EReal) (j : Fin 1024) : EReal :=
  x j + Ideal.logistic (times (rms x g) wg j) * times p wp j

theorem last_congr {x x' g g' : Fin 1024 → EReal} {wg wg' : Fin 1024 → Fin 1024 → EReal} {p p' : Fin 256 → EReal} {wp wp' : Fin 256 → Fin 1024 → EReal}
    (hx : ∀ e, x e = x' e) (hg : ∀ e, g e = g' e) (hwg : ∀ i e, wg i e = wg' i e) (hp : ∀ e, p e = p' e) (hwp : ∀ i e, wp i e = wp' i e)
    (j : Fin 1024) : last x g wg p wp j = last x' g' wg' p' wp' j := by
  rw [funext hx, funext hg, funext fun i => funext (hwg i), funext hp, funext fun i => funext (hwp i)]

/-- A token's two branches, each projected and gated, added. -/
def mixed (ga gb : Fin 1024 → EReal) (a s : Fin 512 → EReal) (wa wb : Fin 512 → Fin 1024 → EReal) (j : Fin 1024) : EReal :=
  ga j * times a wa j + gb j * times s wb j

/-- A token's row after the mixing half of the layer. -/
def merged (x ga gb : Fin 1024 → EReal) (a s : Fin 512 → EReal) (wa wb : Fin 512 → Fin 1024 → EReal) (wo : Fin 1024 → Fin 1024 → EReal) (j : Fin 1024) : EReal :=
  x j + times (mixed ga gb a s wa wb) wo j

/-- A token's score against key `k` of slab `s`: the key times the slab's 128 query columns. -/
def score (q : Fin 2048 → EReal) (keys : Fin 16 → Fin 128 → Fin 128 → EReal) (s : Fin 16) (k : Fin 128) : EReal :=
  ∑ d : Fin 128, keys s k d * q ⟨128 * s.val + d.val, by omega⟩

/-- Rows of prompt tokens followed by rows of sample tokens. -/
def rows {a : ℕ} (p : Fin 32768 → Fin a → EReal) (s : Fin 1024 → Fin a → EReal) (n : Fin 33792) : Fin a → EReal :=
  if h : n.val < 32768 then p ⟨n.val, h⟩ else s ⟨n.val - 32768, by omega⟩

theorem merged_congr {x x' ga ga' gb gb' : Fin 1024 → EReal} {a a' s s' : Fin 512 → EReal} {wa wa' wb wb' : Fin 512 → Fin 1024 → EReal}
    {wo wo' : Fin 1024 → Fin 1024 → EReal} (hx : ∀ e, x e = x' e) (hga : ∀ e, ga e = ga' e) (hgb : ∀ e, gb e = gb' e) (ha : ∀ e, a e = a' e)
    (hs : ∀ e, s e = s' e) (hwa : ∀ i e, wa i e = wa' i e) (hwb : ∀ i e, wb i e = wb' i e) (hwo : ∀ i e, wo i e = wo' i e) :
    merged x ga gb a s wa wb wo = merged x' ga' gb' a' s' wa' wb' wo' := by
  rw [funext hx, funext hga, funext hgb, funext ha, funext hs, funext fun i => funext (hwa i), funext fun i => funext (hwb i), funext fun i => funext (hwo i)]

theorem score_congr {q q' : Fin 2048 → EReal} {keys keys' : Fin 16 → Fin 128 → Fin 128 → EReal} (hq : q = q') (hk : ∀ s k d, keys s k d = keys' s k d)
    (s : Fin 16) (k : Fin 128) : score q keys s k = score q' keys' s k := by
  rw [hq, funext fun s => funext fun k => funext (hk s k)]

theorem times_congr {a b : ℕ} {x x' : Fin a → EReal} {w w' : Fin a → Fin b → EReal} (hx : ∀ e, x e = x' e) (hw : ∀ i e, w i e = w' i e) : times x w = times x' w' := by
  rw [funext hx, funext fun i => funext (hw i)]

theorem rms_congr {x x' g g' : Fin 1024 → EReal} (hx : ∀ e, x e = x' e) (hg : ∀ e, g e = g' e) : rms x g = rms x' g' := by
  rw [funext hx, funext hg]

end Cert.Rows
-- ==== Proof.ProjRows.lean ====
/- One token's arithmetic in the input projection: functions of the token's projected row and of the weights. -/
module

public import proofs.«01_k».proof.Proof.Rows

@[expose] public section

noncomputable section

namespace Cert.ProjRows

open Idealize.ShloMosaic

/-- The columns of a projected row from column `o` on. -/
def cut {a : ℕ} (o : ℕ) (h : o + a ≤ 3840) (z : Fin 3840 → EReal) (j : Fin a) : EReal := z ⟨o + j.val, by omega⟩

/-- A row divided into heads of 64 columns, each normalized by its root mean square, with the head's gains. -/
def heads {a : ℕ} (h : ∀ j : Fin a, ∀ d : Fin 64, j.val / 64 * 64 + d.val < a) (q : Fin a → EReal) (g : Fin 64 → EReal) (j : Fin a) : EReal :=
  q j * Ideal.rsqrt (Ideal.div (∑ d : Fin 64, q ⟨j.val / 64 * 64 + d.val, h j d⟩ * q ⟨j.val / 64 * 64 + d.val, h j d⟩) (Ideal.ofBits .f32 0x42800000#32)
    + Ideal.ofBits .f32 0x358637BD#32) * g ⟨j.val % 64, by omega⟩

/-- One head's norm, of its 64 columns. -/
def unit (q g : Fin 64 → EReal) (e : Fin 64) : EReal :=
  q e * Ideal.rsqrt (Ideal.div (∑ d, q d * q d) (Ideal.ofBits .f32 0x42800000#32) + Ideal.ofBits .f32 0x358637BD#32) * g e

/-- The same from the table of which columns share a head: the squares and what their rounding leaves, each summed over the table. -/
def tabled {a : ℕ} (q : Fin a → EReal) (b : Fin a → Fin a → EReal) (g : Fin a → EReal) (j : Fin a) : EReal :=
  q j * Ideal.rsqrt (((∑ i, q i * q i * b i j) + ∑ i, (q i * q i - q i * q i) * b i j) * Ideal.ofBits .f32 0x3C800000#32
    + Ideal.ofBits .f32 0x358637BD#32) * g j

/-- The smooth rectifier. -/
def gelu (x : EReal) : EReal :=
  x * (Ideal.ofBits .f32 0x3F000000#32 * (1
    + Ideal.tanh (Ideal.ofBits .f32 0x3F4C422A#32 * (x + Ideal.ofBits .f32 0x3D372713#32 * (x * (x * x))))))

/-- A row less its mean. -/
def centred (t : Fin 512 → EReal) (j : Fin 512) : EReal := t j - Ideal.div (∑ e, t e) (Ideal.ofBits .f32 0x44000000#32)

/-- A row less its mean, over its deviation, with gains and offsets. -/
def layer (t g b : Fin 512 → EReal) (j : Fin 512) : EReal :=
  centred t j * Ideal.rsqrt (Ideal.div (∑ e, centred t e * centred t e) (Ideal.ofBits .f32 0x44000000#32) + Ideal.ofBits .f32 0x358637BD#32) * g j + b j

/-- A prompt's last 128 tokens, and the sample's tokens, among all tokens; a head's column among its key's. -/
def lastToken (b : Fin 8) (s : Fin 128) : Fin 33792 := ⟨b.val * 4096 + 3968 + s.val, by omega⟩
def sampleToken (b : Fin 128) (s : Fin 8) : Fin 33792 := ⟨32768 + (b.val * 8 + s.val), by omega⟩
def column (h : Fin 2) (e : Fin 64) : Fin 128 := ⟨h.val * 64 + e.val, by omega⟩

end Cert.ProjRows
-- ==== Proof.ProjBlocks.lean ====
/- What one block of 512 tokens of the input projection computes, as functions of a token's row and of the weights. -/
module

public import proofs.«01_k».proof.Proof.ProjRows
public import proofs.«01_k».proof.Proof.Gen.ProjKernelIdeal.Frame
public import Idealize.ShloMosaic.Lib.Pipeline.ValueKit

@[expose] public section

set_option maxRecDepth 16384

noncomputable section

namespace Cert.ProjKernelIdeal.Blocks

open Idealize.ShloMosaic Idealize.ShloMosaic.TcCoe
open Cert.ProjKernelIdeal Cert.ProjKernelIdeal.Gen Cert.Rows Cert.ProjRows

variable (i : grid0.Coords) (a0 : Vec Ideal S512x1024 .f32) (a1 : Vec Ideal S512x1024 .f32) (a2 : Vec Ideal S1x1024 .f32) (a3 : Vec Ideal S1024x3840 .bf16)
  (a4 : Vec Ideal S1x512 .f32) (a5 : Vec Ideal S1x128 .f32) (a6 : Vec Ideal S1x512 .f32) (a7 : Vec Ideal S1x512 .f32) (a8 : Vec Ideal S512x512 .bf16)
  (a9 : Vec Ideal S128x128 .bf16)

theorem slt_64 : ∀ k : Fin 66, Scalar.cmpi .slt (BitVec.ofNat 32 k.val) 64#32 = if k.val < 64 then 1#1 else 0#1 := by decide

theorem chosen {α : Type} (i : grid0.Coords) (u v : α) : Scalar.select (Scalar.cmpi .slt (BitVec.ofNat 32 (i 0).val) 64#32) u v = if (i 0).val < 64 then u else v := by
  rw [show Scalar.cmpi .slt (BitVec.ofNat 32 (i 0).val) 64#32 = if (i 0).val < 64 then 1#1 else 0#1 from slt_64 (i 0)]
  by_cases h : (i 0).val < 64 <;> simp [h, Scalar.select]

/-- Token `r` of the block, projected. -/
def z (r : Fin 512) : Fin 3840 → EReal :=
  times (rms (fun e => if (i 0).val < 64 then a0 (ix2 r e) else a1 (ix2 r e)) (fun e => a2 (ix2 (0 : Fin 1) e))) (fun i e => a3 (ix2 i e))

theorem z_apply (r : Fin 512) (j : Fin 3840) : k0_pay4 (F := Ideal) i a0 a1 a2 a3 (ix2 r j) = z i a0 a1 a2 a3 r j := by
  unfold_payloads
  pointwise
  simp only [chosen]
  rfl

theorem q_apply (r : Fin 512) (j : Fin 512) : k0_pay5 (F := Ideal) i a0 a1 a2 a3 (ix2 r j) = cut 0 (by decide) (z i a0 a1 a2 a3 r) j := by
  unfold k0_pay5
  have h := z_apply i a0 a1 a2 a3
  generalize k0_pay4 (F := Ideal) i a0 a1 a2 a3 = Z at h
  pointwise
  exact (h r _).trans (congrArg _ (by ext; simp))

theorem k_apply (r : Fin 512) (j : Fin 128) : k0_pay6 (F := Ideal) i a0 a1 a2 a3 (ix2 r j) = cut 512 (by decide) (z i a0 a1 a2 a3 r) j := by
  unfold k0_pay6
  have h := z_apply i a0 a1 a2 a3
  generalize k0_pay4 (F := Ideal) i a0 a1 a2 a3 = Z at h
  pointwise
  exact h r _

theorem v_apply (r : Fin 512) (j : Fin 128) : k0_pay7 (F := Ideal) i a0 a1 a2 a3 (ix2 r j) = cut 640 (by decide) (z i a0 a1 a2 a3 r) j := by
  unfold k0_pay7
  have h := z_apply i a0 a1 a2 a3
  generalize k0_pay4 (F := Ideal) i a0 a1 a2 a3 = Z at h
  pointwise
  exact h r _

theorem u_apply (r : Fin 512) (j : Fin 512) : k0_pay8 (F := Ideal) i a0 a1 a2 a3 (ix2 r j) = cut 768 (by decide) (z i a0 a1 a2 a3 r) j := by
  unfold k0_pay8
  have h := z_apply i a0 a1 a2 a3
  generalize k0_pay4 (F := Ideal) i a0 a1 a2 a3 = Z at h
  pointwise
  exact h r _

theorem vn_apply (r : Fin 512) (j : Fin 512) : k0_pay9 (F := Ideal) i a0 a1 a2 a3 (ix2 r j) = cut 1280 (by decide) (z i a0 a1 a2 a3 r) j := by
  unfold k0_pay9
  have h := z_apply i a0 a1 a2 a3
  generalize k0_pay4 (F := Ideal) i a0 a1 a2 a3 = Z at h
  pointwise
  exact h r _

theorem ga_apply (r : Fin 512) (j : Fin 1024) : k0_pay10 (F := Ideal) i a0 a1 a2 a3 (ix2 r j) = cut 1792 (by decide) (z i a0 a1 a2 a3 r) j := by
  unfold k0_pay10
  have h := z_apply i a0 a1 a2 a3
  generalize k0_pay4 (F := Ideal) i a0 a1 a2 a3 = Z at h
  pointwise
  exact h r _

theorem gb_apply (r : Fin 512) (j : Fin 1024) : k0_pay11 (F := Ideal) i a0 a1 a2 a3 (ix2 r j) = cut 2816 (by decide) (z i a0 a1 a2 a3 r) j := by
  unfold k0_pay11
  have h := z_apply i a0 a1 a2 a3
  generalize k0_pay4 (F := Ideal) i a0 a1 a2 a3 = Z at h
  pointwise
  exact h r _

/-- The rounding's share of a query's square, and the squares summed over the table. -/
theorem rest_apply (r : Fin 512) (j : Fin 512) : k0_pay16 (F := Ideal) i a0 a1 a2 a3 (ix2 r j)
    = cut 0 (by decide) (z i a0 a1 a2 a3 r) j * cut 0 (by decide) (z i a0 a1 a2 a3 r) j
      - cut 0 (by decide) (z i a0 a1 a2 a3 r) j * cut 0 (by decide) (z i a0 a1 a2 a3 r) j := by
  unfold k0_pay16 k0_pay15 k0_pay14
  have h := q_apply i a0 a1 a2 a3
  generalize k0_pay5 (F := Ideal) i a0 a1 a2 a3 = Z at h
  pointwise
  simp only [h]

theorem squares_apply (r : Fin 512) (j : Fin 512) : k0_pay17 (F := Ideal) i a0 a1 a2 a3 a8 (ix2 r j)
    = ∑ e, cut 0 (by decide) (z i a0 a1 a2 a3 r) e * cut 0 (by decide) (z i a0 a1 a2 a3 r) e * a8 (ix2 e j) := by
  unfold k0_pay17 k0_pay15 k0_pay14 k0_pay12
  have h := q_apply i a0 a1 a2 a3
  generalize k0_pay5 (F := Ideal) i a0 a1 a2 a3 = Z at h
  pointwise
  simp only [h]

/-- The heads' norms of a block of queries, from its squares' sums. -/
theorem queries (Q : FVec Ideal S512x512 .f32) (B : FVec Ideal S512x512 .bf16) (G : FVec Ideal S1x512 .f32) (L : FVec Ideal S512x512 .bf16)
    (H : FVec Ideal S512x512 .f32) (r : Fin 512) (j : Fin 512) :
    k0_pay18 Q B G L H (ix2 r j) = Q (ix2 r j) * Ideal.rsqrt ((H (ix2 r j) + ∑ e : Fin 512, L (ix2 r e) * B (ix2 e j)) * Ideal.ofBits .f32 0x3C800000#32
      + Ideal.ofBits .f32 0x358637BD#32) * G (ix2 (0 : Fin 1) j) * Ideal.ofBits .f32 0x3E000000#32 := by
  unfold k0_pay18
  pointwise

theorem keys (K : FVec Ideal S512x128 .f32) (r : Fin 512) (j : Fin 128) :
    k0_pay19 K a9 a5 (ix2 r j) = tabled (fun e => K (ix2 r e)) (fun i e => a9 (ix2 i e)) (fun e => a5 (ix2 (0 : Fin 1) e)) j := by
  unfold_payloads
  pointwise
  rfl

theorem rectified (U : FVec Ideal S512x512 .f32) (r : Fin 512) (j : Fin 512) :
    k0_pay21 U (k0_pay20 U) (Scalar.ofBits .f32 0x3D372713#32) (ix2 r j) = gelu (U (ix2 r j)) := by
  unfold_payloads
  pointwise
  rfl

theorem layered (T : FVec Ideal S512x512 .f32) (r : Fin 512) (j : Fin 512) :
    k0_pay1 (k0_pay22 T) a6 a7 (ix2 r j)
      = layer (fun e => gelu (T (ix2 r e))) (fun e => a6 (ix2 (0 : Fin 1) e)) (fun e => a7 (ix2 (0 : Fin 1) e)) j := by
  unfold_payloads
  pointwise
  rfl

theorem gate_a (G : FVec Ideal S512x1024 .f32) (r : Fin 512) (j : Fin 1024) : k0_pay2 G (ix2 r j) = Ideal.logistic (G (ix2 r j)) := by
  unfold_payloads
  pointwise
  try rfl

theorem gate_b (G : FVec Ideal S512x1024 .f32) (r : Fin 512) (j : Fin 1024) : k0_pay3 G (ix2 r j) = Ideal.logistic (G (ix2 r j)) := by
  unfold_payloads
  pointwise
  try rfl

/-- The block's seven results. -/
theorem out10 (r : Fin 512) (j : Fin 512) : out0_10 (F := Ideal) i a0 a1 a2 a3 a4 a5 a6 a7 a8 a9 (ix2 r j)
    = tabled (cut 0 (by decide) (z i a0 a1 a2 a3 r)) (fun i e => a8 (ix2 i e)) (fun e => a4 (ix2 (0 : Fin 1) e)) j * Ideal.ofBits .f32 0x3E000000#32 := by
  frame_out
  rw [queries, squares_apply, q_apply]
  simp only [rest_apply]
  unfold k0_pay12 k0_pay13
  pointwise
  rfl

theorem out11 (r : Fin 512) (j : Fin 128) : out0_11 (F := Ideal) i a0 a1 a2 a3 a4 a5 a6 a7 a8 a9 (ix2 r j)
    = tabled (cut 512 (by decide) (z i a0 a1 a2 a3 r)) (fun i e => a9 (ix2 i e)) (fun e => a5 (ix2 (0 : Fin 1) e)) j := by
  frame_out
  rw [keys]
  simp only [k_apply]

theorem out12 (r : Fin 512) (j : Fin 128) : out0_12 (F := Ideal) i a0 a1 a2 a3 a4 a5 a6 a7 a8 a9 (ix2 r j)
    = cut 640 (by decide) (z i a0 a1 a2 a3 r) j := by
  frame_out
  rw [v_apply]

theorem out13 (r : Fin 512) (j : Fin 512) : out0_13 (F := Ideal) i a0 a1 a2 a3 a4 a5 a6 a7 a8 a9 (ix2 r j)
    = gelu (cut 768 (by decide) (z i a0 a1 a2 a3 r) j) := by
  frame_out
  unfold k0_pay23
  frame_out
  rw [rectified, u_apply]

theorem out14 (r : Fin 512) (j : Fin 512) : out0_14 (F := Ideal) i a0 a1 a2 a3 a4 a5 a6 a7 a8 a9 (ix2 r j)
    = layer (fun e => gelu (cut 1280 (by decide) (z i a0 a1 a2 a3 r) e)) (fun e => a6 (ix2 (0 : Fin 1) e)) (fun e => a7 (ix2 (0 : Fin 1) e)) j := by
  frame_out
  rw [layered]
  simp only [vn_apply]

theorem out15 (r : Fin 512) (j : Fin 1024) : out0_15 (F := Ideal) i a0 a1 a2 a3 a4 a5 a6 a7 a8 a9 (ix2 r j)
    = Ideal.logistic (cut 1792 (by decide) (z i a0 a1 a2 a3 r) j) := by
  frame_out
  rw [gate_a, ga_apply]

theorem out16 (r : Fin 512) (j : Fin 1024) : out0_16 (F := Ideal) i a0 a1 a2 a3 a4 a5 a6 a7 a8 a9 (ix2 r j)
    = Ideal.logistic (cut 2816 (by decide) (z i a0 a1 a2 a3 r) j) := by
  frame_out
  rw [gate_b, gb_apply]

end Cert.ProjKernelIdeal.Blocks
-- ==== Proof.ProjEntry.lean ====
/- What the input projection's operands hold when its blocks are read: the host's reshapes of the arguments, and its table of heads. -/
module

public import proofs.«01_k».proof.Proof.ProjBlocks
public import Idealize.ShloMosaic.Lib.Claim

@[expose] public section

set_option maxRecDepth 16384

noncomputable section

namespace Cert.ProjKernelIdeal.Entry

open Idealize.ShloMosaic Idealize.ShloMosaic.TcCoe Idealize.SL.Sem
open Cert.ProjKernelIdeal Cert.ProjKernelIdeal.Gen

variable (m : (ℓ : Loc nD τ sig) → Buf (Elt Ideal) ℓ)

/-- The head each of 512 columns belongs to: its number divided by 64, rounded down. -/
def owner : IVec S512 32 :=
  let n : IVec S512 32 := iotaInDim S512 32 0
  let d : IVec S512 32 := broadcastInDim S512 ![] bcast_S_S512 (constantI S_ 32 64#32)
  select (andi (cmpi .ne (signi n) (broadcastInDim S512 ![] bcast_S_S512 (signi (constantI S_ 32 64#32))))
      (cmpi .ne (Host.remsi n d) (broadcastInDim S512 ![] bcast_S_S512 (constantI S_ 32 0#32))))
    (subi (Host.divsi n d) (broadcastInDim S512 ![] bcast_S_S512 (constantI S_ 32 1#32))) (Host.divsi n d)

/-- The table of which columns share a head. -/
def table : FVec Ideal S512x512 .bf16 :=
  uitofp .bf16 (cmpi .eq (broadcastInDim S512x512 ![0, 1] bcast_S512x1_S512x512_0_1 (broadcastInDim S512x1 ![0] bcast_S512_S512x1_0 owner))
    (broadcastInDim S512x512 ![0, 1] bcast_S1x512_S512x512_0_1 (broadcastInDim S1x512 ![1] bcast_S512_S1x512_1 owner)))

theorem owner_apply (j : Fin 512) : owner (ix1 j) = BitVec.ofNat 32 (j.val / 64) := by
  unfold owner
  pointwise
  revert j
  decide +kernel

theorem eq_iff {a b : ℕ} (ha : a < 8) (hb : b < 8) : BitVec.ofNat 32 a = BitVec.ofNat 32 b ↔ a = b := by
  constructor
  · intro h
    have := congrArg BitVec.toNat h
    simp only [BitVec.toNat_ofNat] at this
    omega
  · rintro rfl
    rfl

theorem table_apply (a b : Fin 512) : table (ix2 a b) = if a.val / 64 = b.val / 64 then (1 : EReal) else 0 := by
  have h := owner_apply
  unfold table
  generalize owner = O at h
  pointwise
  simp only [h, IntOp.cmpi, eq_iff (show a.val / 64 < 8 by omega) (show b.val / 64 < 8 by omega)]
  by_cases e : a.val / 64 = b.val / 64
  · simp [e, FloatOps.uitofp]
  · simp [e, FloatOps.uitofp]
    exact fun h => e ((eq_iff (by omega) (by omega)).1 h)

theorem entries (c : Dev nD) :
    V m c main_v0 = shapeCast S32768x1024 (m ((c : Thread nD τ).loc main_arg0)) shapeCasts_S8x4096x1024_S32768x1024
    ∧ V m c main_v1 = shapeCast S1024x1024 (m ((c : Thread nD τ).loc main_arg1)) shapeCasts_S128x8x1024_S1024x1024
    ∧ V m c main_v2 = broadcastInDim S1x1024 ![1] bcast_S1024_S1x1024_1 (m ((c : Thread nD τ).loc main_arg2))
    ∧ V m c main_v3 = m ((c : Thread nD τ).loc main_arg3)
    ∧ V m c main_v7 = broadcastInDim S1x512 ![1] bcast_S512_S1x512_1 (shapeCast S512 (broadcastInDim S8x64 ![0, 1] bcast_S1x64_S8x64_0_1
        (shapeCast S1x64 (m ((c : Thread nD τ).loc main_arg4)) shapeCasts_S64_S1x64)) shapeCasts_S8x64_S512)
    ∧ V m c main_v11 = broadcastInDim S1x128 ![1] bcast_S128_S1x128_1 (shapeCast S128 (broadcastInDim S2x64 ![0, 1] bcast_S1x64_S2x64_0_1
        (shapeCast S1x64 (m ((c : Thread nD τ).loc main_arg5)) shapeCasts_S64_S1x64)) shapeCasts_S2x64_S128)
    ∧ V m c main_v12 = broadcastInDim S1x512 ![1] bcast_S512_S1x512_1 (m ((c : Thread nD τ).loc main_arg6))
    ∧ V m c main_v13 = broadcastInDim S1x512 ![1] bcast_S512_S1x512_1 (m ((c : Thread nD τ).loc main_arg7))
    ∧ V m c main_v21 = table
    ∧ V m c main_v22 = extractStridedSlice S128x128 ![0, 0] table slices_S512x512_S128x128_0_0 := by
  unfold V V0
  simp only [hostOps0, hostOps0_1, hostOps0_2, List.flatten_cons, List.flatten_nil, List.append_nil, List.cons_append, List.nil_append,
    StableHlo.after_cons, StableHlo.after_nil]
  and_intros
  all_goals
    after_results_simp
    try simp only [StableHlo.TRef.ofBuf_toBuf]
    try rfl

end Cert.ProjKernelIdeal.Entry
-- ==== Proof.ProjArrays.lean ====
/- The input projection's seven arrays, from its arguments. -/
module

public import proofs.«01_k».proof.Proof.ProjEntry
public import Idealize.ShloMosaic.Lib.Claim

@[expose] public section

set_option maxRecDepth 16384

noncomputable section

namespace Cert.ProjKernelIdeal.Arrays

open Idealize.ShloMosaic Idealize.ShloMosaic.TcCoe Idealize.SL.Sem
open Cert.ProjKernelIdeal Cert.ProjKernelIdeal.Gen Cert.ProjKernelIdeal.Blocks Cert.ProjKernelIdeal.Entry Cert.Rows Cert.ProjRows

/-- The projection's arguments. -/
structure Inputs where
  xp : FVec Ideal S8x4096x1024 .f32
  xs : FVec Ideal S128x8x1024 .f32
  g : FVec Ideal S1024 .f32
  w : FVec Ideal S1024x3840 .f32
  qg : FVec Ideal S64 .f32
  kg : FVec Ideal S64 .f32
  lg : FVec Ideal S512 .f32
  lb : FVec Ideal S512 .f32

namespace Inputs

variable (A : Inputs)

/-- Token `n`'s row. -/
def row (n : Fin 33792) : Fin 1024 → EReal :=
  rows (fun n e => A.xp (ix3 (⟨n.val / 4096, by omega⟩ : Fin 8) (⟨n.val % 4096, by omega⟩ : Fin 4096) e))
    (fun n e => A.xs (ix3 (⟨n.val / 8, by omega⟩ : Fin 128) (⟨n.val % 8, by omega⟩ : Fin 8) e)) n

/-- Token `n`, projected. -/
def z (n : Fin 33792) : Fin 3840 → EReal := times (rms (A.row n) (fun e => A.g (ix1 e))) (fun i e => A.w (ix2 i e))

/-- Its query, key, value, gated half, normalized half and two gates. -/
def q (n : Fin 33792) (j : Fin 512) : EReal :=
  heads (fun j d => by omega) (cut 0 (by decide) (A.z n)) (fun e => A.qg (ix1 e)) j * Ideal.ofBits .f32 0x3E000000#32
def k (n : Fin 33792) (j : Fin 128) : EReal := heads (fun j d => by omega) (cut 512 (by decide) (A.z n)) (fun e => A.kg (ix1 e)) j
def v (n : Fin 33792) (j : Fin 128) : EReal := cut 640 (by decide) (A.z n) j
def u (n : Fin 33792) (j : Fin 512) : EReal := gelu (cut 768 (by decide) (A.z n) j)
def vn (n : Fin 33792) (j : Fin 512) : EReal :=
  layer (fun e => gelu (cut 1280 (by decide) (A.z n) e)) (fun e => A.lg (ix1 e)) (fun e => A.lb (ix1 e)) j
def ga (n : Fin 33792) (j : Fin 1024) : EReal := Ideal.logistic (cut 1792 (by decide) (A.z n) j)
def gb (n : Fin 33792) (j : Fin 1024) : EReal := Ideal.logistic (cut 2816 (by decide) (A.z n) j)

/-- The seven arrays, and the windows kept of the keys, the values and the normalized halves. -/
def out0 : FVec Ideal S33792x512 .bf16 := fun y => A.q (y 0) (y 1)
def out1 : FVec Ideal S33792x128 .f32 := fun y => A.k (y 0) (y 1)
def out2 : FVec Ideal S33792x128 .f32 := fun y => A.v (y 0) (y 1)
def out3 : FVec Ideal S33792x512 .bf16 := fun y => A.u (y 0) (y 1)
def out4 : FVec Ideal S33792x512 .f32 := fun y => A.vn (y 0) (y 1)
def out5 : FVec Ideal S33792x1024 .bf16 := fun y => A.ga (y 0) (y 1)
def out6 : FVec Ideal S33792x1024 .bf16 := fun y => A.gb (y 0) (y 1)
def out7 : FVec Ideal S8x128x2x64 .f32 := fun y => A.k (lastToken (y 0) (y 1)) (column (y 2) (y 3))
def out8 : FVec Ideal S8x128x2x64 .f32 := fun y => A.v (lastToken (y 0) (y 1)) (column (y 2) (y 3))
def out9 : FVec Ideal S128x8x2x64 .f32 := fun y => A.k (sampleToken (y 0) (y 1)) (column (y 2) (y 3))
def out10 : FVec Ideal S128x8x2x64 .f32 := fun y => A.v (sampleToken (y 0) (y 1)) (column (y 2) (y 3))
def out11 : FVec Ideal S8x128x512 .f32 := fun y => A.vn (lastToken (y 0) (y 1)) (y 2)
def out12 : FVec Ideal S128x8x512 .f32 := fun y => A.vn (sampleToken (y 0) (y 1)) (y 2)

/-- The norm's gains and the weights are real numbers. -/
def Real : Prop := (∀ i, ∃ r : ℝ, A.g i = r) ∧ (∀ i, ∃ r : ℝ, A.w i = r)

end Inputs

variable (m : (ℓ : Loc nD τ sig) → Buf (Elt Ideal) ℓ)

/-- The arguments in memory `m` at device `c`. -/
def inputs (c : Dev nD) : Inputs :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7)⟩

theorem idx : ∀ t : Fin cfg0.N, (grid0.coords t 0).val = t.val ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

theorem idxOut : ∀ t : Fin cfg0.N, win0_10.index t = ![t.val, 0] ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0] :=
  (by decide +kernel : ∀ t : Fin grid0.N, _)

theorem idxP : ∀ t : Fin cfg0.N, t.val < 64 → win0_0.index t = ![t.val, 0] := (by decide +kernel : ∀ t : Fin grid0.N, t.val < 64 → _)

theorem idxS : ∀ t : Fin cfg0.N, 64 ≤ t.val → win0_1.index t = ![t.val - 64, 0] := (by decide +kernel : ∀ t : Fin grid0.N, 64 ≤ t.val → _)

/-- The prompt's rows and the sample's rows, each as one array of rows. -/
theorem prompt_apply (x : FVec Ideal S8x4096x1024 .f32) (n : Fin 32768) (b : Fin 1024) : shapeCast S32768x1024 x shapeCasts_S8x4096x1024_S32768x1024 (ix2 n b)
    = x (ix3 (⟨n.val / 4096, by omega⟩ : Fin 8) (⟨n.val % 4096, by omega⟩ : Fin 4096) b) := by
  pointwise

theorem sample_apply (x : FVec Ideal S128x8x1024 .f32) (n : Fin 1024) (b : Fin 1024) : shapeCast S1024x1024 x shapeCasts_S128x8x1024_S1024x1024 (ix2 n b)
    = x (ix3 (⟨n.val / 8, by omega⟩ : Fin 128) (⟨n.val % 8, by omega⟩ : Fin 8) b) := by
  pointwise

theorem blk0 (c : Dev nD) (t : Fin cfg0.N) (ht : t.val < 64) (a : Fin 512) (b : Fin 1024) (n : Fin 32768) (hn : n.val = 512 * t.val + a.val) :
    iblk m c 0 t (ix2 a b) = m ((c : Thread nD τ).loc main_arg0) (ix3 (⟨n.val / 4096, by omega⟩ : Fin 8) (⟨n.val % 4096, by omega⟩ : Fin 4096) b) := by
  have e : (win0_0.blk t).view.emb (ix2 a b) = ix2 n b := by
    blk_ext [idxP t ht]
  unfold iblk
  refine (congrFun (entries m c).1 _).trans ?_
  rw [e]
  exact prompt_apply _ n b

theorem blk1 (c : Dev nD) (t : Fin cfg0.N) (ht : 64 ≤ t.val) (a : Fin 512) (b : Fin 1024) (n : Fin 1024) (hn : n.val = 512 * (t.val - 64) + a.val) :
    iblk m c 1 t (ix2 a b) = m ((c : Thread nD τ).loc main_arg1) (ix3 (⟨n.val / 8, by omega⟩ : Fin 128) (⟨n.val % 8, by omega⟩ : Fin 8) b) := by
  have e : (win0_1.blk t).view.emb (ix2 a b) = ix2 n b := by
    blk_ext [idxS t ht]
  unfold iblk
  refine (congrFun (entries m c).2.1 _).trans ?_
  rw [e]
  exact sample_apply _ n b

theorem blk2 (c : Dev nD) (t : Fin cfg0.N) (b : Fin 1024) : iblk m c 2 t (ix2 (0 : Fin 1) b) = m ((c : Thread nD τ).loc main_arg2) (ix1 b) := by
  have e : (win0_2.blk t).view.emb (ix2 (0 : Fin 1) b) = (ix2 (0 : Fin 1) b) := by
    blk_ext [idx t]
  unfold iblk
  refine (congrFun (entries m c).2.2.1 _).trans ?_
  rw [e]
  pointwise

theorem blk3 (c : Dev nD) (t : Fin cfg0.N) (a : Fin 1024) (b : Fin 3840) : iblk m c 3 t (ix2 a b) = m ((c : Thread nD τ).loc main_arg3) (ix2 a b) := by
  have e : (win0_3.blk t).view.emb (ix2 a b) = (ix2 a b) := by
    blk_ext [idx t]
  unfold iblk
  refine (congrFun (entries m c).2.2.2.1 _).trans ?_
  rw [e]

theorem blk4 (c : Dev nD) (t : Fin cfg0.N) (b : Fin 512) : iblk m c 4 t (ix2 (0 : Fin 1) b) = m ((c : Thread nD τ).loc main_arg4) (ix1 (⟨b.val % 64, by omega⟩ : Fin 64)) := by
  have e : (win0_4.blk t).view.emb (ix2 (0 : Fin 1) b) = (ix2 (0 : Fin 1) b) := by
    blk_ext [idx t]
  unfold iblk
  refine (congrFun (entries m c).2.2.2.2.1 _).trans ?_
  rw [e]
  pointwise

theorem blk5 (c : Dev nD) (t : Fin cfg0.N) (b : Fin 128) : iblk m c 5 t (ix2 (0 : Fin 1) b) = m ((c : Thread nD τ).loc main_arg5) (ix1 (⟨b.val % 64, by omega⟩ : Fin 64)) := by
  have e : (win0_5.blk t).view.emb (ix2 (0 : Fin 1) b) = (ix2 (0 : Fin 1) b) := by
    blk_ext [idx t]
  unfold iblk
  refine (congrFun (entries m c).2.2.2.2.2.1 _).trans ?_
  rw [e]
  pointwise

theorem blk6 (c : Dev nD) (t : Fin cfg0.N) (b : Fin 512) : iblk m c 6 t (ix2 (0 : Fin 1) b) = m ((c : Thread nD τ).loc main_arg6) (ix1 b) := by
  have e : (win0_6.blk t).view.emb (ix2 (0 : Fin 1) b) = (ix2 (0 : Fin 1) b) := by
    blk_ext [idx t]
  unfold iblk
  refine (congrFun (entries m c).2.2.2.2.2.2.1 _).trans ?_
  rw [e]
  pointwise

theorem blk7 (c : Dev nD) (t : Fin cfg0.N) (b : Fin 512) : iblk m c 7 t (ix2 (0 : Fin 1) b) = m ((c : Thread nD τ).loc main_arg7) (ix1 b) := by
  have e : (win0_7.blk t).view.emb (ix2 (0 : Fin 1) b) = (ix2 (0 : Fin 1) b) := by
    blk_ext [idx t]
  unfold iblk
  refine (congrFun (entries m c).2.2.2.2.2.2.2.1 _).trans ?_
  rw [e]
  pointwise

/-- The tables of which columns share a head. -/
theorem blk8 (c : Dev nD) (t : Fin cfg0.N) (a b : Fin 512) : iblk m c 8 t (ix2 a b) = (if a.val / 64 = b.val / 64 then (1 : EReal) else 0 : EReal) := by
  have e : (win0_8.blk t).view.emb (ix2 a b) = (ix2 a b) := by
    blk_ext [idx t]
  unfold iblk
  refine (congrFun (entries m c).2.2.2.2.2.2.2.2.1 _).trans ?_
  rw [e]
  exact table_apply a b

theorem blk9 (c : Dev nD) (t : Fin cfg0.N) (a b : Fin 128) : iblk m c 9 t (ix2 a b) = (if a.val / 64 = b.val / 64 then (1 : EReal) else 0 : EReal) := by
  have e : (win0_9.blk t).view.emb (ix2 a b) = (ix2 a b) := by
    blk_ext [idx t]
  unfold iblk
  refine (congrFun (entries m c).2.2.2.2.2.2.2.2.2 _).trans ?_
  rw [e]
  refine Eq.trans ?_ (table_apply ⟨a.val, by omega⟩ ⟨b.val, by omega⟩)
  pointwise

/-- The block's tokens are the array's. -/
theorem z_at (c : Dev nD) (t : Fin cfg0.N) (r : Fin 512) (n : Fin 33792) (hn : n.val = 512 * t.val + r.val) :
    Blocks.z (grid0.coords t) (iblk m c 0 t) (iblk m c 1 t) (iblk m c 2 t) (iblk m c 3 t) r = (inputs m c).z n := by
  have e := (idx t).1
  unfold Blocks.z Inputs.z
  refine times_congr (fun d => congrFun (rms_congr (fun b => ?_) (fun b => blk2 m c t b)) d) (fun a b => blk3 m c t a b)
  unfold Inputs.row rows
  by_cases ht : t.val < 64
  · rw [if_pos (by omega), dif_pos (by omega)]
    exact blk0 m c t ht r b ⟨n.val, by omega⟩ hn
  · rw [if_neg (by omega), dif_neg (by omega)]
    exact blk1 m c t (by omega) r b ⟨n.val - 32768, by omega⟩ (by show n.val - 32768 = _; omega)

end Cert.ProjKernelIdeal.Arrays
-- ==== Proof.ProjReal.lean ====
/- Where the gains and the weights are real numbers: the tokens' projection is real, and the heads' norms over the table are the heads' norms. -/
module

public import proofs.«01_k».proof.Proof.ProjRows
public import proofs.«01_k».proof.Proof.Attention

@[expose] public section

noncomputable section

namespace Cert.ProjRows

open Idealize.ShloMosaic Cert.Rows

theorem bits_64 : Ideal.ofBits .f32 0x42800000#32 = ((64 : ℝ) : EReal) := by
  simp [Ideal.ofBits, Ideal.ieee, -EReal.coe_mul]; norm_num

theorem bits_64th : Ideal.ofBits .f32 0x3C800000#32 = (((64 : ℝ)⁻¹ : ℝ) : EReal) := by
  simp [Ideal.ofBits, Ideal.ieee, -EReal.coe_mul]; norm_num

theorem bits_1024 : Ideal.ofBits .f32 0x44800000#32 = ((1024 : ℝ) : EReal) := by
  simp [Ideal.ofBits, Ideal.ieee, -EReal.coe_mul]; norm_num

theorem bits_eps : ∃ e : ℝ, 0 < e ∧ Ideal.ofBits .f32 0x358637BD#32 = (e : EReal) := by
  refine ⟨_, ?_, by simp [Ideal.ofBits, Ideal.ieee, -EReal.coe_mul]; rfl⟩
  norm_num

theorem div_real (x : EReal) {y : ℝ} (hy : y ≠ 0) : Ideal.div x (y : EReal) = x * ((y⁻¹ : ℝ) : EReal) := by
  unfold Ideal.div
  rw [if_neg (by exact_mod_cast hy), EReal.coe_inv]

theorem sum_squares {a : ℕ} (x : Fin a → EReal) (h : ∀ e, ∃ r : ℝ, x e = r) : ∃ r : ℝ, 0 ≤ r ∧ ∑ e, x e * x e = (r : EReal) := by
  have key : ∀ s : Finset (Fin a), ∃ r : ℝ, 0 ≤ r ∧ ∑ e ∈ s, x e * x e = (r : EReal) := by
    intro s
    classical
    induction s using Finset.induction_on with
    | empty => exact ⟨0, le_rfl, by simp⟩
    | insert e s he ih =>
      obtain ⟨r, hr, er⟩ := ih
      obtain ⟨y, hy⟩ := h e
      exact ⟨y * y + r, add_nonneg (mul_self_nonneg y) hr, by rw [Finset.sum_insert he, er, hy, EReal.coe_add, EReal.coe_mul]⟩
  exact key _

/-- A row's sum of squares is infinite where the row isn't real. -/
theorem sum_squares_top {a : ℕ} (x : Fin a → EReal) (h : ¬∀ e, ∃ r : ℝ, x e = r) : ∑ e, x e * x e = ⊤ := by
  have nonneg : ∀ y : EReal, 0 ≤ y * y := fun y => by
    induction y with
    | bot => simp
    | top => simp
    | coe r => exact_mod_cast mul_self_nonneg r
  obtain ⟨e, he⟩ := not_forall.1 h
  have ht : x e * x e = ⊤ := by
    generalize x e = y at he
    induction y with
    | bot => simp
    | top => simp
    | coe r => exact absurd ⟨r, rfl⟩ he
  refine top_le_iff.1 (ht ▸ Finset.single_le_sum (f := fun e => x e * x e) (fun i _ => nonneg _) (Finset.mem_univ e))

/-- The norm of any row with real gains is real: of a row that isn't real it is zero. -/
theorem rms_real (x g : Fin 1024 → EReal) (hg : ∀ e, ∃ r : ℝ, g e = r) (d : Fin 1024) : ∃ r : ℝ, rms x g d = r := by
  obtain ⟨e, he, ee⟩ := bits_eps
  unfold rms
  rw [ee, bits_1024, div_real _ (by norm_num)]
  by_cases hx : ∀ e, ∃ r : ℝ, x e = r
  · obtain ⟨s, hs, es⟩ := sum_squares x hx
    obtain ⟨a, ha⟩ := hx d
    obtain ⟨b, hb⟩ := hg d
    have hp : 0 < s * (1024 : ℝ)⁻¹ + e := by positivity
    rw [es, ← EReal.coe_mul, ← EReal.coe_add, Ideal.rsqrt_coe, if_neg (by linarith), if_neg (by linarith), ha, hb, ← EReal.coe_mul, ← EReal.coe_mul]
    exact ⟨_, rfl⟩
  · rw [sum_squares_top x hx, EReal.top_mul_coe_of_pos (by norm_num), EReal.top_add_coe, Ideal.rsqrt_top, mul_zero, zero_mul]
    exact ⟨0, rfl⟩

/-- A real row times a real matrix is real. -/
theorem times_real {a b : ℕ} (x : Fin a → EReal) (w : Fin a → Fin b → EReal) (hx : ∀ e, ∃ r : ℝ, x e = r) (hw : ∀ i j, ∃ r : ℝ, w i j = r) (j : Fin b) :
    ∃ r : ℝ, times x w j = r := by
  unfold times
  refine Cert.Attention.sum_real _ _ fun i => ?_
  obtain ⟨p, hp⟩ := hx i
  obtain ⟨q, hq⟩ := hw i j
  exact ⟨p * q, by rw [hp, hq, EReal.coe_mul]⟩

/-- The sum over the table is the sum over the head's 64 columns. -/
theorem sum_table {a : ℕ} (h : ∀ j : Fin a, ∀ d : Fin 64, j.val / 64 * 64 + d.val < a) (s : Fin a → EReal) (j : Fin a) :
    ∑ i : Fin a, s i * (if i.val / 64 = j.val / 64 then 1 else 0) = ∑ d : Fin 64, s ⟨j.val / 64 * 64 + d.val, h j d⟩ := by
  symm
  refine Finset.sum_of_injOn (fun d : Fin 64 => (⟨j.val / 64 * 64 + d.val, h j d⟩ : Fin a)) ?_ (fun _ _ => Finset.mem_coe.2 (Finset.mem_univ _)) ?_ ?_
  · intro d _ e _ hde
    have := congrArg Fin.val hde
    exact Fin.ext (by simpa using this)
  · intro i _ hi
    rw [if_neg, mul_zero]
    intro e
    refine hi ⟨⟨i.val % 64, by omega⟩, Finset.mem_coe.2 (Finset.mem_univ _), Fin.ext ?_⟩
    show j.val / 64 * 64 + i.val % 64 = i.val
    omega
  · intro d _
    rw [if_pos, mul_one]
    show (j.val / 64 * 64 + d.val) / 64 = j.val / 64
    omega

/-- On a real row the table's norm is the heads' norm: nothing is left of a square that is not rounded, and a 64th is a division by 64. -/
theorem tabled_eq {a : ℕ} (h : ∀ j : Fin a, ∀ d : Fin 64, j.val / 64 * 64 + d.val < a) (q : Fin a → EReal) (hq : ∀ i, ∃ r : ℝ, q i = r)
    (b : Fin a → Fin a → EReal) (hb : ∀ i j, b i j = if i.val / 64 = j.val / 64 then 1 else 0) (g : Fin a → EReal) (g' : Fin 64 → EReal)
    (hg : ∀ j : Fin a, g j = g' ⟨j.val % 64, by omega⟩) (j : Fin a) : tabled q b g j = heads h q g' j := by
  have h0 : ∑ i, (q i * q i - q i * q i) * b i j = 0 := Finset.sum_eq_zero fun i _ => by
    obtain ⟨r, hr⟩ := hq i
    rw [hr, ← EReal.coe_mul, ← EReal.coe_sub, sub_self, EReal.coe_zero, zero_mul]
  have h1 : ∑ i, q i * q i * b i j = ∑ d : Fin 64, q ⟨j.val / 64 * 64 + d.val, h j d⟩ * q ⟨j.val / 64 * 64 + d.val, h j d⟩ :=
    (Finset.sum_congr rfl fun i _ => by rw [hb i j]).trans (sum_table h (fun i => q i * q i) j)
  unfold tabled heads
  rw [h0, h1, add_zero, hg j, bits_64, bits_64th, div_real _ (by norm_num)]

end Cert.ProjRows
-- ==== Proof.ProjFinal.lean ====
/- The input projection's seven arrays after the launch. -/
module

public import proofs.«01_k».proof.Proof.ProjArrays
public import proofs.«01_k».proof.Proof.ProjReal

@[expose] public section

set_option maxRecDepth 16384

noncomputable section

namespace Cert.ProjKernelIdeal.Arrays

open Idealize.ShloMosaic Idealize.ShloMosaic.TcCoe Idealize.SL.Sem
open Cert.ProjKernelIdeal Cert.ProjKernelIdeal.Gen Cert.ProjKernelIdeal.Blocks Cert.ProjKernelIdeal.Entry Cert.Rows Cert.ProjRows

/-- A token's projection is real. -/
theorem z_real {A : Inputs} (h : A.Real) (n : Fin 33792) (j : Fin 3840) : ∃ r : ℝ, A.z n j = r := by
  obtain ⟨hg, hw⟩ := h
  exact times_real _ _ (fun e => rms_real _ _ (fun e => hg _) e) (fun i j => hw _) j

variable (m : (ℓ : Loc nD τ sig) → Buf (Elt Ideal) ℓ)

theorem final10 (c : Dev nD) (hR : (inputs m c).Real) : (dats m 0 c).arrAt 10 cfg0.N = (inputs m c).out0 := by
  refine (dats m 0 c).arrAt_eq_of_covers 10 _ (by decide +kernel) fun t hf y => ?_
  have hT : t.val < 66 := t.isLt
  obtain ⟨r, hr⟩ : ∃ r : Fin 512, r.val = (y 0).val := ⟨⟨_, (y 0).isLt⟩, rfl⟩
  obtain ⟨j, hj⟩ : ∃ j : Fin 512, j.val = (y 1).val := ⟨⟨_, (y 1).isLt⟩, rfl⟩
  obtain ⟨n, hn⟩ : ∃ n : Fin 33792, n.val = 512 * t.val + r.val := ⟨⟨_, by omega⟩, rfl⟩
  have ey : y = ix2 r j := by ext k; fin_cases k <;> simp [hr, hj]
  subst ey
  blk_simp
  rw [after0_10]
  have e : ((View.whole main_v23_0).slice (win0_10.rect t)).emb (ix2 r j) = ix2 n j := by
    blk_ext [idxOut t]
  rw [e]
  refine (out10 _ _ _ _ _ _ _ _ _ _ _ r j).trans ?_
  rw [z_at m c t r n hn]
  exact congrArg (· * _) (tabled_eq _ _ (fun i => z_real hR n _) _ (blk8 m c t) _ _ (blk4 m c t) j)

theorem final11 (c : Dev nD) (hR : (inputs m c).Real) : (dats m 0 c).arrAt 11 cfg0.N = (inputs m c).out1 := by
  refine (dats m 0 c).arrAt_eq_of_covers 11 _ (by decide +kernel) fun t hf y => ?_
  have hT : t.val < 66 := t.isLt
  obtain ⟨r, hr⟩ : ∃ r : Fin 512, r.val = (y 0).val := ⟨⟨_, (y 0).isLt⟩, rfl⟩
  obtain ⟨j, hj⟩ : ∃ j : Fin 128, j.val = (y 1).val := ⟨⟨_, (y 1).isLt⟩, rfl⟩
  obtain ⟨n, hn⟩ : ∃ n : Fin 33792, n.val = 512 * t.val + r.val := ⟨⟨_, by omega⟩, rfl⟩
  have ey : y = ix2 r j := by ext k; fin_cases k <;> simp [hr, hj]
  subst ey
  blk_simp
  rw [after0_11]
  have e : ((View.whole main_v23_1).slice (win0_11.rect t)).emb (ix2 r j) = ix2 n j := by
    blk_ext [idxOut t]
  rw [e]
  refine (out11 _ _ _ _ _ _ _ _ _ _ _ r j).trans ?_
  rw [z_at m c t r n hn]
  show _ = (inputs m c).k n j
  unfold Inputs.k
  exact tabled_eq _ _ (fun i => z_real hR n _) _ (blk9 m c t) _ _ (blk5 m c t) j

theorem final12 (c : Dev nD) : (dats m 0 c).arrAt 12 cfg0.N = (inputs m c).out2 := by
  refine (dats m 0 c).arrAt_eq_of_covers 12 _ (by decide +kernel) fun t hf y => ?_
  have hT : t.val < 66 := t.isLt
  obtain ⟨r, hr⟩ : ∃ r : Fin 512, r.val = (y 0).val := ⟨⟨_, (y 0).isLt⟩, rfl⟩
  obtain ⟨j, hj⟩ : ∃ j : Fin 128, j.val = (y 1).val := ⟨⟨_, (y 1).isLt⟩, rfl⟩
  obtain ⟨n, hn⟩ : ∃ n : Fin 33792, n.val = 512 * t.val + r.val := ⟨⟨_, by omega⟩, rfl⟩
  have ey : y = ix2 r j := by ext k; fin_cases k <;> simp [hr, hj]
  subst ey
  blk_simp
  rw [after0_12]
  have e : ((View.whole main_v23_2).slice (win0_12.rect t)).emb (ix2 r j) = ix2 n j := by
    blk_ext [idxOut t]
  rw [e]
  refine (out12 _ _ _ _ _ _ _ _ _ _ _ r j).trans ?_
  rw [z_at m c t r n hn]
  rfl

theorem final13 (c : Dev nD) : (dats m 0 c).arrAt 13 cfg0.N = (inputs m c).out3 := by
  refine (dats m 0 c).arrAt_eq_of_covers 13 _ (by decide +kernel) fun t hf y => ?_
  have hT : t.val < 66 := t.isLt
  obtain ⟨r, hr⟩ : ∃ r : Fin 512, r.val = (y 0).val := ⟨⟨_, (y 0).isLt⟩, rfl⟩
  obtain ⟨j, hj⟩ : ∃ j : Fin 512, j.val = (y 1).val := ⟨⟨_, (y 1).isLt⟩, rfl⟩
  obtain ⟨n, hn⟩ : ∃ n : Fin 33792, n.val = 512 * t.val + r.val := ⟨⟨_, by omega⟩, rfl⟩
  have ey : y = ix2 r j := by ext k; fin_cases k <;> simp [hr, hj]
  subst ey
  blk_simp
  rw [after0_13]
  have e : ((View.whole main_v23_3).slice (win0_13.rect t)).emb (ix2 r j) = ix2 n j := by
    blk_ext [idxOut t]
  rw [e]
  refine (out13 _ _ _ _ _ _ _ _ _ _ _ r j).trans ?_
  rw [z_at m c t r n hn]
  rfl

theorem final14 (c : Dev nD) : (dats m 0 c).arrAt 14 cfg0.N = (inputs m c).out4 := by
  refine (dats m 0 c).arrAt_eq_of_covers 14 _ (by decide +kernel) fun t hf y => ?_
  have hT : t.val < 66 := t.isLt
  obtain ⟨r, hr⟩ : ∃ r : Fin 512, r.val = (y 0).val := ⟨⟨_, (y 0).isLt⟩, rfl⟩
  obtain ⟨j, hj⟩ : ∃ j : Fin 512, j.val = (y 1).val := ⟨⟨_, (y 1).isLt⟩, rfl⟩
  obtain ⟨n, hn⟩ : ∃ n : Fin 33792, n.val = 512 * t.val + r.val := ⟨⟨_, by omega⟩, rfl⟩
  have ey : y = ix2 r j := by ext k; fin_cases k <;> simp [hr, hj]
  subst ey
  blk_simp
  rw [after0_14]
  have e : ((View.whole main_v23_4).slice (win0_14.rect t)).emb (ix2 r j) = ix2 n j := by
    blk_ext [idxOut t]
  rw [e]
  refine (out14 _ _ _ _ _ _ _ _ _ _ _ r j).trans ?_
  rw [z_at m c t r n hn]
  exact congrArg₂ (fun g b => layer _ g b j) (funext (blk6 m c t)) (funext (blk7 m c t))

theorem final15 (c : Dev nD) : (dats m 0 c).arrAt 15 cfg0.N = (inputs m c).out5 := by
  refine (dats m 0 c).arrAt_eq_of_covers 15 _ (by decide +kernel) fun t hf y => ?_
  have hT : t.val < 66 := t.isLt
  obtain ⟨r, hr⟩ : ∃ r : Fin 512, r.val = (y 0).val := ⟨⟨_, (y 0).isLt⟩, rfl⟩
  obtain ⟨j, hj⟩ : ∃ j : Fin 1024, j.val = (y 1).val := ⟨⟨_, (y 1).isLt⟩, rfl⟩
  obtain ⟨n, hn⟩ : ∃ n : Fin 33792, n.val = 512 * t.val + r.val := ⟨⟨_, by omega⟩, rfl⟩
  have ey : y = ix2 r j := by ext k; fin_cases k <;> simp [hr, hj]
  subst ey
  blk_simp
  rw [after0_15]
  have e : ((View.whole main_v23_5).slice (win0_15.rect t)).emb (ix2 r j) = ix2 n j := by
    blk_ext [idxOut t]
  rw [e]
  refine (out15 _ _ _ _ _ _ _ _ _ _ _ r j).trans ?_
  rw [z_at m c t r n hn]
  rfl

theorem final16 (c : Dev nD) : (dats m 0 c).arrAt 16 cfg0.N = (inputs m c).out6 := by
  refine (dats m 0 c).arrAt_eq_of_covers 16 _ (by decide +kernel) fun t hf y => ?_
  have hT : t.val < 66 := t.isLt
  obtain ⟨r, hr⟩ : ∃ r : Fin 512, r.val = (y 0).val := ⟨⟨_, (y 0).isLt⟩, rfl⟩
  obtain ⟨j, hj⟩ : ∃ j : Fin 1024, j.val = (y 1).val := ⟨⟨_, (y 1).isLt⟩, rfl⟩
  obtain ⟨n, hn⟩ : ∃ n : Fin 33792, n.val = 512 * t.val + r.val := ⟨⟨_, by omega⟩, rfl⟩
  have ey : y = ix2 r j := by ext k; fin_cases k <;> simp [hr, hj]
  subst ey
  blk_simp
  rw [after0_16]
  have e : ((View.whole main_v23_6).slice (win0_16.rect t)).emb (ix2 r j) = ix2 n j := by
    blk_ext [idxOut t]
  rw [e]
  refine (out16 _ _ _ _ _ _ _ _ _ _ _ r j).trans ?_
  rw [z_at m c t r n hn]
  rfl

end Cert.ProjKernelIdeal.Arrays
-- ==== Proof.ProjTail.lean ====
/- What the host keeps of the launch's arrays: each prompt's last 128 tokens and the sample's tokens, of the keys, the values and the normalized halves. -/
module

public import proofs.«01_k».proof.Proof.ProjFinal

@[expose] public section

set_option maxRecDepth 16384

noncomputable section

namespace Cert.ProjKernelIdeal.Tail

open Idealize.ShloMosaic Idealize.ShloMosaic.TcCoe Idealize.SL.Sem
open Cert.ProjKernelIdeal Cert.ProjKernelIdeal.Gen Cert.ProjRows Cert.ProjKernelIdeal.Arrays

/-- The eight prompts' windows of an array of keys or values. -/
def lastWide (K : FVec Ideal S33792x128 .f32) : FVec Ideal S8x128x128 .f32 :=
  concatenate S8x128x128 0 [⟨S1x128x128, broadcastInDim S1x128x128 ![1, 2] bcast_S128x128_S1x128x128_1_2 (extractStridedSlice S128x128 ![3968, 0] K slices_S33792x128_S128x128_3968_0)⟩, ⟨S1x128x128, broadcastInDim S1x128x128 ![1, 2] bcast_S128x128_S1x128x128_1_2 (extractStridedSlice S128x128 ![8064, 0] K slices_S33792x128_S128x128_8064_0)⟩, ⟨S1x128x128, broadcastInDim S1x128x128 ![1, 2] bcast_S128x128_S1x128x128_1_2 (extractStridedSlice S128x128 ![12160, 0] K slices_S33792x128_S128x128_12160_0)⟩, ⟨S1x128x128, broadcastInDim S1x128x128 ![1, 2] bcast_S128x128_S1x128x128_1_2 (extractStridedSlice S128x128 ![16256, 0] K slices_S33792x128_S128x128_16256_0)⟩, ⟨S1x128x128, broadcastInDim S1x128x128 ![1, 2] bcast_S128x128_S1x128x128_1_2 (extractStridedSlice S128x128 ![20352, 0] K slices_S33792x128_S128x128_20352_0)⟩, ⟨S1x128x128, broadcastInDim S1x128x128 ![1, 2] bcast_S128x128_S1x128x128_1_2 (extractStridedSlice S128x128 ![24448, 0] K slices_S33792x128_S128x128_24448_0)⟩, ⟨S1x128x128, broadcastInDim S1x128x128 ![1, 2] bcast_S128x128_S1x128x128_1_2 (extractStridedSlice S128x128 ![28544, 0] K slices_S33792x128_S128x128_28544_0)⟩, ⟨S1x128x128, broadcastInDim S1x128x128 ![1, 2] bcast_S128x128_S1x128x128_1_2 (extractStridedSlice S128x128 ![32640, 0] K slices_S33792x128_S128x128_32640_0)⟩] concatenates_S1x128x128_S1x128x128_S1x128x128_S1x128x128_S1x128x128_S1x128x128_S1x128x128_S1x128x128_S8x128x128_d0

theorem lastWide_apply (K : FVec Ideal S33792x128 .f32) (b : Fin 8) (s : Fin 128) (j : Fin 128) : lastWide K (ix3 b s j) = K (ix2 (lastToken b s) j) := by
  unfold lastWide lastToken
  fin_cases b
  all_goals pointwise

def lastHeads (K : FVec Ideal S33792x128 .f32) : FVec Ideal S8x128x2x64 .f32 := shapeCast _ (lastWide K) shapeCasts_S8x128x128_S8x128x2x64

theorem lastHeads_apply (K : FVec Ideal S33792x128 .f32) (b : Fin 8) (s : Fin 128) (h : Fin 2) (e : Fin 64) :
    lastHeads K (ix4 b s h e) = K (ix2 (lastToken b s) (column h e)) := by
  rw [← lastWide_apply K b s (column h e)]
  unfold lastHeads column
  generalize lastWide K = L
  pointwise

def sampleHeads (K : FVec Ideal S33792x128 .f32) : FVec Ideal S128x8x2x64 .f32 :=
  shapeCast _ (shapeCast _ (extractStridedSlice S1024x128 ![32768, 0] K slices_S33792x128_S1024x128_32768_0) shapeCasts_S1024x128_S128x8x128) shapeCasts_S128x8x128_S128x8x2x64

theorem sampleHeads_apply (K : FVec Ideal S33792x128 .f32) (b : Fin 128) (s : Fin 8) (h : Fin 2) (e : Fin 64) :
    sampleHeads K (ix4 b s h e) = K (ix2 (sampleToken b s) (column h e)) := by
  unfold sampleHeads sampleToken column
  pointwise

/-- The same of the normalized halves. -/
def lastRows (V : FVec Ideal S33792x512 .f32) : FVec Ideal S8x128x512 .f32 :=
  concatenate S8x128x512 0 [⟨S1x128x512, broadcastInDim S1x128x512 ![1, 2] bcast_S128x512_S1x128x512_1_2 (extractStridedSlice S128x512 ![3968, 0] V slices_S33792x512_S128x512_3968_0)⟩, ⟨S1x128x512, broadcastInDim S1x128x512 ![1, 2] bcast_S128x512_S1x128x512_1_2 (extractStridedSlice S128x512 ![8064, 0] V slices_S33792x512_S128x512_8064_0)⟩, ⟨S1x128x512, broadcastInDim S1x128x512 ![1, 2] bcast_S128x512_S1x128x512_1_2 (extractStridedSlice S128x512 ![12160, 0] V slices_S33792x512_S128x512_12160_0)⟩, ⟨S1x128x512, broadcastInDim S1x128x512 ![1, 2] bcast_S128x512_S1x128x512_1_2 (extractStridedSlice S128x512 ![16256, 0] V slices_S33792x512_S128x512_16256_0)⟩, ⟨S1x128x512, broadcastInDim S1x128x512 ![1, 2] bcast_S128x512_S1x128x512_1_2 (extractStridedSlice S128x512 ![20352, 0] V slices_S33792x512_S128x512_20352_0)⟩, ⟨S1x128x512, broadcastInDim S1x128x512 ![1, 2] bcast_S128x512_S1x128x512_1_2 (extractStridedSlice S128x512 ![24448, 0] V slices_S33792x512_S128x512_24448_0)⟩, ⟨S1x128x512, broadcastInDim S1x128x512 ![1, 2] bcast_S128x512_S1x128x512_1_2 (extractStridedSlice S128x512 ![28544, 0] V slices_S33792x512_S128x512_28544_0)⟩, ⟨S1x128x512, broadcastInDim S1x128x512 ![1, 2] bcast_S128x512_S1x128x512_1_2 (extractStridedSlice S128x512 ![32640, 0] V slices_S33792x512_S128x512_32640_0)⟩] concatenates_S1x128x512_S1x128x512_S1x128x512_S1x128x512_S1x128x512_S1x128x512_S1x128x512_S1x128x512_S8x128x512_d0

theorem lastRows_apply (V : FVec Ideal S33792x512 .f32) (b : Fin 8) (s : Fin 128) (j : Fin 512) : lastRows V (ix3 b s j) = V (ix2 (lastToken b s) j) := by
  unfold lastRows lastToken
  fin_cases b
  all_goals pointwise

def sampleRows (V : FVec Ideal S33792x512 .f32) : FVec Ideal S128x8x512 .f32 :=
  shapeCast _ (extractStridedSlice S1024x512 ![32768, 0] V slices_S33792x512_S1024x512_32768_0) shapeCasts_S1024x512_S128x8x512

theorem sampleRows_apply (V : FVec Ideal S33792x512 .f32) (b : Fin 128) (s : Fin 8) (j : Fin 512) : sampleRows V (ix3 b s j) = V (ix2 (sampleToken b s) j) := by
  unfold sampleRows sampleToken
  pointwise

/-- What the host's operations leave, from any contents. -/
theorem kept (W : Valuation τ sig (Elt Ideal)) :
    StableHlo.after hostOps1 W (Proc.devRef .tc main_v41) = lastHeads (W (Proc.devRef .tc main_v23_1))
    ∧ StableHlo.after hostOps1 W (Proc.devRef .tc main_v59) = lastHeads (W (Proc.devRef .tc main_v23_2))
    ∧ StableHlo.after hostOps1 W (Proc.devRef .tc main_v62) = sampleHeads (W (Proc.devRef .tc main_v23_1))
    ∧ StableHlo.after hostOps1 W (Proc.devRef .tc main_v65) = sampleHeads (W (Proc.devRef .tc main_v23_2))
    ∧ StableHlo.after hostOps1 W (Proc.devRef .tc main_v82) = lastRows (W (Proc.devRef .tc main_v23_4))
    ∧ StableHlo.after hostOps1 W (Proc.devRef .tc main_v84) = sampleRows (W (Proc.devRef .tc main_v23_4)) := by
  simp only [hostOps1, StableHlo.after_cons, StableHlo.after_nil]
  and_intros
  all_goals
    after_results_simp
    try rfl

variable (m : (ℓ : Loc nD τ sig) → Buf (Elt Ideal) ℓ)

/-- The contents the host's operations start from, at the launch's arrays. -/
def exits (c : Dev nD) : Valuation τ sig (Elt Ideal) :=
  Pipeline.withArrays (cfgs 0).spec c (V0 m c) fun w => (dats m 0 c).arrAt w (cfgs 0).N

theorem inj : Function.Injective (Pipeline.arrRef (cfgs 0).spec) := by decide

theorem exits1 (c : Dev nD) (hR : (inputs m c).Real) : exits m c (Proc.devRef .tc main_v23_1) = (inputs m c).out1 :=
  (Pipeline.withArrays_arr (cfgs 0).spec inj c (V0 m c) (fun w => (dats m 0 c).arrAt w (cfgs 0).N) 11).trans (final11 m c hR)

theorem exits2 (c : Dev nD) : exits m c (Proc.devRef .tc main_v23_2) = (inputs m c).out2 :=
  (Pipeline.withArrays_arr (cfgs 0).spec inj c (V0 m c) (fun w => (dats m 0 c).arrAt w (cfgs 0).N) 12).trans (final12 m c)

theorem exits4 (c : Dev nD) : exits m c (Proc.devRef .tc main_v23_4) = (inputs m c).out4 :=
  (Pipeline.withArrays_arr (cfgs 0).spec inj c (V0 m c) (fun w => (dats m 0 c).arrAt w (cfgs 0).N) 14).trans (final14 m c)

theorem tail_eq (c : Dev nD) (b : Ref sig .tc) :
    Pipeline.afterTail₀ cfgs (dats m) 0 (V0 m) [hostOps1] c b = StableHlo.after hostOps1 (exits m c) (Proc.devRef .tc b) := by
  unfold Pipeline.afterTail₀ exits
  rw [List.flatten_cons, List.flatten_nil, List.append_nil]

theorem tail7 (c : Dev nD) (hR : (inputs m c).Real) : Pipeline.afterTail₀ cfgs (dats m) 0 (V0 m) [hostOps1] c main_v41 = (inputs m c).out7 := by
  rw [tail_eq, (kept (exits m c)).1, exits1 m c hR]
  funext i
  idx_vars i
  exact lastHeads_apply _ _ _ _ _

theorem tail8 (c : Dev nD) : Pipeline.afterTail₀ cfgs (dats m) 0 (V0 m) [hostOps1] c main_v59 = (inputs m c).out8 := by
  rw [tail_eq, (kept (exits m c)).2.1, exits2 m c]
  funext i
  idx_vars i
  exact lastHeads_apply _ _ _ _ _

theorem tail9 (c : Dev nD) (hR : (inputs m c).Real) : Pipeline.afterTail₀ cfgs (dats m) 0 (V0 m) [hostOps1] c main_v62 = (inputs m c).out9 := by
  rw [tail_eq, (kept (exits m c)).2.2.1, exits1 m c hR]
  funext i
  idx_vars i
  exact sampleHeads_apply _ _ _ _ _

theorem tail10 (c : Dev nD) : Pipeline.afterTail₀ cfgs (dats m) 0 (V0 m) [hostOps1] c main_v65 = (inputs m c).out10 := by
  rw [tail_eq, (kept (exits m c)).2.2.2.1, exits2 m c]
  funext i
  idx_vars i
  exact sampleHeads_apply _ _ _ _ _

theorem tail11 (c : Dev nD) : Pipeline.afterTail₀ cfgs (dats m) 0 (V0 m) [hostOps1] c main_v82 = (inputs m c).out11 := by
  rw [tail_eq, (kept (exits m c)).2.2.2.2.1, exits4 m c]
  funext i
  idx_vars i
  exact lastRows_apply _ _ _ _

theorem tail12 (c : Dev nD) : Pipeline.afterTail₀ cfgs (dats m) 0 (V0 m) [hostOps1] c main_v84 = (inputs m c).out12 := by
  rw [tail_eq, (kept (exits m c)).2.2.2.2.2, exits4 m c]
  funext i
  idx_vars i
  exact sampleRows_apply _ _ _ _

end Cert.ProjKernelIdeal.Tail
-- ==== Proof.ProjStages.lean ====
/- The reference's input projection, stage by stage, each stage read at an index. -/
module

public import proofs.«01_k».proof.Proof.ProjArrays
public import proofs.«01_k».proof.Proof.Gen.ProjReferenceIdeal.Run
public import Idealize.ShloMosaic.Lib.Pointwise

@[expose] public section

set_option maxRecDepth 16384

noncomputable section

namespace Cert.ProjReferenceIdeal.Stages

open Idealize.ShloMosaic Idealize.ShloMosaic.TcCoe Idealize.SL.Sem
open Cert.ProjReferenceIdeal Cert.ProjReferenceIdeal.Gen Cert.Rows Cert.ProjRows
open Cert.ProjKernelIdeal.Arrays (Inputs)

/-- All tokens' rows, the prompt's first. -/
def joined (xp : FVec Ideal S8x4096x1024 .f32) (xs : FVec Ideal S128x8x1024 .f32) : FVec Ideal S33792x1024 .f32 :=
  concatenate S33792x1024 0 [⟨S32768x1024, (shapeCast _ xp shapeCasts_S8x4096x1024_S32768x1024)⟩, ⟨S1024x1024, (shapeCast _ xs shapeCasts_S128x8x1024_S1024x1024)⟩] concatenates_S32768x1024_S1024x1024_S33792x1024_d0

theorem joined_apply (xp : FVec Ideal S8x4096x1024 .f32) (xs : FVec Ideal S128x8x1024 .f32) (n : Fin 33792) (e : Fin 1024) :
    joined xp xs (ix2 n e) = rows (fun n e => xp (ix3 (⟨n.val / 4096, by omega⟩ : Fin 8) (⟨n.val % 4096, by omega⟩ : Fin 4096) e))
      (fun n e => xs (ix3 (⟨n.val / 8, by omega⟩ : Fin 128) (⟨n.val % 8, by omega⟩ : Fin 8) e)) n e := by
  unfold joined rows
  pointwise
  split <;> rfl

/-- The rows' root-mean-square norms. -/
def normed (X : FVec Ideal S33792x1024 .f32) (g : FVec Ideal S1024 .f32) : FVec Ideal S33792x1024 .f32 :=
  mulf (mulf X (broadcastInDim S33792x1024 ![0, 1] bcast_S33792x1_S33792x1024_0_1 (Host.rsqrt (addf (Host.divf (broadcastInDim S33792x1 ![0] bcast_S33792_S33792x1_0 (Host.reduceAdd (mulf X X) (constant S_ .f32 0x00000000#32) reducesTo_S33792x1024_S33792_d1 h_S_)) (broadcastInDim S33792x1 ![] bcast_S_S33792x1 (constant S_ .f32 0x44800000#32))) (broadcastInDim S33792x1 ![] bcast_S_S33792x1 (constant S_ .f32 0x358637BD#32)))))) (broadcastInDim S33792x1024 ![0, 1] bcast_S1x1024_S33792x1024_0_1 (broadcastInDim S1x1024 ![1] bcast_S1024_S1x1024_1 g))

theorem normed_apply (X : FVec Ideal S33792x1024 .f32) (g : FVec Ideal S1024 .f32) (n : Fin 33792) (d : Fin 1024) :
    normed X g (ix2 n d) = rms (fun e => X (ix2 n e)) (fun e => g (ix1 e)) d := by
  unfold normed
  pointwise
  rfl

/-- The projection. -/
def projected (X : FVec Ideal S33792x1024 .f32) (w : FVec Ideal S1024x3840 .f32) : FVec Ideal S33792x3840 .f32 :=
  Host.dotGeneral dot_S33792x1024_S1024x3840_S33792x3840_1_0_0_1_n_n none X w

theorem projected_apply (X : FVec Ideal S33792x1024 .f32) (w : FVec Ideal S1024x3840 .f32) (n : Fin 33792) (j : Fin 3840) :
    projected X w (ix2 n j) = times (fun e => X (ix2 n e)) (fun i e => w (ix2 i e)) j := by
  unfold projected
  pointwise
  rfl

/-- The projection's seven groups of columns. -/
def cutQ (Z : FVec Ideal S33792x3840 .f32) : FVec Ideal S33792x512 .f32 :=
  extractStridedSlice S33792x512 ![0, 0] Z slices_S33792x3840_S33792x512_0_0

theorem cutQ_apply (Z : FVec Ideal S33792x3840 .f32) (n : Fin 33792) (j : Fin 512) : cutQ Z (ix2 n j) = cut 0 (by decide) (fun j => Z (ix2 n j)) j := by
  unfold cutQ cut
  pointwise

def cutK (Z : FVec Ideal S33792x3840 .f32) : FVec Ideal S33792x128 .f32 :=
  extractStridedSlice S33792x128 ![0, 512] Z slices_S33792x3840_S33792x128_0_512

theorem cutK_apply (Z : FVec Ideal S33792x3840 .f32) (n : Fin 33792) (j : Fin 128) : cutK Z (ix2 n j) = cut 512 (by decide) (fun j => Z (ix2 n j)) j := by
  unfold cutK cut
  pointwise

def cutV (Z : FVec Ideal S33792x3840 .f32) : FVec Ideal S33792x128 .f32 :=
  extractStridedSlice S33792x128 ![0, 640] Z slices_S33792x3840_S33792x128_0_640

theorem cutV_apply (Z : FVec Ideal S33792x3840 .f32) (n : Fin 33792) (j : Fin 128) : cutV Z (ix2 n j) = cut 640 (by decide) (fun j => Z (ix2 n j)) j := by
  unfold cutV cut
  pointwise

def cutU (Z : FVec Ideal S33792x3840 .f32) : FVec Ideal S33792x512 .f32 :=
  extractStridedSlice S33792x512 ![0, 768] Z slices_S33792x3840_S33792x512_0_768

theorem cutU_apply (Z : FVec Ideal S33792x3840 .f32) (n : Fin 33792) (j : Fin 512) : cutU Z (ix2 n j) = cut 768 (by decide) (fun j => Z (ix2 n j)) j := by
  unfold cutU cut
  pointwise

def cutN (Z : FVec Ideal S33792x3840 .f32) : FVec Ideal S33792x512 .f32 :=
  extractStridedSlice S33792x512 ![0, 1280] Z slices_S33792x3840_S33792x512_0_1280

theorem cutN_apply (Z : FVec Ideal S33792x3840 .f32) (n : Fin 33792) (j : Fin 512) : cutN Z (ix2 n j) = cut 1280 (by decide) (fun j => Z (ix2 n j)) j := by
  unfold cutN cut
  pointwise

def cutA (Z : FVec Ideal S33792x3840 .f32) : FVec Ideal S33792x1024 .f32 :=
  extractStridedSlice S33792x1024 ![0, 1792] Z slices_S33792x3840_S33792x1024_0_1792

theorem cutA_apply (Z : FVec Ideal S33792x3840 .f32) (n : Fin 33792) (j : Fin 1024) : cutA Z (ix2 n j) = cut 1792 (by decide) (fun j => Z (ix2 n j)) j := by
  unfold cutA cut
  pointwise

def cutB (Z : FVec Ideal S33792x3840 .f32) : FVec Ideal S33792x1024 .f32 :=
  extractStridedSlice S33792x1024 ![0, 2816] Z slices_S33792x3840_S33792x1024_0_2816

theorem cutB_apply (Z : FVec Ideal S33792x3840 .f32) (n : Fin 33792) (j : Fin 1024) : cutB Z (ix2 n j) = cut 2816 (by decide) (fun j => Z (ix2 n j)) j := by
  unfold cutB cut
  pointwise

/-- The queries, the keys and the values by heads. -/
def by8 (Q : FVec Ideal S33792x512 .f32) : FVec Ideal S33792x8x64 .f32 := shapeCast _ Q shapeCasts_S33792x512_S33792x8x64

theorem by8_apply (Q : FVec Ideal S33792x512 .f32) (n : Fin 33792) (h : Fin 8) (e : Fin 64) : by8 Q (ix3 n h e) = Q (ix2 n (⟨h.val * 64 + e.val, by omega⟩ : Fin 512)) := by
  unfold by8
  pointwise

def by2 (K : FVec Ideal S33792x128 .f32) : FVec Ideal S33792x2x64 .f32 := shapeCast _ K shapeCasts_S33792x128_S33792x2x64

theorem by2_apply (K : FVec Ideal S33792x128 .f32) (n : Fin 33792) (h : Fin 2) (e : Fin 64) : by2 K (ix3 n h e) = K (ix2 n (column h e)) := by
  unfold by2 column
  pointwise

/-- The heads' norms. -/
def unit8 (Q : FVec Ideal S33792x8x64 .f32) (g : FVec Ideal S64 .f32) : FVec Ideal S33792x8x64 .f32 :=
  mulf (mulf Q (broadcastInDim S33792x8x64 ![0, 1, 2] bcast_S33792x8x1_S33792x8x64_0_1_2 (Host.rsqrt (addf (Host.divf (broadcastInDim S33792x8x1 ![0, 1] bcast_S33792x8_S33792x8x1_0_1 (Host.reduceAdd (mulf Q Q) (constant S_ .f32 0x00000000#32) reducesTo_S33792x8x64_S33792x8_d2 h_S_)) (broadcastInDim S33792x8x1 ![] bcast_S_S33792x8x1 (constant S_ .f32 0x42800000#32))) (broadcastInDim S33792x8x1 ![] bcast_S_S33792x8x1 (constant S_ .f32 0x358637BD#32)))))) (broadcastInDim S33792x8x64 ![0, 1, 2] bcast_S1x1x64_S33792x8x64_0_1_2 (broadcastInDim S1x1x64 ![2] bcast_S64_S1x1x64_2 g))

theorem unit8_apply (Q : FVec Ideal S33792x8x64 .f32) (g : FVec Ideal S64 .f32) (n : Fin 33792) (h : Fin 8) (e : Fin 64) :
    unit8 Q g (ix3 n h e) = unit (fun e => Q (ix3 n h e)) (fun e => g (ix1 e)) e := by
  unfold unit8
  pointwise
  rfl

def unit2 (Q : FVec Ideal S33792x2x64 .f32) (g : FVec Ideal S64 .f32) : FVec Ideal S33792x2x64 .f32 :=
  mulf (mulf Q (broadcastInDim S33792x2x64 ![0, 1, 2] bcast_S33792x2x1_S33792x2x64_0_1_2 (Host.rsqrt (addf (Host.divf (broadcastInDim S33792x2x1 ![0, 1] bcast_S33792x2_S33792x2x1_0_1 (Host.reduceAdd (mulf Q Q) (constant S_ .f32 0x00000000#32) reducesTo_S33792x2x64_S33792x2_d2 h_S_)) (broadcastInDim S33792x2x1 ![] bcast_S_S33792x2x1 (constant S_ .f32 0x42800000#32))) (broadcastInDim S33792x2x1 ![] bcast_S_S33792x2x1 (constant S_ .f32 0x358637BD#32)))))) (broadcastInDim S33792x2x64 ![0, 1, 2] bcast_S1x1x64_S33792x2x64_0_1_2 (broadcastInDim S1x1x64 ![2] bcast_S64_S1x1x64_2 g))

theorem unit2_apply (Q : FVec Ideal S33792x2x64 .f32) (g : FVec Ideal S64 .f32) (n : Fin 33792) (h : Fin 2) (e : Fin 64) :
    unit2 Q g (ix3 n h e) = unit (fun e => Q (ix3 n h e)) (fun e => g (ix1 e)) e := by
  unfold unit2
  pointwise
  rfl

/-- The heads side by side again; the queries scaled. -/
def flat8 (Q : FVec Ideal S33792x8x64 .f32) : FVec Ideal S33792x512 .bf16 :=
  truncf .bf16 (mulf (shapeCast _ Q shapeCasts_S33792x8x64_S33792x512) (broadcastInDim S33792x512 ![] bcast_S_S33792x512 (constant S_ .f32 0x3E000000#32))) bitsLt_bf16_f32

theorem flat8_apply (Q : FVec Ideal S33792x8x64 .f32) (n : Fin 33792) (j : Fin 512) :
    flat8 Q (ix2 n j) = Q (ix3 n (⟨j.val / 64, by omega⟩ : Fin 8) (⟨j.val % 64, by omega⟩ : Fin 64)) * Ideal.ofBits .f32 0x3E000000#32 := by
  unfold flat8
  pointwise

def flat2 (K : FVec Ideal S33792x2x64 .f32) : FVec Ideal S33792x128 .f32 := shapeCast _ K shapeCasts_S33792x2x64_S33792x128

theorem flat2_apply (K : FVec Ideal S33792x2x64 .f32) (n : Fin 33792) (j : Fin 128) :
    flat2 K (ix2 n j) = K (ix3 n (⟨j.val / 64, by omega⟩ : Fin 2) (⟨j.val % 64, by omega⟩ : Fin 64)) := by
  unfold flat2
  pointwise

/-- The smooth rectifier of an array. -/
def rectified (U : FVec Ideal S33792x512 .f32) : FVec Ideal S33792x512 .f32 :=
  (mulf U (mulf (broadcastInDim S33792x512 ![] bcast_S_S33792x512 (constant S_ .f32 0x3F000000#32)) (addf (broadcastInDim S33792x512 ![] bcast_S_S33792x512 (constant S_ .f32 0x3F800000#32)) (Host.tanh (mulf (broadcastInDim S33792x512 ![] bcast_S_S33792x512 (constant S_ .f32 0x3F4C422A#32)) (addf U (mulf (broadcastInDim S33792x512 ![] bcast_S_S33792x512 (constant S_ .f32 0x3D372713#32)) (mulf (mulf U U) U))))))))

theorem rectified_apply (U : FVec Ideal S33792x512 .f32) (n : Fin 33792) (j : Fin 512) : rectified U (ix2 n j) = gelu (U (ix2 n j)) := by
  unfold rectified gelu
  pointwise
  rw [mul_comm (U _ * U _) (U _)]

def rounded (U : FVec Ideal S33792x512 .f32) : FVec Ideal S33792x512 .bf16 := truncf .bf16 U bitsLt_bf16_f32

theorem rounded_apply (U : FVec Ideal S33792x512 .f32) (n : Fin 33792) (j : Fin 512) : rounded U (ix2 n j) = U (ix2 n j) := by
  unfold rounded
  pointwise

/-- An array's rows less their means, and their layer norms. -/
def centredRows (T : FVec Ideal S33792x512 .f32) : FVec Ideal S33792x512 .f32 :=
  (subf T (broadcastInDim S33792x512 ![0, 1] bcast_S33792x1_S33792x512_0_1 (Host.divf (broadcastInDim S33792x1 ![0] bcast_S33792_S33792x1_0 (Host.reduceAdd T (constant S_ .f32 0x00000000#32) reducesTo_S33792x512_S33792_d1 h_S_)) (broadcastInDim S33792x1 ![] bcast_S_S33792x1 (constant S_ .f32 0x44000000#32)))))

theorem centredRows_apply (T : FVec Ideal S33792x512 .f32) (n : Fin 33792) (j : Fin 512) : centredRows T (ix2 n j) = centred (fun e => T (ix2 n e)) j := by
  unfold centredRows
  pointwise
  rfl

def deviated (C : FVec Ideal S33792x512 .f32) (g b : FVec Ideal S512 .f32) : FVec Ideal S33792x512 .f32 :=
  addf (mulf (mulf C (broadcastInDim S33792x512 ![0, 1] bcast_S33792x1_S33792x512_0_1 (Host.rsqrt (addf (Host.divf (broadcastInDim S33792x1 ![0] bcast_S33792_S33792x1_0 (Host.reduceAdd (mulf C C) (constant S_ .f32 0x00000000#32) reducesTo_S33792x512_S33792_d1 h_S_)) (broadcastInDim S33792x1 ![] bcast_S_S33792x1 (constant S_ .f32 0x44000000#32))) (broadcastInDim S33792x1 ![] bcast_S_S33792x1 (constant S_ .f32 0x358637BD#32)))))) (broadcastInDim S33792x512 ![0, 1] bcast_S1x512_S33792x512_0_1 (broadcastInDim S1x512 ![1] bcast_S512_S1x512_1 g))) (broadcastInDim S33792x512 ![0, 1] bcast_S1x512_S33792x512_0_1 (broadcastInDim S1x512 ![1] bcast_S512_S1x512_1 b))

theorem deviated_apply (C : FVec Ideal S33792x512 .f32) (g b : FVec Ideal S512 .f32) (n : Fin 33792) (j : Fin 512) :
    deviated C g b (ix2 n j) = C (ix2 n j) * Ideal.rsqrt (Ideal.div (∑ e : Fin 512, C (ix2 n e) * C (ix2 n e)) (Ideal.ofBits .f32 0x44000000#32)
      + Ideal.ofBits .f32 0x358637BD#32) * g (ix1 j) + b (ix1 j) := by
  unfold deviated
  pointwise

/-- The gates. -/
def gate (G : FVec Ideal S33792x1024 .f32) : FVec Ideal S33792x1024 .bf16 :=
  truncf .bf16 (Host.divf (broadcastInDim S33792x1024 ![] bcast_S_S33792x1024 (constant S_ .f32 0x3F800000#32)) (addf (broadcastInDim S33792x1024 ![] bcast_S_S33792x1024 (constant S_ .f32 0x3F800000#32)) (Host.exp (Host.negf G)))) bitsLt_bf16_f32

theorem gate_apply (G : FVec Ideal S33792x1024 .f32) (n : Fin 33792) (j : Fin 1024) : gate G (ix2 n j) = Ideal.logistic (G (ix2 n j)) := by
  unfold gate
  pointwise
  rfl

/-- The windows kept of an array: each prompt's last 128 tokens, and the sample's tokens. -/
def lastHeads (K : FVec Ideal S33792x2x64 .f32) : FVec Ideal S8x128x2x64 .f32 :=
  extractStridedSlice S8x128x2x64 ![0, 3968, 0, 0] (shapeCast _ (extractStridedSlice S32768x2x64 ![0, 0, 0] K slices_S33792x2x64_S32768x2x64_0_0_0) shapeCasts_S32768x2x64_S8x4096x2x64) slices_S8x4096x2x64_S8x128x2x64_0_3968_0_0

theorem lastHeads_apply (K : FVec Ideal S33792x2x64 .f32) (b : Fin 8) (s : Fin 128) (h : Fin 2) (e : Fin 64) :
    lastHeads K (ix4 b s h e) = K (ix3 (lastToken b s) h e) := by
  have en : lastToken b s = (⟨b.val * 4096 + (3968 + s.val), by omega⟩ : Fin 33792) := Fin.ext (by show b.val * 4096 + 3968 + s.val = b.val * 4096 + (3968 + s.val); omega)
  rw [en]
  unfold lastHeads
  pointwise

def sampleHeads (K : FVec Ideal S33792x2x64 .f32) : FVec Ideal S128x8x2x64 .f32 :=
  shapeCast _ (extractStridedSlice S1024x2x64 ![32768, 0, 0] K slices_S33792x2x64_S1024x2x64_32768_0_0) shapeCasts_S1024x2x64_S128x8x2x64

theorem sampleHeads_apply (K : FVec Ideal S33792x2x64 .f32) (b : Fin 128) (s : Fin 8) (h : Fin 2) (e : Fin 64) :
    sampleHeads K (ix4 b s h e) = K (ix3 (sampleToken b s) h e) := by
  unfold sampleHeads sampleToken
  pointwise

def lastRows (V : FVec Ideal S33792x512 .f32) : FVec Ideal S8x128x512 .f32 :=
  extractStridedSlice S8x128x512 ![0, 3968, 0] (shapeCast _ (extractStridedSlice S32768x512 ![0, 0] V slices_S33792x512_S32768x512_0_0) shapeCasts_S32768x512_S8x4096x512) slices_S8x4096x512_S8x128x512_0_3968_0

theorem lastRows_apply (V : FVec Ideal S33792x512 .f32) (b : Fin 8) (s : Fin 128) (e : Fin 512) : lastRows V (ix3 b s e) = V (ix2 (lastToken b s) e) := by
  have en : lastToken b s = (⟨b.val * 4096 + (3968 + s.val), by omega⟩ : Fin 33792) := Fin.ext (by show b.val * 4096 + 3968 + s.val = b.val * 4096 + (3968 + s.val); omega)
  rw [en]
  unfold lastRows
  pointwise

def sampleRows (V : FVec Ideal S33792x512 .f32) : FVec Ideal S128x8x512 .f32 :=
  shapeCast _ (extractStridedSlice S1024x512 ![32768, 0] V slices_S33792x512_S1024x512_32768_0) shapeCasts_S1024x512_S128x8x512

theorem sampleRows_apply (V : FVec Ideal S33792x512 .f32) (b : Fin 128) (s : Fin 8) (e : Fin 512) : sampleRows V (ix3 b s e) = V (ix2 (sampleToken b s) e) := by
  unfold sampleRows sampleToken
  pointwise

/-- The reference's arrays. -/
def Z (A : Inputs) : FVec Ideal S33792x3840 .f32 := projected (normed (joined A.xp A.xs) A.g) A.w

theorem Z_apply (A : Inputs) (n : Fin 33792) : (fun j => Z A (ix2 n j)) = A.z n := by
  funext j
  unfold Z Inputs.z
  rw [projected_apply]
  simp only [normed_apply, joined_apply]
  rfl

def Q (A : Inputs) : FVec Ideal S33792x8x64 .f32 := unit8 (by8 (cutQ (Z A))) A.qg
def K (A : Inputs) : FVec Ideal S33792x2x64 .f32 := unit2 (by2 (cutK (Z A))) A.kg
def V (A : Inputs) : FVec Ideal S33792x2x64 .f32 := by2 (cutV (Z A))
def N (A : Inputs) : FVec Ideal S33792x512 .f32 := deviated (centredRows (rectified (cutN (Z A)))) A.lg A.lb

/-- The heads' norms of a row, at a head's column. -/
theorem heads_at {a : ℕ} (hh : ∀ j : Fin a, ∀ d : Fin 64, j.val / 64 * 64 + d.val < a) (q : Fin a → EReal) (g : Fin 64 → EReal) (j : Fin a) (h : ℕ) (e : Fin 64)
    (hj : j.val = h * 64 + e.val) (ha : ∀ d : Fin 64, h * 64 + d.val < a) : heads hh q g j = unit (fun d => q ⟨h * 64 + d.val, ha d⟩) g e := by
  have e1 : j.val / 64 = h := by omega
  have e2 : (⟨j.val % 64, by omega⟩ : Fin 64) = e := Fin.ext (by show j.val % 64 = e.val; omega)
  have e3 : j = ⟨h * 64 + e.val, ha e⟩ := Fin.ext hj
  have e4 : ∀ d : Fin 64, (⟨j.val / 64 * 64 + d.val, hh j d⟩ : Fin a) = ⟨h * 64 + d.val, ha d⟩ := fun d => Fin.ext (by show j.val / 64 * 64 + d.val = _; rw [e1])
  unfold heads unit
  rw [e2]
  simp only [e4]
  rw [← e3]

theorem Q_apply (A : Inputs) (n : Fin 33792) (h : Fin 8) (e : Fin 64) (j : Fin 512) (hj : j.val = h.val * 64 + e.val) :
    Q A (ix3 n h e) * Ideal.ofBits .f32 0x3E000000#32 = A.q n j := by
  unfold Q Inputs.q
  rw [heads_at _ _ _ j h.val e hj (fun d => by omega), unit8_apply]
  simp only [by8_apply, cutQ_apply, Z_apply]

theorem K_apply (A : Inputs) (n : Fin 33792) (h : Fin 2) (e : Fin 64) (j : Fin 128) (hj : j.val = h.val * 64 + e.val) : K A (ix3 n h e) = A.k n j := by
  unfold K Inputs.k
  rw [heads_at _ _ _ j h.val e hj (fun d => by omega), unit2_apply]
  simp only [by2_apply, cutK_apply, Z_apply]
  rfl

theorem V_apply (A : Inputs) (n : Fin 33792) (h : Fin 2) (e : Fin 64) : V A (ix3 n h e) = A.v n (column h e) := by
  unfold V Inputs.v
  rw [by2_apply, cutV_apply, Z_apply]

theorem N_apply (A : Inputs) (n : Fin 33792) (j : Fin 512) : N A (ix2 n j) = A.vn n j := by
  unfold N Inputs.vn layer
  rw [deviated_apply]
  simp only [centredRows_apply, rectified_apply, cutN_apply, Z_apply]

theorem out0_eq (A : Inputs) : flat8 (Q A) = A.out0 := by
  funext i
  idx_vars i
  rw [flat8_apply]
  exact Q_apply A _ _ _ _ (by show i1.val = i1.val / 64 * 64 + i1.val % 64; omega)

theorem out1_eq (A : Inputs) : flat2 (K A) = A.out1 := by
  funext i
  idx_vars i
  rw [flat2_apply]
  exact K_apply A _ _ _ _ (by show i1.val = i1.val / 64 * 64 + i1.val % 64; omega)

theorem out2_eq (A : Inputs) : flat2 (V A) = A.out2 := by
  funext i
  idx_vars i
  rw [flat2_apply, V_apply]
  exact congrArg (A.v i0) (Fin.ext (by show i1.val / 64 * 64 + i1.val % 64 = i1.val; omega))

theorem out3_eq (A : Inputs) : rounded (rectified (cutU (Z A))) = A.out3 := by
  funext i
  idx_vars i
  rw [rounded_apply, rectified_apply, cutU_apply, Z_apply]
  rfl

theorem out4_eq (A : Inputs) : N A = A.out4 := by
  funext i
  idx_vars i
  exact N_apply A _ _

theorem out5_eq (A : Inputs) : gate (cutA (Z A)) = A.out5 := by
  funext i
  idx_vars i
  rw [gate_apply, cutA_apply, Z_apply]
  rfl

theorem out6_eq (A : Inputs) : gate (cutB (Z A)) = A.out6 := by
  funext i
  idx_vars i
  rw [gate_apply, cutB_apply, Z_apply]
  rfl

theorem out7_eq (A : Inputs) : lastHeads (K A) = A.out7 := by
  funext i
  idx_vars i
  rw [lastHeads_apply]
  exact K_apply A _ _ _ _ rfl

theorem out8_eq (A : Inputs) : lastHeads (V A) = A.out8 := by
  funext i
  idx_vars i
  rw [lastHeads_apply]
  exact V_apply A _ _ _

theorem out9_eq (A : Inputs) : sampleHeads (K A) = A.out9 := by
  funext i
  idx_vars i
  rw [sampleHeads_apply]
  exact K_apply A _ _ _ _ rfl

theorem out10_eq (A : Inputs) : sampleHeads (V A) = A.out10 := by
  funext i
  idx_vars i
  rw [sampleHeads_apply]
  exact V_apply A _ _ _

theorem out11_eq (A : Inputs) : lastRows (N A) = A.out11 := by
  funext i
  idx_vars i
  rw [lastRows_apply]
  exact N_apply A _ _

theorem out12_eq (A : Inputs) : sampleRows (N A) = A.out12 := by
  funext i
  idx_vars i
  rw [sampleRows_apply]
  exact N_apply A _ _

variable (m : (ℓ : Loc nD τ sig) → Buf (Elt Ideal) ℓ)

/-- The arguments in the reference's memory. -/
def inputs (c : Dev nD) : Inputs :=
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5), m ((c.tc : Thread nD τ).loc main_arg6), m ((c.tc : Thread nD τ).loc main_arg7)⟩

theorem res0 (c : Dev nD) : Cert.ProjReferenceIdeal.Value.res_main_v104 m c = flat8 (Q (inputs m c)) := rfl

theorem res1 (c : Dev nD) : Cert.ProjReferenceIdeal.Value.res_main_v105 m c = flat2 (K (inputs m c)) := rfl

theorem res3 (c : Dev nD) : Cert.ProjReferenceIdeal.Value.res_main_v107 m c = rounded (rectified (cutU (Z (inputs m c)))) := rfl

theorem res4 (c : Dev nD) : Cert.ProjReferenceIdeal.Value.res_main_v103 m c = N (inputs m c) := rfl

theorem res7 (c : Dev nD) : Cert.ProjReferenceIdeal.Value.res_main_v124 m c = lastHeads (K (inputs m c)) := rfl

theorem res9 (c : Dev nD) : Cert.ProjReferenceIdeal.Value.res_main_v129 m c = sampleHeads (K (inputs m c)) := rfl

theorem res11 (c : Dev nD) : Cert.ProjReferenceIdeal.Value.res_main_v134 m c = lastRows (N (inputs m c)) := rfl

theorem res12 (c : Dev nD) : Cert.ProjReferenceIdeal.Value.res_main_v136 m c = sampleRows (N (inputs m c)) := rfl

end Cert.ProjReferenceIdeal.Stages
-- ==== Proof.ProjClaims.lean ====
/- The claims about the input projection. -/
module

public import proofs.«01_k».proof.Defs
public import proofs.«01_k».proof.Proof.ProjTail
public import proofs.«01_k».proof.Proof.ProjStages
public import proofs.«01_k».proof.Proof.Finite
public import proofs.«01_k».proof.Proof.Gen.ProjKernel.Frame
public import Idealize.ShloMosaic.Lib.Claim
public import Idealize.ShloMosaic.Lib.Quiescent
public import Idealize.ShloMosaic.Lib.ReduceAll

@[expose] public section

set_option maxHeartbeats 4000000
set_option maxRecDepth 16384

noncomputable section

namespace Cert.Pre_finite_projection.Read

open Idealize.ShloMosaic Cert.Pre_finite_projection Cert.Pre_finite_inputs.Read

/-- The facts the precondition states. -/
instance facts : Cert.Pre_finite_projection.Facts where
  h_S_ := by decide
  bcast_S_S1024 := by decide
  reducesTo_S1024_S_d0 := by decide
  bcast_S_S1024x3840 := by decide
  reducesTo_S1024x3840_S_d0_1 := by decide

/-- The precondition read back: the norm's gains and the weights are real numbers. -/
theorem reads (a0 : FVec Ideal S8x4096x1024 .f32) (a1 : FVec Ideal S128x8x1024 .f32) (a2 : FVec Ideal S1024 .f32) (a3 : FVec Ideal S1024x3840 .f32)
    (a4 a5 : FVec Ideal S64 .f32) (a6 a7 : FVec Ideal S512 .f32) (h : fn a0 a1 a2 a3 a4 a5 a6 a7 = fun _ => 1#1) :
    (∀ i, ∃ r : ℝ, a2 i = r) ∧ (∀ i, ∃ r : ℝ, a3 i = r) := by
  haveI : Subsingleton S_.Idx := ⟨fun a b => funext fun x => x.elim0⟩
  have h0 := congrFun h (fun x => x.elim0)
  unfold fn at h0
  dsimp only at h0
  obtain ⟨hg, hw⟩ := IntOp.andi_eq_one.1 h0
  exact ⟨fun i => real_of_lt _ (Host.reduce_andi_all _ _ _ _ _ hg i), fun i => real_of_lt _ (Host.reduce_andi_all _ _ _ _ _ hw i)⟩

end Cert.Pre_finite_projection.Read

namespace Cert.ProjClaims

open Idealize.ShloMosaic Idealize.ShloMosaic.TcCoe Idealize.SL.Sem
open Cert.ProjKernelIdeal.Arrays Cert.ProjKernelIdeal.Tail Cert.ProjReferenceIdeal.Stages

theorem frame_P : Cert.quiescent_ProjKernel := fun m ρ _ => Cert.ProjKernel.Gen.frame m ρ

theorem frame_PI : Cert.quiescent_ProjKernelIdeal := fun m ρ _ => Cert.ProjKernelIdeal.Gen.frame m ρ

theorem frame_PI_pre : Cert.quiescent_ProjKernelIdeal_pre_finite_projection := fun m ρ _ => Cert.ProjKernelIdeal.Gen.frame m ρ

theorem frame_RI : Cert.quiescent_ProjReferenceIdeal := fun m ρ _ =>
  (θ_run Cert.ProjReferenceIdeal.defs _ _).mono (fun r h => ⟨fun c => (h c).2.2.2.2.2.2.2.2.2.2.2.2.2,
      Idealize.ShloMosaic.sem_eq_zero_of_no_sems (by decide) r.2⟩)
    (Cert.ProjReferenceIdeal.Value.run (F := Ideal) m ρ)

theorem frame_RI_pre : Cert.quiescent_ProjReferenceIdeal_pre_finite_projection := fun m ρ _ => frame_RI m ρ trivial

theorem preserves : Cert.preserves_ProjKernel_ProjKernelIdeal := trivial

theorem algebraic : Cert.algebraic_ProjKernelIdeal_ProjReferenceIdeal_pre_finite_projection := by
  intro m ρ m' ρ' hpre hag
  have hR : ∀ c, (Cert.ProjKernelIdeal.Arrays.inputs m c).Real := fun c => Cert.Pre_finite_projection.Read.reads _ _ _ _ _ _ _ _ (hpre c)
  have hi : ∀ c, Cert.ProjReferenceIdeal.Stages.inputs m' c = Cert.ProjKernelIdeal.Arrays.inputs m c := by
    intro c
    obtain ⟨e0, e1, e2, e3, e4, e5, e6, e7⟩ := hag c
    unfold Cert.ProjReferenceIdeal.Stages.inputs Cert.ProjKernelIdeal.Arrays.inputs
    rw [e0, e1, e2, e3, e4, e5, e6, e7]
  refine ⟨fun c => (Cert.ProjKernelIdeal.Arrays.inputs m c).out0,
    fun c => (Cert.ProjKernelIdeal.Arrays.inputs m c).out1,
    fun c => (Cert.ProjKernelIdeal.Arrays.inputs m c).out2,
    fun c => (Cert.ProjKernelIdeal.Arrays.inputs m c).out3,
    fun c => (Cert.ProjKernelIdeal.Arrays.inputs m c).out4,
    fun c => (Cert.ProjKernelIdeal.Arrays.inputs m c).out5,
    fun c => (Cert.ProjKernelIdeal.Arrays.inputs m c).out6,
    fun c => (Cert.ProjKernelIdeal.Arrays.inputs m c).out7,
    fun c => (Cert.ProjKernelIdeal.Arrays.inputs m c).out8,
    fun c => (Cert.ProjKernelIdeal.Arrays.inputs m c).out9,
    fun c => (Cert.ProjKernelIdeal.Arrays.inputs m c).out10,
    fun c => (Cert.ProjKernelIdeal.Arrays.inputs m c).out11,
    fun c => (Cert.ProjKernelIdeal.Arrays.inputs m c).out12, ?_, ?_⟩
  · refine (θ_run _ _ _).mono (fun _ h c => ?_) (θ_run_and (Cert.ProjKernelIdeal.Gen.run_main m ρ) (Cert.ProjKernelIdeal.Gen.unchanged m ρ))
    have hr := h.1
    exact ⟨((hr c).1 10).trans (final10 m c (hR c)),
      ((hr c).1 11).trans (final11 m c (hR c)),
      ((hr c).1 12).trans (final12 m c),
      ((hr c).1 13).trans (final13 m c),
      ((hr c).1 14).trans (final14 m c),
      ((hr c).1 15).trans (final15 m c),
      ((hr c).1 16).trans (final16 m c),
      ((hr c).2 Cert.ProjKernelIdeal.main_v41 (Pipeline.mem_restRefs_of Cert.ProjKernelIdeal.main_v41 (by decide) (by decide))).trans (tail7 m c (hR c)),
      ((hr c).2 Cert.ProjKernelIdeal.main_v59 (Pipeline.mem_restRefs_of Cert.ProjKernelIdeal.main_v59 (by decide) (by decide))).trans (tail8 m c),
      ((hr c).2 Cert.ProjKernelIdeal.main_v62 (Pipeline.mem_restRefs_of Cert.ProjKernelIdeal.main_v62 (by decide) (by decide))).trans (tail9 m c (hR c)),
      ((hr c).2 Cert.ProjKernelIdeal.main_v65 (Pipeline.mem_restRefs_of Cert.ProjKernelIdeal.main_v65 (by decide) (by decide))).trans (tail10 m c),
      ((hr c).2 Cert.ProjKernelIdeal.main_v82 (Pipeline.mem_restRefs_of Cert.ProjKernelIdeal.main_v82 (by decide) (by decide))).trans (tail11 m c),
      ((hr c).2 Cert.ProjKernelIdeal.main_v84 (Pipeline.mem_restRefs_of Cert.ProjKernelIdeal.main_v84 (by decide) (by decide))).trans (tail12 m c),
      h.2 c⟩
  · exact (θ_run _ _ _).mono (fun _ h c => ⟨((h c).1).trans (((res0 m' c).trans (out0_eq (Cert.ProjReferenceIdeal.Stages.inputs m' c))).trans (by rw [hi c])),
      ((h c).2.1).trans (((res1 m' c).trans (out1_eq (Cert.ProjReferenceIdeal.Stages.inputs m' c))).trans (by rw [hi c])),
      ((h c).2.2.1).trans ((out2_eq (Cert.ProjReferenceIdeal.Stages.inputs m' c)).trans (by rw [hi c])),
      ((h c).2.2.2.1).trans (((res3 m' c).trans (out3_eq (Cert.ProjReferenceIdeal.Stages.inputs m' c))).trans (by rw [hi c])),
      ((h c).2.2.2.2.1).trans (((res4 m' c).trans (out4_eq (Cert.ProjReferenceIdeal.Stages.inputs m' c))).trans (by rw [hi c])),
      ((h c).2.2.2.2.2.1).trans ((out5_eq (Cert.ProjReferenceIdeal.Stages.inputs m' c)).trans (by rw [hi c])),
      ((h c).2.2.2.2.2.2.1).trans ((out6_eq (Cert.ProjReferenceIdeal.Stages.inputs m' c)).trans (by rw [hi c])),
      ((h c).2.2.2.2.2.2.2.1).trans (((res7 m' c).trans (out7_eq (Cert.ProjReferenceIdeal.Stages.inputs m' c))).trans (by rw [hi c])),
      ((h c).2.2.2.2.2.2.2.2.1).trans ((out8_eq (Cert.ProjReferenceIdeal.Stages.inputs m' c)).trans (by rw [hi c])),
      ((h c).2.2.2.2.2.2.2.2.2.1).trans (((res9 m' c).trans (out9_eq (Cert.ProjReferenceIdeal.Stages.inputs m' c))).trans (by rw [hi c])),
      ((h c).2.2.2.2.2.2.2.2.2.2.1).trans ((out10_eq (Cert.ProjReferenceIdeal.Stages.inputs m' c)).trans (by rw [hi c])),
      ((h c).2.2.2.2.2.2.2.2.2.2.2.1).trans (((res11 m' c).trans (out11_eq (Cert.ProjReferenceIdeal.Stages.inputs m' c))).trans (by rw [hi c])),
      ((h c).2.2.2.2.2.2.2.2.2.2.2.2.1).trans (((res12 m' c).trans (out12_eq (Cert.ProjReferenceIdeal.Stages.inputs m' c))).trans (by rw [hi c])),
      (h c).2.2.2.2.2.2.2.2.2.2.2.2.2⟩) (Cert.ProjReferenceIdeal.Value.run m' ρ')

end Cert.ProjClaims
-- ==== Proof.SampleAttention.lean ====
/- The attention of one query of a sampled sequence against the 128 cached keys of the sequence and its 8 new ones, as a
   formula over the extended reals: the same window, slopes and sink as in the prompt's attention. -/
module

public import proofs.«01_k».proof.Proof.Attention

@[expose] public section

noncomputable section

namespace Cert.SampleAttention

open Idealize.ShloMosaic

/-- How far key `r` (of 136: the cached ones, then the new ones) lies behind new query `i`. -/
def lag (i : Fin 8) (r : Fin 136) : ℤ := (i.val : ℤ) - ((r.val : ℤ) - 128)

/-- Query `i` sees key `r`: at a distance of 0 to 127. -/
def Sees (i : Fin 8) (r : Fin 136) : Prop := 0 ≤ lag i r ∧ lag i r < 128

open Classical in
/-- The score of key `r`: the inner product less the slope times the distance, or −∞ where the key is not seen. -/
def score (slope : EReal) (q : Fin 64 → EReal) (k : Fin 136 → Fin 64 → EReal) (i : Fin 8) (r : Fin 136) : EReal :=
  if Sees i r then (∑ d, q d * k r d) - slope * (((lag i r : ℤ) : ℝ) : EReal) else ⊥

/-- The largest of the scores and the sink. -/
def top (f : Fin 136 → EReal) (sink : EReal) : EReal := max (Finset.univ.fold max ⊥ f) sink

/-- The softmax's denominator, the sink included. -/
def den (f : Fin 136 → EReal) (sink : EReal) : EReal :=
  (∑ r, Ideal.exp (f r - top f sink)) + Ideal.exp (sink - top f sink)

/-- The weight of key `r`. -/
def prob (f : Fin 136 → EReal) (sink : EReal) (r : Fin 136) : EReal :=
  Ideal.div (Ideal.exp (f r - top f sink)) (den f sink)

/-- One coordinate of a query's attention. -/
def att (slope sink : EReal) (q : Fin 64 → EReal) (k : Fin 136 → Fin 64 → EReal) (v : Fin 136 → EReal) (i : Fin 8) : EReal :=
  ∑ r, prob (score slope q k i) sink r * v r

end Cert.SampleAttention
-- ==== Proof.SampleHeads.lean ====
/- The heads of a sequence in the kernel's attention of the sample, read at an index: the four heads of a group lie one
   after the other, eight queries each, in the 32 rows of the group's scores. -/
module

public import proofs.«01_k».proof.Proof.Gen.SampleKernelIdeal.Skeleton
public import proofs.«01_k».proof.Proof.SampleAttention
public import Idealize.ShloMosaic.Lib.Pipeline.ValueKit
public import Idealize.ShloMosaic.Lib.Pointwise
public import Idealize.ShloMosaic.Lib.Tactic.WordOmega

@[expose] public section

set_option maxRecDepth 16384

noncomputable section

namespace Cert.SampleKernelIdeal.Heads

open Idealize.ShloMosaic Idealize.ShloMosaic.TcCoe
open Cert.SampleKernelIdeal Cert.SampleKernelIdeal.Gen Cert.SampleAttention
open Cert.Attention (slope negInf)

/-- The mask constant stands for −∞. -/
theorem mask_eq : Named.named (F := Ideal) (φ := .f32) κ "mask" 0xF149F2CA#32 = (⊥ : EReal) :=
  IdealRules.named_const.ideal_named_scalar _ _ _ _ rfl

/-- A row's query within its head, as a word. -/
def queryT : IVec S32x136 32 :=
  let w : BitVec 32 := Scalar.select (Scalar.cmpi .eq 8#32 0#32) 1#32 8#32
  let v := remsi (iota .tc S32x136 32 [0] iota_S32x136_d0_w32) (broadcast S32x136 w)
  select (andi (xori (cmpi .slt v (broadcast S32x136 0#32)) (broadcastTo S32x136 (broadcast S32x136 (Scalar.cmpi .slt w 0#32)) broadcasts_S32x136_S32x136))
    (cmpi .ne v (broadcast S32x136 0#32))) (addi v (broadcast S32x136 w)) v

theorem queryT_apply (r : Fin 32) (c : Fin 136) : queryT (ix2 r c) = BitVec.ofNat 32 (r.val % 8) := by
  unfold queryT
  pointwise
  revert r
  decide

theorem pay5_eq : k0_pay5 = subi queryT (subi (iota .tc S32x136 32 [1] iota_S32x136_d1_w32) (broadcast S32x136 128#32)) := rfl

theorem pay5_apply (r : Fin 32) (c : Fin 136) (t : Fin 8) (ht : t.val = r.val % 8) : (k0_pay5 (ix2 r c)).toInt = lag t c := by
  have hc := c.isLt
  have hq := queryT_apply r c
  rw [pay5_eq]
  unfold lag
  pointwise [hq]
  rw [ht]
  unfold IntOp.subi
  rw [BitVec.toInt_eq_toNat_cond, BitVec.toNat_sub, BitVec.toNat_sub, BitVec.toNat_ofNat, BitVec.toNat_ofNat]
  simp only [BitVec.toNat_ofNat]
  split <;> omega

theorem pay8_apply (r : Fin 32) (c : Fin 136) (t : Fin 8) (ht : t.val = r.val % 8) :
    (k0_pay8 k0_pay5 : FVec Ideal S32x136 .f32) (ix2 r c) = (((lag t c : ℤ) : ℝ) : EReal) := by
  rw [← pay5_apply r c t ht]
  rfl

theorem and_one (a b : BitVec 1) : IntOp.andi a b = 1#1 ↔ a = 1#1 ∧ b = 1#1 := by
  revert a b; decide

theorem pay7_apply (r : Fin 32) (c : Fin 136) (t : Fin 8) (ht : t.val = r.val % 8) :
    k0_pay7 k0_pay5 k0_pay6 128#32 (ix2 r c) = 1#1 ↔ Sees t c := by
  have h := pay5_apply r c t ht
  unfold k0_pay7 k0_pay6 Sees
  pointwise
  rw [and_one, IntOp.cmpi_sge, IntOp.cmpi_slt, h]
  simp

theorem pay9_apply (r : Fin 32) : k0_pay9 (ix2 r 0) = BitVec.ofNat 32 (r.val / 8) := by
  unfold k0_pay9
  pointwise
  revert r
  decide

/-- The scores of the first group's heads, from their inner products. -/
theorem pay14_apply (D : FVec Ideal S16x32x136 .f32) (s : Fin 16) (h : Fin 4) (t : Fin 8) (r : Fin 32) (hr : r.val = 8 * h.val + t.val) (c : Fin 136) :
    k0_pay14 (k0_pay7 k0_pay5 k0_pay6 128#32) (k0_pay8 k0_pay5) k0_pay9 D k0_pay12 (ix3 s r c)
      = Scalar.select (k0_pay7 k0_pay5 k0_pay6 128#32 (ix2 r c)) (D (ix3 s r c) - slope ⟨h.val, by omega⟩ * (((lag t c : ℤ) : ℝ) : EReal)) ⊥ := by
  have h9 := pay9_apply r
  have h8 := pay8_apply r c t (by omega)
  have e : r.val / 8 = h.val := by omega
  rw [e] at h9
  unfold k0_pay14 k0_pay12
  generalize k0_pay9 = w at h9 ⊢
  generalize k0_pay8 (F := Ideal) k0_pay5 = d at h8 ⊢
  generalize k0_pay7 k0_pay5 k0_pay6 128#32 = k
  pointwise [mask_eq, h9, h8]
  fin_cases h <;> simp [Cert.Attention.slope, Scalar.select, IntOp.cmpi]

/-- The scores of the second group's heads. -/
theorem pay28_apply (D : FVec Ideal S16x32x136 .f32) (s : Fin 16) (h : Fin 4) (t : Fin 8) (r : Fin 32) (hr : r.val = 8 * h.val + t.val) (c : Fin 136) :
    k0_pay28 (k0_pay7 k0_pay5 k0_pay6 128#32) (k0_pay8 k0_pay5) k0_pay9 D k0_pay24 (k0_pay26 k0_pay9) k0_pay27 (ix3 s r c)
      = Scalar.select (k0_pay7 k0_pay5 k0_pay6 128#32 (ix2 r c)) (D (ix3 s r c) - slope ⟨4 + h.val, by omega⟩ * (((lag t c : ℤ) : ℝ) : EReal)) ⊥ := by
  have h9 := pay9_apply r
  have h8 := pay8_apply r c t (by omega)
  have e : r.val / 8 = h.val := by omega
  rw [e] at h9
  unfold k0_pay28 k0_pay24 k0_pay26 k0_pay27
  generalize k0_pay9 = w at h9 ⊢
  generalize k0_pay8 (F := Ideal) k0_pay5 = d at h8 ⊢
  generalize k0_pay7 k0_pay5 k0_pay6 128#32 = k
  pointwise [mask_eq, h9, h8]
  fin_cases h <;> simp [Cert.Attention.slope, Scalar.select, IntOp.cmpi]

/-- The sinks of the first group's heads. -/
theorem pay15_apply (a b c d : Ideal .f32) (h : Fin 4) (r : Fin 32) (hr : r.val / 8 = h.val) :
    k0_pay15 k0_pay9 k0_pay11 k0_pay13 a b c d (ix3 0 r 0) = ![a, b, c, d] h := by
  have h9 := pay9_apply r
  rw [hr] at h9
  unfold k0_pay15 k0_pay11 k0_pay13
  generalize k0_pay9 = w at h9 ⊢
  pointwise [h9]
  fin_cases h <;> simp [Scalar.select, IntOp.cmpi]

/-- The sinks of the second group's heads. -/
theorem pay29_apply (a b c d : Ideal .f32) (h : Fin 4) (r : Fin 32) (hr : r.val / 8 = h.val) :
    k0_pay29 k0_pay9 k0_pay25 a b c d (ix3 0 r 0) = ![a, b, c, d] h := by
  have h9 := pay9_apply r
  rw [hr] at h9
  unfold k0_pay29 k0_pay25
  generalize k0_pay9 = w at h9 ⊢
  pointwise [h9]
  fin_cases h <;> simp [Scalar.select, IntOp.cmpi]

/-- The inner products of the first group's heads. -/
theorem pay10_apply (q : FVec Ideal S16x8x512 .f32) (k : FVec Ideal S16x136x128 .bf16) (s : Fin 16) (h : Fin 4) (t : Fin 8) (r : Fin 32)
    (hr : r.val = 8 * h.val + t.val) (c : Fin 136) :
    k0_pay10 q k (ix3 s r c) = ∑ d : Fin 64, q (ix3 s t ⟨64 * h.val + d.val, by omega⟩) * k (ix3 s c ⟨d.val, by omega⟩) := by
  unfold k0_pay10
  have hb : 8 * h.val + t.val < 32 := by omega
  obtain rfl : r = ⟨8 * h.val + t.val, hb⟩ := Fin.ext hr
  clear hr
  have ht := t.isLt
  have n1 : ¬ 16 + t.val < 8 := by omega
  have n2 : ¬ 24 + t.val < 8 := by omega
  have e1 : 16 + t.val - 8 = 8 + t.val := by omega
  have e2 : 24 + t.val - 8 = 16 + t.val := by omega
  fin_cases h
  all_goals pointwise [n1, n2, e1, e2]

/-- The inner products of the second group's heads. -/
theorem pay23_apply (q : FVec Ideal S16x8x512 .f32) (k : FVec Ideal S16x136x128 .bf16) (s : Fin 16) (h : Fin 4) (t : Fin 8) (r : Fin 32)
    (hr : r.val = 8 * h.val + t.val) (c : Fin 136) :
    k0_pay23 q k (ix3 s r c) = ∑ d : Fin 64, q (ix3 s t ⟨256 + 64 * h.val + d.val, by omega⟩) * k (ix3 s c ⟨64 + d.val, by omega⟩) := by
  unfold k0_pay23
  have hb : 8 * h.val + t.val < 32 := by omega
  obtain rfl : r = ⟨8 * h.val + t.val, hb⟩ := Fin.ext hr
  clear hr
  have ht := t.isLt
  have n1 : ¬ 16 + t.val < 8 := by omega
  have n2 : ¬ 24 + t.val < 8 := by omega
  have e1 : 16 + t.val - 8 = 8 + t.val := by omega
  have e2 : 24 + t.val - 8 = 16 + t.val := by omega
  fin_cases h
  all_goals pointwise [n1, n2, e1, e2]

/-- The attention of the first group's heads, from their scores and sinks. -/
theorem pay18_apply (v : FVec Ideal S16x136x128 .bf16) (mk : IVec S32x136 1) (D : FVec Ideal S32x136 .f32) (w : IVec S32x1 32) (p : FVec Ideal S16x32x136 .f32)
    (z y : FVec Ideal S32x1 .f32) (e : IVec S32x1 1) (a b c d : Ideal .f32) (s : Fin 16) (r : Fin 32) (x : Fin 64) :
    k0_pay18 v (k0_pay15 w z e a b c d) (k0_pay16 mk D w p z y e a b c d) (k0_pay17 mk D w p z y e a b c d) (ix3 s r x)
      = ∑ i : Fin 136, prob (fun i => k0_pay14 mk D w p y (ix3 s r i)) (k0_pay15 w z e a b c d (ix3 0 r 0)) i * v (ix3 s i ⟨x.val, by omega⟩) := by
  unfold k0_pay18 k0_pay17 k0_pay16 prob den top
  generalize k0_pay15 w z e a b c d = k
  generalize k0_pay14 mk D w p y = f
  pointwise [negInf]

/-- The attention of the second group's heads. -/
theorem pay30_apply (v : FVec Ideal S16x136x128 .bf16) (f : FVec Ideal S16x32x136 .f32) (k : FVec Ideal S1x32x1 .f32) (s : Fin 16) (r : Fin 32) (x : Fin 64) :
    k0_pay30 v f k (ix3 s r x)
      = ∑ i : Fin 136, prob (fun i => f (ix3 s r i)) (k (ix3 0 r 0)) i * v (ix3 s i ⟨64 + x.val, by omega⟩) := by
  unfold k0_pay30 prob den top
  pointwise [negInf]

/-- Key or value `r` of sequence `s` of a block: a cached one, or one of the block's own rows. -/
def cat (cache : S16x128x128.Idx → EReal) (cur : S128x128.Idx → EReal) (s : Fin 16) (r : Fin 136) (c : Fin 128) : EReal :=
  if h : r.val < 128 then cache (ix3 s ⟨r.val, h⟩ c) else cur (ix2 ⟨8 * s.val + (r.val - 128), by omega⟩ c)

theorem pay2_apply (x : Vec Ideal S128x512 .bf16) (s : Fin 16) (t : Fin 8) (e : Fin 512) :
    k0_pay2 x (ix3 s t e) = x (ix2 ⟨8 * s.val + t.val, by omega⟩ e) := by
  unfold k0_pay2
  pointwise
  congr 2
  apply Fin.ext
  simp only
  omega

theorem pay3_apply (x : Vec Ideal S16x128x128 .f32) (y : Vec Ideal S128x128 .f32) (s : Fin 16) (r : Fin 136) (c : Fin 128) :
    k0_pay3 x y (ix3 s r c) = cat x y s r c := by
  unfold k0_pay3 cat
  pointwise
  split
  · rfl
  · congr 2
    apply Fin.ext
    simp only
    omega

theorem pay4_apply (x : Vec Ideal S16x128x128 .f32) (y : Vec Ideal S128x128 .f32) (s : Fin 16) (r : Fin 136) (c : Fin 128) :
    k0_pay4 x y (ix3 s r c) = cat x y s r c := pay3_apply x y s r c

/-- A head of the first group, from the block's inputs. -/
theorem first_apply (q : Vec Ideal S128x512 .bf16) (K V : Vec Ideal S16x128x128 .f32) (k v : Vec Ideal S128x128 .f32) (a b c d : Ideal .f32)
    (s : Fin 16) (h : Fin 4) (t : Fin 8) (r : Fin 32) (hr : r.val = 8 * h.val + t.val) (x : Fin 64) :
    k0_pay18 (k0_pay4 V v) (k0_pay15 k0_pay9 k0_pay11 k0_pay13 a b c d)
      (k0_pay16 (k0_pay7 k0_pay5 k0_pay6 128#32) (k0_pay8 k0_pay5) k0_pay9 (k0_pay10 (k0_pay2 q) (k0_pay3 K k)) k0_pay11 k0_pay12 k0_pay13 a b c d)
      (k0_pay17 (k0_pay7 k0_pay5 k0_pay6 128#32) (k0_pay8 k0_pay5) k0_pay9 (k0_pay10 (k0_pay2 q) (k0_pay3 K k)) k0_pay11 k0_pay12 k0_pay13 a b c d) (ix3 s r x)
      = att (slope ⟨h.val, by omega⟩) (![a, b, c, d] h) (fun e => q (ix2 ⟨8 * s.val + t.val, by omega⟩ ⟨64 * h.val + e.val, by omega⟩))
          (fun i e => cat K k s i ⟨e.val, by omega⟩) (fun i => cat V v s i ⟨x.val, by omega⟩) t := by
  classical
  rw [pay18_apply, pay15_apply a b c d h r (by omega)]
  unfold att
  refine Finset.sum_congr rfl fun i _ => ?_
  rw [pay4_apply]
  congr 2
  funext i
  rw [pay14_apply _ s h t r hr i, pay10_apply _ _ s h t r hr i]
  unfold score Scalar.select
  refine if_congr (pay7_apply r i t (by omega)) ?_ rfl
  simp only [pay2_apply, pay3_apply]

/-- A head of the second group. -/
theorem second_apply (q : Vec Ideal S128x512 .bf16) (K V : Vec Ideal S16x128x128 .f32) (k v : Vec Ideal S128x128 .f32) (a b c d : Ideal .f32)
    (s : Fin 16) (h : Fin 4) (t : Fin 8) (r : Fin 32) (hr : r.val = 8 * h.val + t.val) (x : Fin 64) :
    k0_pay30 (k0_pay4 V v)
      (k0_pay28 (k0_pay7 k0_pay5 k0_pay6 128#32) (k0_pay8 k0_pay5) k0_pay9 (k0_pay23 (k0_pay2 q) (k0_pay3 K k)) k0_pay24 (k0_pay26 k0_pay9) k0_pay27)
      (k0_pay29 k0_pay9 k0_pay25 a b c d) (ix3 s r x)
      = att (slope ⟨4 + h.val, by omega⟩) (![a, b, c, d] h) (fun e => q (ix2 ⟨8 * s.val + t.val, by omega⟩ ⟨256 + 64 * h.val + e.val, by omega⟩))
          (fun i e => cat K k s i ⟨64 + e.val, by omega⟩) (fun i => cat V v s i ⟨64 + x.val, by omega⟩) t := by
  classical
  rw [pay30_apply, pay29_apply a b c d h r (by omega)]
  unfold att
  refine Finset.sum_congr rfl fun i _ => ?_
  rw [pay4_apply]
  congr 2
  funext i
  rw [pay28_apply _ s h t r hr i, pay23_apply _ _ s h t r hr i]
  unfold score Scalar.select
  refine if_congr (pay7_apply r i t (by omega)) ?_ rfl
  simp only [pay2_apply, pay3_apply]

end Cert.SampleKernelIdeal.Heads
-- ==== Proof.SampleBlocks.lean ====
/- What one run of the kernel body leaves in the attention's output block of the sample, read at an index. -/
module

public import proofs.«01_k».proof.Proof.Gen.SampleKernelIdeal.Value
public import proofs.«01_k».proof.Proof.SampleHeads

@[expose] public section

set_option maxRecDepth 16384

noncomputable section

namespace Cert.SampleKernelIdeal.Blocks

open Idealize.ShloMosaic Idealize.ShloMosaic.TcCoe
open Cert.SampleKernelIdeal Cert.SampleKernelIdeal.Gen Cert.SampleAttention Cert.SampleKernelIdeal.Heads
open Cert.Attention (slope)

/-- The attention of query `t` of sequence `s` of a block, at coordinate `d` of head `h`. -/
def blockAt (x0 : Vec Ideal S8 .f32) (x1 : Vec Ideal S128x512 .bf16) (x2 x3 : Vec Ideal S128x128 .f32) (x4 x5 : Vec Ideal S16x128x128 .f32)
    (s : Fin 16) (t : Fin 8) (h : Fin 8) (d : Fin 64) : EReal :=
  att (slope h) (x0 (ix1 h)) (fun e => x1 (ix2 ⟨8 * s.val + t.val, by omega⟩ ⟨64 * h.val + e.val, by omega⟩))
    (fun r e => cat x4 x2 s r ⟨64 * (h.val / 4) + e.val, by omega⟩) (fun r => cat x5 x3 s r ⟨64 * (h.val / 4) + d.val, by omega⟩) t

/-- The same at a row and a column of the block. -/
def block (x0 : Vec Ideal S8 .f32) (x1 : Vec Ideal S128x512 .bf16) (x2 x3 : Vec Ideal S128x128 .f32) (x4 x5 : Vec Ideal S16x128x128 .f32) (y : S128x512.Idx) : EReal :=
  have h0 : (y 0).val < 128 := (y 0).isLt
  have h1 : (y 1).val < 512 := (y 1).isLt
  blockAt x0 x1 x2 x3 x4 x5 ⟨(y 0).val / 8, by omega⟩ ⟨(y 0).val % 8, by omega⟩ ⟨(y 1).val / 64, by omega⟩ ⟨(y 1).val % 64, by omega⟩

theorem block_eq (x0 : Vec Ideal S8 .f32) (x1 : Vec Ideal S128x512 .bf16) (x2 x3 : Vec Ideal S128x128 .f32) (x4 x5 : Vec Ideal S16x128x128 .f32)
    (y : S128x512.Idx) {C : Nat} {i : Fin 128} {d : Fin 64}
    (h0 : (y 0).val = i.val) (h1 : (y 1).val = C + d.val) (hC : C % 64 = 0) (bC : C < 512) :
    block x0 x1 x2 x3 x4 x5 y = blockAt x0 x1 x2 x3 x4 x5 ⟨i.val / 8, by omega⟩ ⟨i.val % 8, by omega⟩ ⟨C / 64, by omega⟩ d := by
  unfold block
  dsimp only
  congr 1 <;> apply Fin.ext <;> simp only [h0, h1] <;> omega

/-- A head's eight rows of every sequence, cut from its group's output. -/
theorem cut_apply (A : FVec Ideal S16x32x64 .f32) (o : Nat) (hs : S16x32x64.Slices ![0, o, 0] S16x8x64) (hb : FTy.bf16.bits < FTy.f32.bits) (bo : o + 8 ≤ 32) (i : Fin 128) (d : Fin 64) :
    truncf .bf16 (shapeCast S128x64 (extractStridedSlice S16x8x64 ![0, o, 0] A hs) shapeCasts_S16x8x64_S128x64) hb (ix2 i d)
      = A (ix3 ⟨i.val / 8, by omega⟩ ⟨o + i.val % 8, by omega⟩ d) := by
  pointwise

set_option maxHeartbeats 4000000 in
theorem out_a (c : Dev nD) (t : Fin grid0.N) (a0 : Vec Ideal S8 .f32) (a1 : Vec Ideal S128x512 .bf16) (a2 : Vec Ideal S128x128 .f32) (a3 : Vec Ideal S128x128 .f32) (a4 : Vec Ideal S16x128x128 .f32) (a5 : Vec Ideal S16x128x128 .f32) (a6 : Vec Ideal S128x512 .f32) (a7 : Vec Ideal S128x512 .bf16) (a8 : Vec Ideal S8x8x512 .f32) (a9 : Vec Ideal S8x512 .f32) (y : S128x512.Idx) :
    out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) a0 a1 a2 a3 a4 a5 a6 a7 a8 a9 y
      = block a0 a1 a2 a3 a4 a5 y := by
  frame_out
  canon_tiles x h
  all_goals
    idx_vars x
    first
    | rw [block_eq _ _ _ _ _ _ y h0 h1 rfl (by decide)]
    | rw [block_eq _ _ _ _ _ _ y h0 (h1.trans (Nat.zero_add _).symm) rfl (by decide)]
    first
    | unfold k0_pay19
      refine (cut_apply _ _ _ _ (by decide) _ _).trans ((first_apply _ _ _ _ _ _ _ _ _ _ 0 ⟨x0.val % 8, by omega⟩ _ rfl _).trans ?_)
    | unfold k0_pay20
      refine (cut_apply _ _ _ _ (by decide) _ _).trans ((first_apply _ _ _ _ _ _ _ _ _ _ 1 ⟨x0.val % 8, by omega⟩ _ rfl _).trans ?_)
    | unfold k0_pay21
      refine (cut_apply _ _ _ _ (by decide) _ _).trans ((first_apply _ _ _ _ _ _ _ _ _ _ 2 ⟨x0.val % 8, by omega⟩ _ rfl _).trans ?_)
    | unfold k0_pay22
      refine (cut_apply _ _ _ _ (by decide) _ _).trans ((first_apply _ _ _ _ _ _ _ _ _ _ 3 ⟨x0.val % 8, by omega⟩ _ rfl _).trans ?_)
    | unfold k0_pay31
      refine (cut_apply _ _ _ _ (by decide) _ _).trans ((second_apply _ _ _ _ _ _ _ _ _ _ 0 ⟨x0.val % 8, by omega⟩ _ rfl _).trans ?_)
    | unfold k0_pay32
      refine (cut_apply _ _ _ _ (by decide) _ _).trans ((second_apply _ _ _ _ _ _ _ _ _ _ 1 ⟨x0.val % 8, by omega⟩ _ rfl _).trans ?_)
    | unfold k0_pay33
      refine (cut_apply _ _ _ _ (by decide) _ _).trans ((second_apply _ _ _ _ _ _ _ _ _ _ 2 ⟨x0.val % 8, by omega⟩ _ rfl _).trans ?_)
    | unfold k0_pay34
      refine (cut_apply _ _ _ _ (by decide) _ _).trans ((second_apply _ _ _ _ _ _ _ _ _ _ 3 ⟨x0.val % 8, by omega⟩ _ rfl _).trans ?_)
    unfold blockAt
    congr 1
    · pointwise
    · funext r e
      pointwise
    · funext r
      pointwise

end Cert.SampleKernelIdeal.Blocks
-- ==== Proof.SampleStages.lean ====
/- The reference's attention of the sample, stage by stage, each stage read at an index. -/
module

public import proofs.«01_k».proof.Proof.Gen.SampleReferenceIdeal.Run
public import proofs.«01_k».proof.Proof.SampleAttention
public import Idealize.ShloMosaic.Lib.Tactic.CleanTypes
public import Idealize.ShloMosaic.Lib.Pointwise
public import Idealize.ShloMosaic.Lib.Tactic.WordOmega

@[expose] public section

set_option maxRecDepth 16384

noncomputable section

namespace Cert.SampleReferenceIdeal.Stages

open Idealize.ShloMosaic Idealize.ShloMosaic.TcCoe
open Cert.SampleReferenceIdeal Cert.SampleReferenceIdeal.Gen Cert.SampleAttention Cert.SampleReferenceIdeal.Value
open Cert.Attention (slope negInf)

/-- Every sequence's cached rows, then its new ones. -/
def keys (C : FVec Ideal S128x128x2x64 .f32) (A : FVec Ideal S33792x128 .f32) : FVec Ideal S128x136x2x64 .f32 :=
  concatenate S128x136x2x64 1 [⟨S128x128x2x64, C⟩, ⟨S128x8x2x64, (shapeCast _ (extractStridedSlice S1024x128 ![32768, 0] A slices_S33792x128_S1024x128_32768_0) shapeCasts_S1024x128_S128x8x2x64)⟩] concatenates_S128x128x2x64_S128x8x2x64_S128x136x2x64_d1

/-- How far a key lies behind a new query. -/
def lags : IVec S8x136 32 :=
  subi (broadcastInDim S8x136 ![0, 1] bcast_S8x1_S8x136_0_1 (broadcastInDim S8x1 ![0] bcast_S8_S8x1_0 (iotaInDim S8 32 0))) (broadcastInDim S8x136 ![0, 1] bcast_S1x136_S8x136_0_1 (broadcastInDim S1x136 ![1] bcast_S136_S1x136_1 (concatenate S136 0 [⟨S128, (subi (iotaInDim S128 32 0) (broadcastInDim S128 ![] bcast_S_S128 (constantI S_ 32 128#32)))⟩, ⟨S8, (iotaInDim S8 32 0)⟩] concatenates_S128_S8_S136_d0)))

/-- The keys a query attends to. -/
def masks : IVec S8x136 1 :=
  andi (cmpi .sge lags (broadcastInDim S8x136 ![] bcast_S_S8x136 (constantI S_ 32 0#32))) (cmpi .slt lags (broadcastInDim S8x136 ![] bcast_S_S8x136 (constantI S_ 32 128#32)))

def scores (Q : FVec Ideal S33792x512 .bf16) (C : FVec Ideal S128x128x2x64 .f32) (K : FVec Ideal S33792x128 .f32) : FVec Ideal S128x2x4x8x136 .f32 :=
  select (broadcastInDim S128x2x4x8x136 ![3, 4] bcast_S8x136_S128x2x4x8x136_3_4 masks) (subf (transpose S128x2x4x8x136 [0, 1, 4, 3, 2] (Host.dotGeneral dot_S128x136x2x64_S128x8x2x4x64_S128x2x136x8x4_3_4_1_13_02_02 none (keys C K) (shapeCast _ (extf .f32 (extractStridedSlice S1024x512 ![32768, 0] Q slices_S33792x512_S1024x512_32768_0) bitsLt_bf16_f32) shapeCasts_S1024x512_S128x8x2x4x64)) transposes_S128x2x136x8x4_S128x2x4x8x136_0_1_4_3_2) (broadcastInDim S128x2x4x8x136 ![0, 1, 2, 3, 4] bcast_S1x2x4x8x136_S128x2x4x8x136_0_1_2_3_4 (broadcastInDim S1x2x4x8x136 ![1, 2, 3, 4] bcast_S2x4x8x136_S1x2x4x8x136_1_2_3_4 (mulf (broadcastInDim S2x4x8x136 ![0, 1, 2, 3] bcast_S2x4x1x1_S2x4x8x136_0_1_2_3 (shapeCast _ ((fun i => FloatOps.ofBits .f32 (lit0 (S8.rowMajor i)))) shapeCasts_S8_S2x4x1x1)) (broadcastInDim S2x4x8x136 ![0, 1, 2, 3] bcast_S1x1x8x136_S2x4x8x136_0_1_2_3 (broadcastInDim S1x1x8x136 ![2, 3] bcast_S8x136_S1x1x8x136_2_3 (sitofp .f32 lags))))))) (broadcastInDim S128x2x4x8x136 ![] bcast_S_S128x2x4x8x136 (id (constant S_ .f32 0xFF800000#32)))

/-- The scores with the head's sink after them. -/
def cats (sinks : FVec Ideal S8 .f32) (Q : FVec Ideal S33792x512 .bf16) (C : FVec Ideal S128x128x2x64 .f32) (K : FVec Ideal S33792x128 .f32) : FVec Ideal S128x2x4x8x137 .f32 :=
  concatenate S128x2x4x8x137 4 [⟨S128x2x4x8x136, (scores Q C K)⟩, ⟨S128x2x4x8x1, (broadcastInDim S128x2x4x8x1 ![1, 2, 3, 4] bcast_S2x4x1x1_S128x2x4x8x1_1_2_3_4 (shapeCast _ sinks shapeCasts_S8_S2x4x1x1))⟩] concatenates_S128x2x4x8x136_S128x2x4x8x1_S128x2x4x8x137_d4

/-- The largest entry of every row. -/
def tops (C : FVec Ideal S128x2x4x8x137 .f32) : FVec Ideal S128x2x4x8 .f32 :=
  Host.reduce FloatOps.maximumf C (constant S_ .f32 0xFF800000#32) reducesTo_S128x2x4x8x137_S128x2x4x8_d4 h_S_

def exps (C : FVec Ideal S128x2x4x8x137 .f32) : FVec Ideal S128x2x4x8x137 .f32 :=
  Host.exp (subf C (broadcastInDim S128x2x4x8x137 ![0, 1, 2, 3, 4] bcast_S128x2x4x8x1_S128x2x4x8x137_0_1_2_3_4 (broadcastInDim S128x2x4x8x1 ![0, 1, 2, 3] bcast_S128x2x4x8_S128x2x4x8x1_0_1_2_3 (maximumf (broadcastInDim S128x2x4x8 ![] bcast_S_S128x2x4x8 (constant S_ .f32 0xFF800000#32)) (tops C)))))

def sums (C : FVec Ideal S128x2x4x8x137 .f32) : FVec Ideal S128x2x4x8 .f32 :=
  Host.reduceAdd (exps C) (constant S_ .f32 0x00000000#32) reducesTo_S128x2x4x8x137_S128x2x4x8_d4 h_S_

def probs (C : FVec Ideal S128x2x4x8x137 .f32) : FVec Ideal S128x2x4x8x137 .f32 :=
  Host.divf (exps C) (broadcastInDim S128x2x4x8x137 ![0, 1, 2, 3, 4] bcast_S128x2x4x8x1_S128x2x4x8x137_0_1_2_3_4 (broadcastInDim S128x2x4x8x1 ![0, 1, 2, 3] bcast_S128x2x4x8_S128x2x4x8x1_0_1_2_3 (sums C)))

def outs (sinks : FVec Ideal S8 .f32) (Q : FVec Ideal S33792x512 .bf16) (K V : FVec Ideal S33792x128 .f32) (CK CV : FVec Ideal S128x128x2x64 .f32) : FVec Ideal S1024x512 .bf16 :=
  truncf .bf16 (shapeCast _ (transpose S128x8x2x4x64 [0, 4, 1, 3, 2] (Host.dotGeneral dot_S128x136x2x64_S128x2x4x8x136_S128x2x64x4x8_1_4_3_23_02_01 none (keys CV V) (extractStridedSlice S128x2x4x8x136 ![0, 0, 0, 0, 0] (probs (cats sinks Q CK K)) slices_S128x2x4x8x137_S128x2x4x8x136_0_0_0_0_0)) transposes_S128x2x64x4x8_S128x8x2x4x64_0_4_1_3_2) shapeCasts_S128x8x2x4x64_S1024x512) bitsLt_bf16_f32

theorem res_eq (m : (ℓ : Loc nD τ sig) → Buf (Elt Ideal) ℓ) (c : Dev nD) :
    res_main_v55 m c = outs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v55 outs probs sums exps tops cats scores masks lags keys
  rfl

/-- The batch's row of new query `t` of sequence `b`. -/
def row (b : Fin 128) (t : Fin 8) : Fin 33792 := ⟨32768 + (b.val * 8 + t.val), by omega⟩

/-- Row `r` of the cached and the new rows of sequence `b`. -/
def past (C : FVec Ideal S128x128x2x64 .f32) (A : FVec Ideal S33792x128 .f32) (b : Fin 128) (kh : Fin 2) (r : Fin 136) (d : Fin 64) : EReal :=
  if h : r.val < 128 then C (ix4 b ⟨r.val, h⟩ kh d) else A (ix2 (row b ⟨r.val - 128, by omega⟩) ⟨kh.val * 64 + d.val, by omega⟩)

theorem keys_apply (C : FVec Ideal S128x128x2x64 .f32) (A : FVec Ideal S33792x128 .f32) (b : Fin 128) (r : Fin 136) (kh : Fin 2) (d : Fin 64) :
    keys C A (ix4 b r kh d) = past C A b kh r d := by
  unfold keys past row
  pointwise

theorem lags_apply (i : Fin 8) (r : Fin 136) : (lags (ix2 i r)).toInt = lag i r := by
  have hi := i.isLt
  have hr := r.isLt
  unfold lags lag
  pointwise
  unfold IntOp.subi
  split
  · rw [BitVec.toInt_eq_toNat_cond, BitVec.toNat_sub, BitVec.toNat_sub, BitVec.toNat_ofNat, BitVec.toNat_ofNat]
    simp only [BitVec.toNat_ofNat]
    split <;> omega
  · rw [BitVec.toInt_eq_toNat_cond, BitVec.toNat_sub, BitVec.toNat_ofNat, BitVec.toNat_ofNat]
    split <;> omega

theorem and_one (a b : BitVec 1) : IntOp.andi a b = 1#1 ↔ a = 1#1 ∧ b = 1#1 := by
  revert a b; decide

theorem masks_apply (i : Fin 8) (r : Fin 136) : masks (ix2 i r) = 1#1 ↔ Sees i r := by
  have h := lags_apply i r
  unfold masks Sees
  generalize lags = L at h ⊢
  pointwise
  rw [and_one, IntOp.cmpi_sge, IntOp.cmpi_slt, h]
  simp

theorem lit_slope (kh : Fin 2) (g : Fin 4) :
    Ideal.ofBits .f32 (lit0 (S8.rowMajor (ix1 ⟨kh.val * 4 + g.val, by omega⟩))) = slope ⟨kh.val * 4 + g.val, by omega⟩ := by
  unfold Cert.Attention.slope
  fin_cases kh <;> fin_cases g <;> congr 1

/-- A head's scores, as the attention's formula has them. -/
abbrev scoreF (Q : FVec Ideal S33792x512 .bf16) (C : FVec Ideal S128x128x2x64 .f32) (K : FVec Ideal S33792x128 .f32) (b : Fin 128) (kh : Fin 2) (g : Fin 4) (i : Fin 8) : Fin 136 → EReal :=
  score (slope ⟨kh.val * 4 + g.val, by omega⟩) (fun e => Q (ix2 (row b i) ⟨kh.val * 256 + g.val * 64 + e.val, by omega⟩)) (past C K b kh) i

theorem scores_apply (Q : FVec Ideal S33792x512 .bf16) (C : FVec Ideal S128x128x2x64 .f32) (K : FVec Ideal S33792x128 .f32) (b : Fin 128) (kh : Fin 2) (g : Fin 4) (i : Fin 8) (r : Fin 136) :
    scores Q C K (ix5 b kh g i r) = scoreF Q C K b kh g i r := by
  classical
  have hk := keys_apply C K
  have hl := lags_apply i r
  have hm := masks_apply i r
  unfold scores
  generalize keys C K = A at hk ⊢
  generalize lags = L at hl ⊢
  generalize masks = M at hm ⊢
  pointwise
  rw [lit_slope]
  unfold Scalar.select scoreF score
  refine if_congr hm ?_ negInf
  rw [← hl]
  refine congrArg (· - _) (Finset.sum_congr rfl fun x _ => ?_)
  rw [hk, mul_comm]
  rfl

theorem cats_apply (sinks : FVec Ideal S8 .f32) (Q : FVec Ideal S33792x512 .bf16) (C : FVec Ideal S128x128x2x64 .f32) (K : FVec Ideal S33792x128 .f32) (b : Fin 128) (kh : Fin 2) (g : Fin 4) (i : Fin 8) (r : Fin 137) :
    cats sinks Q C K (ix5 b kh g i r) = Fin.snoc (α := fun _ => EReal) (scoreF Q C K b kh g i) (sinks (ix1 ⟨kh.val * 4 + g.val, by omega⟩)) r := by
  have hs := scores_apply Q C K b kh g i
  unfold cats
  generalize scores Q C K = S at hs ⊢
  pointwise
  unfold Fin.snoc
  simp only [hs]
  rfl

theorem red : Shape.Reduces S128x2x4x8x137 [4] S128x2x4x8 := by decide

theorem lift_eq (b : Fin 128) (kh : Fin 2) (g : Fin 4) (i : Fin 8) (k : Fin 137) :
    red.lift (ix4 b kh g i) k = ix5 b kh g i k := by
  funext a
  apply Fin.ext
  fin_cases a <;> rfl

/-- A maximum from minus infinity over the scores and the sink. -/
theorem fold_snoc (f : Fin 136 → EReal) (s : EReal) :
    (Finset.univ : Finset (Fin 137)).fold max (Ideal.ofBits .f32 0xFF800000#32) (Fin.snoc (α := fun _ => EReal) f s) = top f s := by
  rw [negInf, Fin.univ_castSuccEmb, Finset.fold_cons, Finset.fold_map, Fin.snoc_last]
  unfold top
  rw [max_comm]
  congr 2
  funext r
  exact Fin.snoc_castSucc ..

theorem fold_max (s : Finset (Fin 137)) (b : EReal) (g : Fin 137 → EReal) :
    s.fold (FloatOps.maximumf (F := Ideal) (φ := .f32)) b g = s.fold max b g := rfl

/-- A maximum along the last axis. -/
theorem max_apply (C : FVec Ideal S128x2x4x8x137 .f32) (b : Fin 128) (kh : Fin 2) (g : Fin 4) (i : Fin 8) :
    tops C (ix4 b kh g i)
      = (Finset.univ : Finset (Fin 137)).fold max (Ideal.ofBits .f32 0xFF800000#32) fun r => C (ix5 b kh g i r) := by
  refine Eq.trans ?_ (fold_max _ _ _)
  refine (Host.reduce_eq_fold_single FloatOps.maximumf C _ _ red _ _).trans ?_
  exact congrArg (fun w => Finset.fold (FloatOps.maximumf (F := Ideal) (φ := .f32)) (Ideal.ofBits .f32 0xFF800000#32) w (Finset.univ : Finset (Fin 137)))
    (funext fun r => congrArg C (lift_eq b kh g i r))

theorem max_at (T : FVec Ideal S128x2x4x8 .f32) (b : Fin 128) (kh : Fin 2) (g : Fin 4) (i : Fin 8) :
    maximumf (broadcastInDim S128x2x4x8 ![] bcast_S_S128x2x4x8 (constant S_ .f32 0xFF800000#32)) T (ix4 b kh g i) = T (ix4 b kh g i) :=
  (congrArg (max · _) negInf).trans (max_eq_right bot_le)

theorem spread_at (M : FVec Ideal S128x2x4x8 .f32) (b : Fin 128) (kh : Fin 2) (g : Fin 4) (i : Fin 8) (r : Fin 137) :
    (broadcastInDim S128x2x4x8x137 ![0, 1, 2, 3, 4] bcast_S128x2x4x8x1_S128x2x4x8x137_0_1_2_3_4 (broadcastInDim S128x2x4x8x1 ![0, 1, 2, 3] bcast_S128x2x4x8_S128x2x4x8x1_0_1_2_3 M)) (ix5 b kh g i r) = M (ix4 b kh g i) := by
  pointwise

theorem exps_at (C : FVec Ideal S128x2x4x8x137 .f32) (b : Fin 128) (kh : Fin 2) (g : Fin 4) (i : Fin 8) (r : Fin 137) :
    exps C (ix5 b kh g i r) = Ideal.exp (C (ix5 b kh g i r) - tops C (ix4 b kh g i)) := by
  unfold exps
  generalize tops C = T
  exact congrArg (fun z => Ideal.exp (C (ix5 b kh g i r) - z)) ((spread_at _ b kh g i r).trans (max_at T b kh g i))

theorem exps_apply (C : FVec Ideal S128x2x4x8x137 .f32) (b : Fin 128) (kh : Fin 2) (g : Fin 4) (i : Fin 8)
    (f : Fin 136 → EReal) (s : EReal) (hC : ∀ r, C (ix5 b kh g i r) = Fin.snoc (α := fun _ => EReal) f s r) (r : Fin 137) :
    exps C (ix5 b kh g i r) = Ideal.exp (Fin.snoc (α := fun _ => EReal) f s r - top f s) := by
  have e : tops C (ix4 b kh g i) = top f s :=
    (max_apply C b kh g i).trans ((congrArg (fun w => Finset.fold max (Ideal.ofBits .f32 0xFF800000#32) w (Finset.univ : Finset (Fin 137))) (funext hC)).trans (fold_snoc f s))
  rw [exps_at, e, hC]

theorem probs_apply (C : FVec Ideal S128x2x4x8x137 .f32) (b : Fin 128) (kh : Fin 2) (g : Fin 4) (i : Fin 8)
    (f : Fin 136 → EReal) (s : EReal) (hC : ∀ r, C (ix5 b kh g i r) = Fin.snoc (α := fun _ => EReal) f s r) (r : Fin 136) :
    probs C (ix5 b kh g i r.castSucc) = prob f s r := by
  have e : Host.reduceAdd (exps C) (constant S_ .f32 0x00000000#32) reducesTo_S128x2x4x8x137_S128x2x4x8_d4 h_S_ (ix4 b kh g i) = den f s := by
    refine (Ideal.hostReduceAdd_single _ red _ _ _).trans ?_
    have e : ∀ k, exps C (red.lift (ix4 b kh g i) k) = Ideal.exp (Fin.snoc (α := fun _ => EReal) f s k - top f s) := fun k =>
      (congrArg (exps C) (lift_eq b kh g i k)).trans (exps_apply C b kh g i f s hC k)
    refine (congrArg (_ + ·) (Finset.sum_congr rfl fun k _ => e k)).trans ?_
    refine (congrArg (_ + ·) (Fin.sum_univ_castSucc (n := 136) _)).trans ?_
    simp only [Fin.snoc_castSucc, Fin.snoc_last]
    have z : constant (F := Ideal) S_ .f32 0x00000000#32 (Shape.Idx.first h_S_) = (0 : EReal) := by pointwise
    rw [z]
    exact zero_add (den f s)
  have e' := exps_apply C b kh g i f s hC r.castSucc
  have e2 : sums C (ix4 b kh g i) = den f s := e
  unfold probs
  generalize sums C = T at e2 ⊢
  generalize exps C = E at e' ⊢
  pointwise [e2, e']
  rw [Fin.snoc_castSucc]
  rfl

theorem outs_apply (sinks : FVec Ideal S8 .f32) (Q : FVec Ideal S33792x512 .bf16) (K V : FVec Ideal S33792x128 .f32) (CK CV : FVec Ideal S128x128x2x64 .f32)
    (b : Fin 128) (i : Fin 8) (kh : Fin 2) (g : Fin 4) (d : Fin 64) (n : Fin 1024) (e : Fin 512)
    (hn : n.val = b.val * 8 + i.val) (he : e.val = kh.val * 256 + g.val * 64 + d.val) :
    outs sinks Q K V CK CV (ix2 n e) = att (slope ⟨kh.val * 4 + g.val, by omega⟩) (sinks (ix1 ⟨kh.val * 4 + g.val, by omega⟩))
      (fun e => Q (ix2 (row b i) ⟨kh.val * 256 + g.val * 64 + e.val, by omega⟩)) (past CK K b kh) (fun r => past CV V b kh r d) i := by
  have b1 : (⟨n.val / 8, by omega⟩ : Fin 128) = b := Fin.ext (by simp only; omega)
  have b3 : (⟨n.val % 8, by omega⟩ : Fin 8) = i := Fin.ext (by simp only; omega)
  have b4 : (⟨e.val / 256, by omega⟩ : Fin 2) = kh := Fin.ext (by simp only; omega)
  have b5 : (⟨e.val / 64 % 4, by omega⟩ : Fin 4) = g := Fin.ext (by simp only; omega)
  have b6 : (⟨e.val % 64, by omega⟩ : Fin 64) = d := Fin.ext (by simp only; omega)
  have hp := probs_apply _ b kh g i _ _ (cats_apply sinks Q CK K b kh g i)
  have hk := keys_apply CV V
  unfold outs
  generalize probs (cats sinks Q CK K) = P at hp ⊢
  generalize keys CV V = A at hk ⊢
  pointwise
  simp only [b1, b3, b4, b5, b6]
  unfold att
  refine Finset.sum_congr rfl fun r _ => ?_
  rw [hk, mul_comm]
  exact congrArg (· * _) (hp r)

end Cert.SampleReferenceIdeal.Stages
-- ==== Proof.SampleGates.lean ====
/- What one run of the kernel body leaves in the spatial gate's output block of the sample, read at an index. -/
module

public import proofs.«01_k».proof.Proof.Gen.SampleKernelIdeal.Value
public import proofs.«01_k».proof.Proof.SampleHeads

@[expose] public section

set_option maxRecDepth 16384

noncomputable section

namespace Cert.SampleKernelIdeal.Gates

open Idealize.ShloMosaic Idealize.ShloMosaic.TcCoe
open Cert.SampleKernelIdeal Cert.SampleKernelIdeal.Gen Cert.SampleKernelIdeal.Heads

/-- One entry of the gated mix of the eight new rows of a sequence: row `t` of the lower triangle of `w` against the rows, plus the bias, times the gate. -/
def gate (w vn : Fin 8 → EReal) (bias u : EReal) (t : Fin 8) : EReal :=
  u * ((∑ s : Fin 8, (if s ≤ t then w s else 0) * vn s) + bias)

/-- The entry of the gate's block at query `t` of sequence `s` and column `e`. -/
def gateAt (x6 : Vec Ideal S128x512 .f32) (x7 : Vec Ideal S128x512 .bf16) (x8 : Vec Ideal S8x8x512 .f32) (x9 : Vec Ideal S8x512 .f32)
    (s : Fin 16) (t : Fin 8) (e : Fin 512) : EReal :=
  gate (fun p => x8 (ix3 p t e)) (fun p => x6 (ix2 ⟨s.val * 8 + p.val, by omega⟩ e)) (x9 (ix2 t e)) (x7 (ix2 ⟨s.val * 8 + t.val, by omega⟩ e)) t

/-- The lower triangle, kept by comparing row and column numbers. -/
theorem select_le (t p : Fin 8) (a : EReal) :
    Scalar.select (IntOp.cmpi .sge (BitVec.ofNat 32 t.val) (BitVec.ofNat 32 p.val)) a 0 = if p ≤ t then a else 0 := by
  have ht : (BitVec.ofNat 32 t.val).toInt = t.val := by
    rw [BitVec.toInt_eq_toNat_cond, BitVec.toNat_ofNat]; split <;> omega
  have hs : (BitVec.ofNat 32 p.val).toInt = p.val := by
    rw [BitVec.toInt_eq_toNat_cond, BitVec.toNat_ofNat]; split <;> omega
  unfold Scalar.select
  refine if_congr ?_ rfl rfl
  refine IntOp.cmpi_sge.trans ?_
  rw [ht, hs]
  exact Int.ofNat_le

set_option maxHeartbeats 4000000 in
theorem out_m (c : Dev nD) (t : Fin grid0.N) (a0 : Vec Ideal S8 .f32) (a1 : Vec Ideal S128x512 .bf16) (a2 : Vec Ideal S128x128 .f32) (a3 : Vec Ideal S128x128 .f32) (a4 : Vec Ideal S16x128x128 .f32) (a5 : Vec Ideal S16x128x128 .f32) (a6 : Vec Ideal S128x512 .f32) (a7 : Vec Ideal S128x512 .bf16) (a8 : Vec Ideal S8x8x512 .f32) (a9 : Vec Ideal S8x512 .f32) (i : Fin 128) (e : Fin 512) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) a0 a1 a2 a3 a4 a5 a6 a7 a8 a9 (ix2 i e)
      = gateAt a6 a7 a8 a9 ⟨i.val / 8, by omega⟩ ⟨i.val % 8, by omega⟩ e := by
  frame_out
  unfold_payloads
  pointwise
  unfold gateAt gate
  have key : ∀ (p : Fin 8) (a v : EReal), (if p ≤ (⟨i.val % 8, by omega⟩ : Fin 8) then a else 0) * v
      = Scalar.select (IntOp.cmpi .sge (BitVec.ofNat 32 (i.val % 8)) (BitVec.ofNat 32 p.val)) (a * v) 0 := fun p a v => by
    rw [show Scalar.select (IntOp.cmpi .sge (BitVec.ofNat 32 (i.val % 8)) (BitVec.ofNat 32 p.val)) (a * v) 0 = _ from select_le ⟨i.val % 8, by omega⟩ p (a * v)]
    split
    · rfl
    · exact zero_mul _
  have er : (⟨i.val / 8 * 8 + i.val % 8, by omega⟩ : Fin 128) = i := Fin.ext (by simp only; omega)
  simp only [key, er]
  refine congrArg (_ * ·) ?_
  rw [Fin.sum_univ_eight, add_comm _ (a9 _)]
  simp only [← add_assoc]
  rfl

end Cert.SampleKernelIdeal.Gates
-- ==== Proof.SampleRefGate.lean ====
/- The reference's spatial gate of the sample, read at an index. -/
module

public import proofs.«01_k».proof.Proof.SampleStages
public import proofs.«01_k».proof.Proof.SampleGates

@[expose] public section

set_option maxRecDepth 16384

noncomputable section

namespace Cert.SampleReferenceIdeal.Stages

open Idealize.ShloMosaic Idealize.ShloMosaic.TcCoe
open Cert.SampleReferenceIdeal Cert.SampleReferenceIdeal.Gen Cert.SampleKernelIdeal.Gates

/-- The lower triangle of ones. -/
def tril : FVec Ideal S8x8 .f32 :=
  select (cmpi .sge (addi (iotaInDim S8x8 32 0) (broadcastInDim S8x8 ![] bcast_S_S8x8 (constantI S_ 32 0#32))) (iotaInDim S8x8 32 1)) (broadcastInDim S8x8 ![] bcast_S_S8x8 (constant S_ .f32 0x3F800000#32)) (broadcastInDim S8x8 ![] bcast_S_S8x8 (constant S_ .f32 0x00000000#32))

/-- The mix of the new rows of every sequence. -/
def mixed (VN : FVec Ideal S33792x512 .f32) (W : FVec Ideal S4x128x128 .f32) : FVec Ideal S4x128x128x8 .f32 :=
  Host.dotGeneral dot_S128x8x4x128_S4x8x8_S4x128x128x8_1_2_03_1_2_0 none (shapeCast _ (extractStridedSlice S1024x512 ![32768, 0] VN slices_S33792x512_S1024x512_32768_0) shapeCasts_S1024x512_S128x8x4x128) (mulf (extractStridedSlice S4x8x8 ![0, 0, 0] W slices_S4x128x128_S4x8x8_0_0_0) (broadcastInDim S4x8x8 ![0, 1, 2] bcast_S1x8x8_S4x8x8_0_1_2 (broadcastInDim S1x8x8 ![1, 2] bcast_S8x8_S1x8x8_1_2 tril)))

def gated (VN : FVec Ideal S33792x512 .f32) (U : FVec Ideal S33792x512 .bf16) (W : FVec Ideal S4x128x128 .f32) (B : FVec Ideal S4x128 .f32) : FVec Ideal S1024x512 .bf16 :=
  truncf .bf16 (mulf (extf .f32 (extractStridedSlice S1024x512 ![32768, 0] U slices_S33792x512_S1024x512_32768_0) bitsLt_bf16_f32) (shapeCast _ (addf (transpose S128x8x4x128 [1, 3, 0, 2] (mixed VN W) transposes_S4x128x128x8_S128x8x4x128_1_3_0_2) (broadcastInDim S128x8x4x128 ![0, 1, 2, 3] bcast_S1x8x4x1_S128x8x4x128_0_1_2_3 (broadcastInDim S1x8x4x1 ![1, 2, 3] bcast_S8x4x1_S1x8x4x1_1_2_3 (broadcastInDim S8x4x1 ![0, 1] bcast_S8x4_S8x4x1_0_1 (transpose S8x4 [1, 0] (extractStridedSlice S4x8 ![0, 0] B slices_S4x128_S4x8_0_0) transposes_S4x8_S8x4_1_0))))) shapeCasts_S128x8x4x128_S1024x512)) bitsLt_bf16_f32

theorem tril_apply (t s : Fin 8) : tril (ix2 t s) = if s ≤ t then 1 else 0 := by
  have ht : (BitVec.ofNat 32 t.val + 0#32 : BitVec 32).toInt = t.val := by
    rw [BitVec.add_zero, BitVec.toInt_eq_toNat_cond, BitVec.toNat_ofNat]; split <;> omega
  have hs : (BitVec.ofNat 32 s.val).toInt = s.val := by
    rw [BitVec.toInt_eq_toNat_cond, BitVec.toNat_ofNat]; split <;> omega
  show Scalar.select (IntOp.cmpi .sge (BitVec.ofNat 32 t.val + 0#32) (BitVec.ofNat 32 s.val)) (Ideal.ofBits .f32 0x3F800000#32) (Ideal.ofBits .f32 0x00000000#32) = _
  rw [Ideal.ofBits_one_f32, Ideal.ofBits_zero_f32]
  unfold Scalar.select
  refine if_congr ?_ rfl rfl
  refine IntOp.cmpi_sge.trans ?_
  rw [ht, hs]
  exact Int.ofNat_le

theorem mixed_apply (VN : FVec Ideal S33792x512 .f32) (W : FVec Ideal S4x128x128 .f32) (b : Fin 128) (t : Fin 8) (g : Fin 4) (d : Fin 128) :
    mixed VN W (ix4 g b d t) = ∑ s : Fin 8, (if s ≤ t then W (ix3 g ⟨t.val, by omega⟩ ⟨s.val, by omega⟩) else 0) * VN (ix2 (row b s) ⟨g.val * 128 + d.val, by omega⟩) := by
  unfold mixed
  have e := tril_apply
  generalize tril = T at e ⊢
  pointwise
  refine Finset.sum_congr rfl fun s _ => ?_
  rw [e, mul_comm]
  refine congr (congrArg (fun x y : EReal => x * y) ?_) ?_
  · split
    · exact mul_one _
    · exact mul_zero _
  · rfl

set_option maxHeartbeats 4000000 in
theorem gated_apply (VN : FVec Ideal S33792x512 .f32) (U : FVec Ideal S33792x512 .bf16) (W : FVec Ideal S4x128x128 .f32) (B : FVec Ideal S4x128 .f32)
    (b : Fin 128) (t : Fin 8) (g : Fin 4) (d : Fin 128) (n : Fin 1024) (e : Fin 512)
    (hn : n.val = b.val * 8 + t.val) (he : e.val = g.val * 128 + d.val) :
    gated VN U W B (ix2 n e) = gate (fun s => W (ix3 g ⟨t.val, by omega⟩ ⟨s.val, by omega⟩)) (fun s => VN (ix2 (row b s) e)) (B (ix2 g ⟨t.val, by omega⟩))
      (U (ix2 (row b t) e)) t := by
  have b1 : (⟨n.val / 8, by omega⟩ : Fin 128) = b := Fin.ext (by simp only; omega)
  have b2 : (⟨n.val % 8, by omega⟩ : Fin 8) = t := Fin.ext (by simp only; omega)
  have b2' : n.val % 8 = t.val := by omega
  have b4 : (⟨e.val / 128, by omega⟩ : Fin 4) = g := Fin.ext (by simp only; omega)
  have b5 : (⟨e.val % 128, by omega⟩ : Fin 128) = d := Fin.ext (by simp only; omega)
  have hm := mixed_apply VN W b t g d
  have ee : (⟨g.val * 128 + d.val, by omega⟩ : Fin 512) = e := Fin.ext he.symm
  have en : (⟨32768 + n.val, by omega⟩ : Fin 33792) = row b t := Fin.ext (by unfold row; simp only; omega)
  rw [ee] at hm
  unfold gated gate
  generalize mixed VN W = M at hm ⊢
  pointwise
  simp only [b1, b2, b2', b4, b5]
  rw [hm, en]

end Cert.SampleReferenceIdeal.Stages
-- ==== Proof.SampleArrays.lean ====
/- The sample kernel's two output arrays after the run are the reference's two results of the same arguments. -/
module

public import proofs.«01_k».proof.Proof.SampleBlocks
public import proofs.«01_k».proof.Proof.SampleRefGate
public import Idealize.ShloMosaic.Lib.Pipeline.ValueKit
public import Idealize.ShloMosaic.Lib.Claim

@[expose] public section

set_option maxRecDepth 16384

noncomputable section

namespace Cert.SampleKernelIdeal.Arrays

open Idealize.ShloMosaic Idealize.ShloMosaic.TcCoe Idealize.SL.Sem
open Cert.SampleKernelIdeal Cert.SampleKernelIdeal.Gen Cert.SampleAttention Cert.SampleKernelIdeal.Blocks Cert.SampleKernelIdeal.Gates Cert.SampleKernelIdeal.Heads
open Cert.SampleReferenceIdeal.Stages (outs outs_apply past row gated gated_apply)
open Cert.Attention (slope)

/-- A block's attention is the reference's, where the block's inputs are the arguments' rows. -/
theorem blockAt_outs (T : Fin 8)
    (S : FVec Ideal S8 .f32) (Q : FVec Ideal S33792x512 .bf16) (K V : FVec Ideal S33792x128 .f32) (CK CV : FVec Ideal S128x128x2x64 .f32)
    (x0 : Vec Ideal S8 .f32) (x1 : Vec Ideal S128x512 .bf16) (x2 x3 : Vec Ideal S128x128 .f32) (x4 x5 : Vec Ideal S16x128x128 .f32)
    (e0 : x0 = S) (e1 : ∀ (a : Fin 128) (c : Fin 512) (n : Fin 33792), n.val = 32768 + 128 * T.val + a.val → x1 (ix2 a c) = Q (ix2 n c))
    (e2 : ∀ (a c : Fin 128) (n : Fin 33792), n.val = 32768 + 128 * T.val + a.val → x2 (ix2 a c) = K (ix2 n c))
    (e3 : ∀ (a c : Fin 128) (n : Fin 33792), n.val = 32768 + 128 * T.val + a.val → x3 (ix2 a c) = V (ix2 n c))
    (e4 : ∀ (s : Fin 16) (r c : Fin 128) (b : Fin 128) (g : Fin 2) (d : Fin 64), b.val = 16 * T.val + s.val → c.val = g.val * 64 + d.val → x4 (ix3 s r c) = CK (ix4 b r g d))
    (e5 : ∀ (s : Fin 16) (r c : Fin 128) (b : Fin 128) (g : Fin 2) (d : Fin 64), b.val = 16 * T.val + s.val → c.val = g.val * 64 + d.val → x5 (ix3 s r c) = CV (ix4 b r g d))
    (s : Fin 16) (i : Fin 8) (h : Fin 8) (d : Fin 64) (n : Fin 1024) (e : Fin 512)
    (hn : n.val = 128 * T.val + 8 * s.val + i.val) (he : e.val = 64 * h.val + d.val) :
    blockAt x0 x1 x2 x3 x4 x5 s i h d = outs S Q K V CK CV (ix2 n e) := by
  have hT := T.isLt
  have hs := s.isLt
  have hh := h.isLt
  rw [outs_apply S Q K V CK CV ⟨16 * T.val + s.val, by omega⟩ i ⟨h.val / 4, by omega⟩ ⟨h.val % 4, by omega⟩ d n e
    (by simp only; omega) (by simp only; omega)]
  have eh : (⟨h.val / 4 * 4 + h.val % 4, by omega⟩ : Fin 8) = h := Fin.ext (by simp only; omega)
  have eqq : (fun e : Fin 64 => x1 (ix2 (⟨8 * s.val + i.val, by omega⟩ : Fin 128) (⟨64 * h.val + e.val, by omega⟩ : Fin 512)))
      = fun e : Fin 64 => Q (ix2 (row ⟨16 * T.val + s.val, by omega⟩ i) (⟨h.val / 4 * 256 + h.val % 4 * 64 + e.val, by omega⟩ : Fin 512)) := by
    funext e
    have ec : (⟨64 * h.val + e.val, by omega⟩ : Fin 512) = ⟨h.val / 4 * 256 + h.val % 4 * 64 + e.val, by omega⟩ := Fin.ext (by simp only; omega)
    rw [ec]
    exact e1 _ _ _ (by unfold row; simp only; omega)
  have hcat : ∀ (C : FVec Ideal S128x128x2x64 .f32) (A : FVec Ideal S33792x128 .f32) (cache : S16x128x128.Idx → EReal) (cur : S128x128.Idx → EReal)
      (ec : ∀ (a c : Fin 128) (n : Fin 33792), n.val = 32768 + 128 * T.val + a.val → cur (ix2 a c) = A (ix2 n c))
      (ek : ∀ (s : Fin 16) (r c : Fin 128) (b : Fin 128) (g : Fin 2) (d : Fin 64), b.val = 16 * T.val + s.val → c.val = g.val * 64 + d.val → cache (ix3 s r c) = C (ix4 b r g d))
      (r : Fin 136) (d : Fin 64),
      cat cache cur s r ⟨64 * (h.val / 4) + d.val, by omega⟩ = past C A ⟨16 * T.val + s.val, by omega⟩ ⟨h.val / 4, by omega⟩ r d := by
    intro C A cache cur ec ek r d
    have hr := r.isLt
    have ed : (⟨64 * (h.val / 4) + d.val, by omega⟩ : Fin 128) = ⟨h.val / 4 * 64 + d.val, by omega⟩ := Fin.ext (by simp only; omega)
    rw [ed]
    unfold cat past
    split
    · exact ek _ _ _ _ _ _ rfl rfl
    · exact ec _ _ _ (by unfold row; simp only; omega)
  subst e0
  unfold blockAt
  rw [eqq]
  show _ = att (slope ⟨h.val / 4 * 4 + h.val % 4, _⟩) (x0 (ix1 ⟨h.val / 4 * 4 + h.val % 4, _⟩)) _ _ _ i
  rw [eh]
  have ek : (fun (r : Fin 136) (e : Fin 64) => cat x4 x2 s r ⟨64 * (h.val / 4) + e.val, by omega⟩)
      = past CK K ⟨16 * T.val + s.val, by omega⟩ ⟨h.val / 4, by omega⟩ := funext fun r => funext fun e => hcat CK K x4 x2 e2 e4 r e
  have ev : (fun (r : Fin 136) => cat x5 x3 s r ⟨64 * (h.val / 4) + d.val, by omega⟩)
      = fun r => past CV V ⟨16 * T.val + s.val, by omega⟩ ⟨h.val / 4, by omega⟩ r d := funext fun r => hcat CV V x5 x3 e3 e5 r d
  rw [ek, ev]

/-- A block of the gate is the reference's, where the block's inputs are the arguments' rows. -/
theorem gateAt_gated (T : Fin 8) (VN : FVec Ideal S33792x512 .f32) (U : FVec Ideal S33792x512 .bf16) (W : FVec Ideal S4x128x128 .f32) (B : FVec Ideal S4x128 .f32)
    (x6 : Vec Ideal S128x512 .f32) (x7 : Vec Ideal S128x512 .bf16) (x8 : Vec Ideal S8x8x512 .f32) (x9 : Vec Ideal S8x512 .f32)
    (e6 : ∀ (a : Fin 128) (c : Fin 512) (n : Fin 33792), n.val = 32768 + 128 * T.val + a.val → x6 (ix2 a c) = VN (ix2 n c))
    (e7 : ∀ (a : Fin 128) (c : Fin 512) (n : Fin 33792), n.val = 32768 + 128 * T.val + a.val → x7 (ix2 a c) = U (ix2 n c))
    (e8 : ∀ (p t : Fin 8) (c : Fin 512), x8 (ix3 p t c) = W (ix3 (⟨c.val / 128, by omega⟩ : Fin 4) (⟨t.val, by omega⟩ : Fin 128) (⟨p.val, by omega⟩ : Fin 128)))
    (e9 : ∀ (t : Fin 8) (c : Fin 512), x9 (ix2 t c) = B (ix2 (⟨c.val / 128, by omega⟩ : Fin 4) (⟨t.val, by omega⟩ : Fin 128)))
    (s : Fin 16) (t : Fin 8) (n : Fin 1024) (e : Fin 512) (hn : n.val = 128 * T.val + 8 * s.val + t.val) :
    gateAt x6 x7 x8 x9 s t e = gated VN U W B (ix2 n e) := by
  have hT := T.isLt
  have hs := s.isLt
  rw [gated_apply VN U W B ⟨16 * T.val + s.val, by omega⟩ t ⟨e.val / 128, by omega⟩ ⟨e.val % 128, by omega⟩ n e (by simp only; omega) (by simp only; omega)]
  have e1 : (fun p : Fin 8 => x6 (ix2 (⟨s.val * 8 + p.val, by omega⟩ : Fin 128) e)) = fun p : Fin 8 => VN (ix2 (row ⟨16 * T.val + s.val, by omega⟩ p) e) :=
    funext fun p => e6 _ _ _ (by unfold row; simp only; omega)
  have e2 : x7 (ix2 (⟨s.val * 8 + t.val, by omega⟩ : Fin 128) e) = U (ix2 (row ⟨16 * T.val + s.val, by omega⟩ t) e) :=
    e7 _ _ _ (by unfold row; simp only; omega)
  unfold gateAt
  rw [e1, e2, e9]
  exact congrArg (fun w => gate w _ _ _ t) (funext fun p => e8 p t e)

variable (m : (ℓ : Loc nD τ sig) → Buf (Elt Ideal) ℓ)

/-- Every window's block at every grid point. -/
theorem idx : ∀ t : Fin cfg0.N, win0_0.index t = ![0] ∧ win0_1.index t = ![256 + t.val, 0] ∧ win0_2.index t = ![256 + t.val, 0] ∧ win0_3.index t = ![256 + t.val, 0]
    ∧ win0_4.index t = ![t.val, 0, 0] ∧ win0_5.index t = ![t.val, 0, 0] ∧ win0_6.index t = ![256 + t.val, 0] ∧ win0_7.index t = ![256 + t.val, 0]
    ∧ win0_8.index t = ![0, 0, 0] ∧ win0_9.index t = ![0, 0] ∧ win0_10.index t = ![t.val, 0] ∧ win0_11.index t = ![t.val, 0] :=
  (by decide +kernel : ∀ t : Fin grid0.N, _)

/-- What the windows' arrays hold when the blocks are read: the arguments, or the host's rearrangements of them. -/
theorem entries (c : Dev nD) :
    V m c main_v6 = shapeCast S8x8x512 (broadcastInDim S8x8x4x128 ![0, 1, 2] bcast_S8x8x4_S8x8x4x128_0_1_2
        (transpose S8x8x4 [2, 1, 0] (extractStridedSlice S4x8x8 ![0, 0, 0] (m ((c : Thread nD τ).loc main_arg8)) slices_S4x128x128_S4x8x8_0_0_0) transposes_S4x8x8_S8x8x4_2_1_0))
        shapeCasts_S8x8x4x128_S8x8x512
    ∧ V m c main_v7 = shapeCast S128x128x128 (m ((c : Thread nD τ).loc main_arg4)) shapeCasts_S128x128x2x64_S128x128x128
    ∧ V m c main_v8 = shapeCast S128x128x128 (m ((c : Thread nD τ).loc main_arg5)) shapeCasts_S128x128x2x64_S128x128x128
    ∧ V m c main_v9 = extractStridedSlice S8x512 ![0, 0] (shapeCast S128x512 (broadcastInDim S128x4x128 ![0, 1] bcast_S128x4_S128x4x128_0_1
        (transpose S128x4 [1, 0] (m ((c : Thread nD τ).loc main_arg9)) transposes_S4x128_S128x4_1_0)) shapeCasts_S128x4x128_S128x512) slices_S128x512_S8x512_0_0 := by
  unfold V
  simp only [hostOps0, StableHlo.after_cons, StableHlo.after_nil]
  and_intros
  all_goals
    after_results_simp
    try simp only [StableHlo.TRef.ofBuf_toBuf]
    try rfl

theorem blk0 (c : Dev nD) (t : Fin cfg0.N) : iblk m c 0 t = m ((c : Thread nD τ).loc main_arg0) := by
  blk_ext! [iblk, V, idx t]

theorem blk1 (c : Dev nD) (t : Fin cfg0.N) (a : Fin 128) (b : Fin 512) (n : Fin 33792) (h : n.val = 32768 + 128 * t.val + a.val) :
    iblk m c 1 t (ix2 a b) = m ((c : Thread nD τ).loc main_arg1) (ix2 n b) := by
  blk_ext [iblk, V, idx t]

theorem blk2 (c : Dev nD) (t : Fin cfg0.N) (a b : Fin 128) (n : Fin 33792) (h : n.val = 32768 + 128 * t.val + a.val) :
    iblk m c 2 t (ix2 a b) = m ((c : Thread nD τ).loc main_arg2) (ix2 n b) := by
  blk_ext [iblk, V, idx t]

theorem blk3 (c : Dev nD) (t : Fin cfg0.N) (a b : Fin 128) (n : Fin 33792) (h : n.val = 32768 + 128 * t.val + a.val) :
    iblk m c 3 t (ix2 a b) = m ((c : Thread nD τ).loc main_arg3) (ix2 n b) := by
  blk_ext [iblk, V, idx t]

theorem blk6 (c : Dev nD) (t : Fin cfg0.N) (a : Fin 128) (b : Fin 512) (n : Fin 33792) (h : n.val = 32768 + 128 * t.val + a.val) :
    iblk m c 6 t (ix2 a b) = m ((c : Thread nD τ).loc main_arg6) (ix2 n b) := by
  blk_ext [iblk, V, idx t]

theorem blk7 (c : Dev nD) (t : Fin cfg0.N) (a : Fin 128) (b : Fin 512) (n : Fin 33792) (h : n.val = 32768 + 128 * t.val + a.val) :
    iblk m c 7 t (ix2 a b) = m ((c : Thread nD τ).loc main_arg7) (ix2 n b) := by
  blk_ext [iblk, V, idx t]

/-- A cache with a row's two heads side by side. -/
theorem cache_apply (C : FVec Ideal S128x128x2x64 .f32) (b r c : Fin 128) (g : Fin 2) (d : Fin 64) (hc : c.val = g.val * 64 + d.val) :
    shapeCast S128x128x128 C shapeCasts_S128x128x2x64_S128x128x128 (ix3 b r c) = C (ix4 b r g d) := by
  have b1 : (⟨c.val / 64, by omega⟩ : Fin 2) = g := Fin.ext (by simp only; omega)
  have b2 : (⟨c.val % 64, by omega⟩ : Fin 64) = d := Fin.ext (by simp only; omega)
  pointwise
  rw [b1, b2]

theorem blk4 (c : Dev nD) (t : Fin cfg0.N) (s : Fin 16) (r k b : Fin 128) (g : Fin 2) (d : Fin 64) (hb : b.val = 16 * t.val + s.val) (hk : k.val = g.val * 64 + d.val) :
    iblk m c 4 t (ix3 s r k) = m ((c : Thread nD τ).loc main_arg4) (ix4 b r g d) := by
  have e : (win0_4.blk t).view.emb (ix3 s r k) = ix3 b r k := by
    blk_ext [idx t]
  unfold iblk
  refine (congrFun (entries m c).2.1 _).trans ?_
  rw [e]
  exact cache_apply _ b r k g d hk

theorem blk5 (c : Dev nD) (t : Fin cfg0.N) (s : Fin 16) (r k b : Fin 128) (g : Fin 2) (d : Fin 64) (hb : b.val = 16 * t.val + s.val) (hk : k.val = g.val * 64 + d.val) :
    iblk m c 5 t (ix3 s r k) = m ((c : Thread nD τ).loc main_arg5) (ix4 b r g d) := by
  have e : (win0_5.blk t).view.emb (ix3 s r k) = ix3 b r k := by
    blk_ext [idx t]
  unfold iblk
  refine (congrFun (entries m c).2.2.1 _).trans ?_
  rw [e]
  exact cache_apply _ b r k g d hk

theorem blk8 (c : Dev nD) (t : Fin cfg0.N) (p q : Fin 8) (k : Fin 512) :
    iblk m c 8 t (ix3 p q k) = m ((c : Thread nD τ).loc main_arg8) (ix3 (⟨k.val / 128, by omega⟩ : Fin 4) (⟨q.val, by omega⟩ : Fin 128) (⟨p.val, by omega⟩ : Fin 128)) := by
  have e : (win0_8.blk t).view.emb (ix3 p q k) = ix3 p q k := by
    blk_ext [idx t]
  unfold iblk
  refine (congrFun (entries m c).1 _).trans ?_
  rw [e]
  pointwise

theorem blk9 (c : Dev nD) (t : Fin cfg0.N) (q : Fin 8) (k : Fin 512) :
    iblk m c 9 t (ix2 q k) = m ((c : Thread nD τ).loc main_arg9) (ix2 (⟨k.val / 128, by omega⟩ : Fin 4) (⟨q.val, by omega⟩ : Fin 128)) := by
  have e : (win0_9.blk t).view.emb (ix2 q k) = ix2 q k := by
    blk_ext [idx t]
  unfold iblk
  refine (congrFun (entries m c).2.2.2 _).trans ?_
  rw [e]
  pointwise

/-- The attention's array after the run is the reference's. -/
theorem final_a (c : Dev nD) :
    (dats m 0 c).arrAt 10 cfg0.N = outs (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) := by
  refine (dats m 0 c).arrAt_eq_of_covers 10 _ (by decide +kernel) fun t hf y => ?_
  have hT : t.val < 8 := t.isLt
  have h0 : (y 0).val < 128 := (y 0).isLt
  have h1 : (y 1).val < 512 := (y 1).isLt
  blk_simp
  rw [after0_10]
  unfold outsAt0
  refine (out_a c t (iblk m c 0 t) (iblk m c 1 t) (iblk m c 2 t) (iblk m c 3 t) (iblk m c 4 t) (iblk m c 5 t) (iblk m c 6 t) (iblk m c 7 t) (iblk m c 8 t) (iblk m c 9 t) y).trans ?_
  unfold block
  dsimp only
  refine (blockAt_outs ⟨t.val, hT⟩ _ _ _ _ _ _ _ _ _ _ _ _ (blk0 m c t) (blk1 m c t) (blk2 m c t) (blk3 m c t) (blk4 m c t) (blk5 m c t) _ _ _ _
    ⟨128 * t.val + (y 0).val, by omega⟩ ⟨(y 1).val, h1⟩ (by simp only; omega) (by simp only; omega)).trans ?_
  blk_ext [idx t]

set_option maxHeartbeats 4000000 in
/-- The gate's array after the run is the reference's. -/
theorem final_m (c : Dev nD) :
    (dats m 0 c).arrAt 11 cfg0.N = gated (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t hf y => ?_
  have hT : t.val < 8 := t.isLt
  have h0 : (y 0).val < 128 := (y 0).isLt
  have h1 : (y 1).val < 512 := (y 1).isLt
  blk_simp
  rw [after0_11]
  unfold outsAt0
  have ey : y = ix2 (⟨(y 0).val, h0⟩ : Fin 128) (⟨(y 1).val, h1⟩ : Fin 512) := by
    blk_ext [idx t]
  refine (congrArg _ ey).trans ?_
  refine (out_m c t (iblk m c 0 t) (iblk m c 1 t) (iblk m c 2 t) (iblk m c 3 t) (iblk m c 4 t) (iblk m c 5 t) (iblk m c 6 t) (iblk m c 7 t) (iblk m c 8 t) (iblk m c 9 t) ⟨(y 0).val, h0⟩ ⟨(y 1).val, h1⟩).trans ?_
  refine (gateAt_gated ⟨t.val, hT⟩ _ _ _ _ _ _ _ _ (blk6 m c t) (blk7 m c t) (blk8 m c t) (blk9 m c t) _ _
    ⟨128 * t.val + (y 0).val, by omega⟩ ⟨(y 1).val, h1⟩ (by simp only; omega)).trans ?_
  blk_ext [idx t]

end Cert.SampleKernelIdeal.Arrays
-- ==== Proof.SampleClaims.lean ====
/- The claims about the attention and the spatial gate of the sample. -/
module

public import proofs.«01_k».proof.Defs
public import proofs.«01_k».proof.Proof.SampleArrays
public import proofs.«01_k».proof.Proof.Gen.SampleKernel.Frame
public import Idealize.ShloMosaic.Lib.Quiescent

@[expose] public section

set_option maxRecDepth 16384

noncomputable section

namespace Cert.SampleClaims

open Idealize.ShloMosaic Idealize.ShloMosaic.TcCoe Idealize.SL.Sem

theorem frame_P : Cert.quiescent_SampleKernel := fun m ρ _ => Cert.SampleKernel.Gen.frame m ρ

theorem frame_PI : Cert.quiescent_SampleKernelIdeal := fun m ρ _ => Cert.SampleKernelIdeal.Gen.frame m ρ

theorem frame_RI : Cert.quiescent_SampleReferenceIdeal := fun m ρ _ =>
  (θ_run Cert.SampleReferenceIdeal.defs _ _).mono (fun r h => ⟨fun c => (h c).2.2,
      Idealize.ShloMosaic.sem_eq_zero_of_no_sems (by decide) r.2⟩)
    (Cert.SampleReferenceIdeal.Value.run (F := Ideal) m ρ)

theorem preserves : Cert.preserves_SampleKernel_SampleKernelIdeal :=
  IdealRules.named_const.statement Cert.SampleKernelIdeal.κ "mask" .f32 0xF149F2CA#32 ⊥ rfl

set_option maxHeartbeats 4000000 in
theorem algebraic : Cert.algebraic_SampleKernelIdeal_SampleReferenceIdeal := by
  intro m ρ m' ρ' _ hag
  refine ⟨fun c => Cert.SampleReferenceIdeal.Stages.outs (m ((c.tc : Thread Cert.SampleKernelIdeal.nD Cert.SampleKernelIdeal.τ).loc Cert.SampleKernelIdeal.main_arg0)) (m ((c.tc : Thread Cert.SampleKernelIdeal.nD Cert.SampleKernelIdeal.τ).loc Cert.SampleKernelIdeal.main_arg1)) (m ((c.tc : Thread Cert.SampleKernelIdeal.nD Cert.SampleKernelIdeal.τ).loc Cert.SampleKernelIdeal.main_arg2)) (m ((c.tc : Thread Cert.SampleKernelIdeal.nD Cert.SampleKernelIdeal.τ).loc Cert.SampleKernelIdeal.main_arg3)) (m ((c.tc : Thread Cert.SampleKernelIdeal.nD Cert.SampleKernelIdeal.τ).loc Cert.SampleKernelIdeal.main_arg4)) (m ((c.tc : Thread Cert.SampleKernelIdeal.nD Cert.SampleKernelIdeal.τ).loc Cert.SampleKernelIdeal.main_arg5)),
    fun c => Cert.SampleReferenceIdeal.Stages.gated (m ((c.tc : Thread Cert.SampleKernelIdeal.nD Cert.SampleKernelIdeal.τ).loc Cert.SampleKernelIdeal.main_arg6)) (m ((c.tc : Thread Cert.SampleKernelIdeal.nD Cert.SampleKernelIdeal.τ).loc Cert.SampleKernelIdeal.main_arg7)) (m ((c.tc : Thread Cert.SampleKernelIdeal.nD Cert.SampleKernelIdeal.τ).loc Cert.SampleKernelIdeal.main_arg8)) (m ((c.tc : Thread Cert.SampleKernelIdeal.nD Cert.SampleKernelIdeal.τ).loc Cert.SampleKernelIdeal.main_arg9)), ?_, ?_⟩
  · exact (θ_run _ _ _).mono (fun _ h c => ⟨(h c).1.trans (Cert.SampleKernelIdeal.Arrays.final_a m c),
      (h c).2.1.trans (Cert.SampleKernelIdeal.Arrays.final_m m c), (h c).2.2⟩) (Cert.SampleKernelIdeal.Value.run_blocks m ρ)
  · refine (θ_run _ _ _).mono (fun _ h c => ⟨(h c).1.trans ?_, (h c).2.1.trans ?_, (h c).2.2⟩) (Cert.SampleReferenceIdeal.Value.run m' ρ')
    · obtain ⟨e0, e1, e2, e3, e4, e5, _⟩ := hag c
      rw [Cert.SampleReferenceIdeal.Stages.res_eq m' c, e0, e1, e2, e3, e4, e5]
    · obtain ⟨_, _, _, _, _, _, e6, e7, e8, e9⟩ := hag c
      rw [e6, e7, e8, e9]
      rfl

end Cert.SampleClaims
-- ==== Proof.MergeBlocks.lean ====
/- What one block of 512 tokens of the merge computes, as functions of a token's rows and of the weights. -/
module

public import proofs.«01_k».proof.Proof.Rows
public import proofs.«01_k».proof.Proof.Gen.MergeKernelIdeal.Value
public import Idealize.ShloMosaic.Lib.Pipeline.ValueKit

@[expose] public section

set_option maxRecDepth 16384

noncomputable section

namespace Cert.MergeKernelIdeal.Blocks

open Idealize.ShloMosaic Idealize.ShloMosaic.TcCoe
open Cert.MergeKernelIdeal Cert.MergeKernelIdeal.Gen Cert.Rows

/-- The queries' scores against the keys of slab `s`, key `n`, at token `t` of the block. -/
def scoreAt (Q : FVec Ideal S512x2048 .bf16) (K : Vec Ideal S16x128x128 .bf16) (s : Fin 16) (n : Fin 128) (t : Fin 512) : EReal :=
  ∑ d : Fin 128, K (ix3 s n d) * Q (ix2 t (⟨128 * s.val + d.val, by omega⟩ : Fin 2048))

/-- The block of the scores' array of half `c`. -/
def scores (c : Fin 2) (Q : FVec Ideal S512x2048 .bf16) (K : Vec Ideal S16x128x128 .bf16) (y : S4x8x128x128.Idx) : EReal :=
  scoreAt Q K ⟨2 * (y 1).val + c.val, by have : (y 1).val < 8 := (y 1).isLt; omega⟩ (y 2)
    ⟨128 * (y 0).val + (y 3).val, by have : (y 0).val < 4 := (y 0).isLt; have : (y 3).val < 128 := (y 3).isLt; omega⟩

theorem term_eq {Q : FVec Ideal S512x2048 .bf16} {K : Vec Ideal S16x128x128 .bf16} {s s' : Fin 16} {n n' d : Fin 128} {t t' : Fin 512} {q q' : Fin 2048}
    (hs : s.val = s'.val) (hn : n.val = n'.val) (ht : t.val = t'.val) (hq : q.val = q'.val) :
    K (ix3 s n d) * Q (ix2 t q) = K (ix3 s' n' d) * Q (ix2 t' q') := by
  rw [Fin.ext hs, Fin.ext hn, Fin.ext ht, Fin.ext hq]

variable (i : grid0.Coords) (a0 : Vec Ideal S512x1024 .f32) (a1 : Vec Ideal S512x1024 .f32) (a2 : Vec Ideal S512x512 .bf16) (a3 : Vec Ideal S512x512 .bf16)
  (a4 : Vec Ideal S512x512 .bf16) (a5 : Vec Ideal S512x512 .bf16) (a6 : Vec Ideal S512x1024 .bf16) (a7 : Vec Ideal S512x1024 .bf16) (a8 : Vec Ideal S512x1024 .bf16)
  (a9 : Vec Ideal S512x1024 .bf16) (a10 : Vec Ideal S1024x1024 .bf16) (a11 : Vec Ideal S1x1024 .f32) (a12 : Vec Ideal S1024x2048 .bf16) (a13 : Vec Ideal S16x128x128 .bf16)

/-- The residual rows and their update. -/
abbrev X : FVec Ideal S512x1024 .f32 := k0_pay97 (F := Ideal) i a0 a1 a2 a3 a4 a5 a6 a7 a8 a9 a10 a11 a12 a13
abbrev Y : FVec Ideal S512x1024 .f32 := k0_pay98 (F := Ideal) i a0 a1 a2 a3 a4 a5 a6 a7 a8 a9 a10 a11 a12 a13

theorem queries : k0_pay99 (F := Ideal) i a0 a1 a2 a3 a4 a5 a6 a7 a8 a9 a10 a11 a12 a13
    = k0_pay9 (X i a0 a1 a2 a3 a4 a5 a6 a7 a8 a9 a10 a11 a12 a13) (Y i a0 a1 a2 a3 a4 a5 a6 a7 a8 a9 a10 a11 a12 a13) a11 a12 := by
  unfold k0_pay99
  frame_out

theorem first100 : k0_pay100 (F := Ideal) i a0 a1 a2 a3 a4 a5 a6 a7 a8 a9 a10 a11 a12 a13
    = k0_pay10 (X i a0 a1 a2 a3 a4 a5 a6 a7 a8 a9 a10 a11 a12 a13) (Y i a0 a1 a2 a3 a4 a5 a6 a7 a8 a9 a10 a11 a12 a13) a11 a12 (View.ld a13 r0_6) := by
  unfold k0_pay100
  frame_out

theorem out16 (y : S4x8x128x128.Idx) :
    out0_16 (F := Ideal) i a0 a1 a2 a3 a4 a5 a6 a7 a8 a9 a10 a11 a12 a13 y
      = scores 0 (k0_pay9 (X i a0 a1 a2 a3 a4 a5 a6 a7 a8 a9 a10 a11 a12 a13) (Y i a0 a1 a2 a3 a4 a5 a6 a7 a8 a9 a10 a11 a12 a13) a11 a12) a13 y := by
  frame_out
  canon_tiles x h
  all_goals
    try simp only [first100, queries, X, Y]
    try simp only [k0_pay10, k0_pay11, k0_pay12, k0_pay101, k0_pay102, k0_pay103, k0_pay104, k0_pay105, k0_pay106, k0_pay107, queries, X, Y]
    generalize k0_pay9 (F := Ideal) _ _ _ _ = Q
    idx_vars x
    unfold_payloads
    pointwise
    unfold scores scoreAt
    refine Finset.sum_congr rfl fun d _ => term_eq ?_ ?_ ?_ ?_
    all_goals first | omega | (simp; omega)

theorem out17 (y : S4x8x128x128.Idx) :
    out0_17 (F := Ideal) i a0 a1 a2 a3 a4 a5 a6 a7 a8 a9 a10 a11 a12 a13 y
      = scores 1 (k0_pay9 (X i a0 a1 a2 a3 a4 a5 a6 a7 a8 a9 a10 a11 a12 a13) (Y i a0 a1 a2 a3 a4 a5 a6 a7 a8 a9 a10 a11 a12 a13) a11 a12) a13 y := by
  frame_out
  canon_tiles x h
  all_goals
    try simp only [first100, queries, X, Y]
    try simp only [k0_pay10, k0_pay11, k0_pay12, k0_pay101, k0_pay102, k0_pay103, k0_pay104, k0_pay105, k0_pay106, k0_pay107, queries, X, Y]
    generalize k0_pay9 (F := Ideal) _ _ _ _ = Q
    idx_vars x
    unfold_payloads
    pointwise
    unfold scores scoreAt
    refine Finset.sum_congr rfl fun d _ => term_eq ?_ ?_ ?_ ?_
    all_goals first | omega | (simp; omega)

theorem slt_64 : ∀ k : Fin 66, Scalar.cmpi .slt (BitVec.ofNat 32 k.val) 64#32 = if k.val < 64 then 1#1 else 0#1 := by decide

theorem chosen {α : Type} (i : grid0.Coords) (u v : α) : Scalar.select (Scalar.cmpi .slt (BitVec.ofNat 32 (i 0).val) 64#32) u v = if (i 0).val < 64 then u else v := by
  rw [show Scalar.cmpi .slt (BitVec.ofNat 32 (i 0).val) 64#32 = if (i 0).val < 64 then 1#1 else 0#1 from slt_64 (i 0)]
  by_cases h : (i 0).val < 64 <;> simp [h, Scalar.select]

theorem X_apply (r : Fin 512) (j : Fin 1024) : X i a0 a1 a2 a3 a4 a5 a6 a7 a8 a9 a10 a11 a12 a13 (ix2 r j) = if (i 0).val < 64 then a0 (ix2 r j) else a1 (ix2 r j) := by
  unfold X k0_pay97
  frame_out
  unfold_payloads
  pointwise
  exact chosen _ _ _

theorem Y_apply (r : Fin 512) (j : Fin 1024) : Y i a0 a1 a2 a3 a4 a5 a6 a7 a8 a9 a10 a11 a12 a13 (ix2 r j)
   = times (mixed (fun e => a6 (ix2 r e)) (fun e => a7 (ix2 r e)) (fun e => if (i 0).val < 64 then a2 (ix2 r e) else a3 (ix2 r e))
      (fun e => if (i 0).val < 64 then a4 (ix2 r e) else a5 (ix2 r e)) (fun i e => a8 (ix2 i e)) (fun i e => a9 (ix2 i e))) (fun i e => a10 (ix2 i e)) j := by
  unfold Y k0_pay98
  frame_out
  unfold_payloads
  pointwise
  simp only [chosen]
  rfl

theorem norm_apply (A B : FVec Ideal S512x1024 .f32) (r : Fin 512) (d : Fin 1024) : k0_pay7 A B a11 (ix2 r d)
    = rms (fun e => A (ix2 r e) + B (ix2 r e)) (fun e => a11 (ix2 (0 : Fin 1) e)) d := by
  unfold_payloads
  pointwise
  rfl

theorem query_apply (A B : FVec Ideal S512x1024 .f32) (r : Fin 512) (d : Fin 2048) : k0_pay9 A B a11 a12 (ix2 r d)
    = times (rms (fun e => A (ix2 r e) + B (ix2 r e)) (fun e => a11 (ix2 (0 : Fin 1) e))) (fun i e => a12 (ix2 i e)) d := by
  have h := fun e => norm_apply a11 A B r e
  unfold k0_pay9
  generalize k0_pay7 A B a11 = N at h
  pointwise
  exact Finset.sum_congr rfl fun e _ => by rw [h]

theorem normt_apply (A B : FVec Ideal S512x1024 .f32) (r : Fin 512) (d : Fin 1024) : k0_pay8 A B a11 (ix2 d r)
    = rms (fun e => A (ix2 r e) + B (ix2 r e)) (fun e => a11 (ix2 (0 : Fin 1) e)) d := by
  have h := norm_apply a11 A B r d
  unfold k0_pay8
  generalize k0_pay7 A B a11 = N at h ⊢
  pointwise
  exact h

/-- The block's row after the mixing half of the layer. -/
def token (r : Fin 512) : Fin 1024 → EReal :=
  merged (fun e => if (i 0).val < 64 then a0 (ix2 r e) else a1 (ix2 r e)) (fun e => a6 (ix2 r e)) (fun e => a7 (ix2 r e))
    (fun e => if (i 0).val < 64 then a2 (ix2 r e) else a3 (ix2 r e)) (fun e => if (i 0).val < 64 then a4 (ix2 r e) else a5 (ix2 r e))
    (fun i e => a8 (ix2 i e)) (fun i e => a9 (ix2 i e)) (fun i e => a10 (ix2 i e))

theorem token_eq (r : Fin 512) : (fun e => X i a0 a1 a2 a3 a4 a5 a6 a7 a8 a9 a10 a11 a12 a13 (ix2 r e) + Y i a0 a1 a2 a3 a4 a5 a6 a7 a8 a9 a10 a11 a12 a13 (ix2 r e)) = token i a0 a1 a2 a3 a4 a5 a6 a7 a8 a9 a10 r := by
  funext e
  rw [X_apply, Y_apply]
  rfl

theorem out14 (r : Fin 512) (j : Fin 1024) : out0_14 (F := Ideal) i a0 a1 a2 a3 a4 a5 a6 a7 a8 a9 a10 a11 a12 a13 (ix2 r j) = token i a0 a1 a2 a3 a4 a5 a6 a7 a8 a9 a10 r j := by
  rw [← token_eq i a0 a1 a2 a3 a4 a5 a6 a7 a8 a9 a10 a11 a12 a13 r]
  frame_out
  unfold k0_pay6
  pointwise

theorem out15 (r : Fin 512) (d : Fin 1024) : out0_15 (F := Ideal) i a0 a1 a2 a3 a4 a5 a6 a7 a8 a9 a10 a11 a12 a13 (ix2 d r)
    = rms (token i a0 a1 a2 a3 a4 a5 a6 a7 a8 a9 a10 r) (fun e => a11 (ix2 (0 : Fin 1) e)) d := by
  rw [← token_eq i a0 a1 a2 a3 a4 a5 a6 a7 a8 a9 a10 a11 a12 a13 r]
  frame_out
  exact normt_apply a11 _ _ r d

/-- A slab's scores, from the block's rows. -/
theorem scoreAt_eq (s : Fin 16) (k : Fin 128) (r : Fin 512) :
    scoreAt (k0_pay9 (X i a0 a1 a2 a3 a4 a5 a6 a7 a8 a9 a10 a11 a12 a13) (Y i a0 a1 a2 a3 a4 a5 a6 a7 a8 a9 a10 a11 a12 a13) a11 a12) a13 s k r
      = score (times (rms (token i a0 a1 a2 a3 a4 a5 a6 a7 a8 a9 a10 r) (fun e => a11 (ix2 (0 : Fin 1) e))) (fun i e => a12 (ix2 i e))) (fun s k d => a13 (ix3 s k d)) s k := by
  rw [← token_eq i a0 a1 a2 a3 a4 a5 a6 a7 a8 a9 a10 a11 a12 a13 r]
  unfold scoreAt score
  simp only [query_apply]

end Cert.MergeKernelIdeal.Blocks
-- ==== Proof.MergeArrays.lean ====
/- The merge's four result arrays, from its arguments. -/
module

public import proofs.«01_k».proof.Proof.MergeBlocks
public import Idealize.ShloMosaic.Lib.Claim

@[expose] public section

set_option maxRecDepth 16384

noncomputable section

namespace Cert.MergeKernelIdeal.Arrays

open Idealize.ShloMosaic Idealize.ShloMosaic.TcCoe Idealize.SL.Sem
open Cert.MergeKernelIdeal Cert.MergeKernelIdeal.Gen Cert.MergeKernelIdeal.Blocks Cert.Rows

/-- The merge's arguments. -/
structure Inputs where
  xp : FVec Ideal S8x4096x1024 .f32
  xs : FVec Ideal S128x8x1024 .f32
  ap : FVec Ideal S32768x512 .bf16
  sa : FVec Ideal S1024x512 .bf16
  mp : FVec Ideal S32768x512 .bf16
  ms : FVec Ideal S1024x512 .bf16
  ga : FVec Ideal S33792x1024 .bf16
  gb : FVec Ideal S33792x1024 .bf16
  wa : FVec Ideal S512x1024 .f32
  wb : FVec Ideal S512x1024 .f32
  wo : FVec Ideal S1024x1024 .f32
  g : FVec Ideal S1024 .f32
  wq : FVec Ideal S1024x2048 .f32
  keys : FVec Ideal S8x2x128x128 .f32

namespace Inputs

variable (A : Inputs)

/-- Token `n`'s row before the merge. -/
def row (n : Fin 33792) : Fin 1024 → EReal :=
  rows (fun n e => A.xp (ix3 (⟨n.val / 4096, by omega⟩ : Fin 8) (⟨n.val % 4096, by omega⟩ : Fin 4096) e))
    (fun n e => A.xs (ix3 (⟨n.val / 8, by omega⟩ : Fin 128) (⟨n.val % 8, by omega⟩ : Fin 8) e)) n

/-- Token `n`'s two branches. -/
def branchA (n : Fin 33792) : Fin 512 → EReal := rows (fun n e => A.ap (ix2 n e)) (fun n e => A.sa (ix2 n e)) n
def branchB (n : Fin 33792) : Fin 512 → EReal := rows (fun n e => A.mp (ix2 n e)) (fun n e => A.ms (ix2 n e)) n

/-- Token `n`'s row after the merge. -/
def after (n : Fin 33792) : Fin 1024 → EReal :=
  merged (A.row n) (fun e => A.ga (ix2 n e)) (fun e => A.gb (ix2 n e)) (A.branchA n) (A.branchB n) (fun i e => A.wa (ix2 i e)) (fun i e => A.wb (ix2 i e))
    (fun i e => A.wo (ix2 i e))

/-- Its norm. -/
def normed (n : Fin 33792) : Fin 1024 → EReal := rms (A.after n) (fun e => A.g (ix1 e))

/-- Its scores. -/
def scored (n : Fin 33792) (s : Fin 16) (k : Fin 128) : EReal :=
  score (times (A.normed n) (fun i e => A.wq (ix2 i e))) (fun s k d => A.keys (ix4 (⟨s.val / 2, by omega⟩ : Fin 8) (⟨s.val % 2, by omega⟩ : Fin 2) k d)) s k

/-- The four results. -/
def out0 (i : S33792x1024.Idx) : EReal := A.after (i 0) (i 1)
def out1 (i : S1024x33792.Idx) : EReal := A.normed (i 1) (i 0)
def out2 (c : Fin 2) (i : S264x8x128x128.Idx) : EReal :=
  A.scored ⟨(i 0).val * 128 + (i 3).val, by have : (i 0).val < 264 := (i 0).isLt; have : (i 3).val < 128 := (i 3).isLt; omega⟩
    ⟨2 * (i 1).val + c.val, by have : (i 1).val < 8 := (i 1).isLt; omega⟩ (i 2)

end Inputs

variable (m : (ℓ : Loc nD τ sig) → Buf (Elt Ideal) ℓ)

/-- The arguments in memory `m` at device `c`. -/
def inputs (c : Dev nD) : Inputs :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7),
    m ((c : Thread nD τ).loc main_arg8), m ((c : Thread nD τ).loc main_arg9), m ((c : Thread nD τ).loc main_arg10), m ((c : Thread nD τ).loc main_arg11),
    m ((c : Thread nD τ).loc main_arg12), m ((c : Thread nD τ).loc main_arg13)⟩

theorem idx : ∀ t : Fin cfg0.N, (grid0.coords t 0).val = t.val ∧ win0_6.index t = ![t.val, 0] ∧ win0_7.index t = ![t.val, 0] ∧ win0_8.index t = ![0, 0]
    ∧ win0_9.index t = ![0, 0] ∧ win0_10.index t = ![0, 0] ∧ win0_11.index t = ![0, 0] ∧ win0_12.index t = ![0, 0] ∧ win0_13.index t = ![0, 0, 0] :=
  (by decide +kernel : ∀ t : Fin grid0.N, _)

theorem idxOut : ∀ t : Fin cfg0.N, win0_14.index t = ![t.val, 0] ∧ win0_15.index t = ![0, t.val] ∧ win0_16.index t = ![t.val, 0, 0, 0] ∧ win0_17.index t = ![t.val, 0, 0, 0] :=
  (by decide +kernel : ∀ t : Fin grid0.N, _)

theorem idxP : ∀ t : Fin cfg0.N, t.val < 64 → win0_0.index t = ![t.val, 0] ∧ win0_2.index t = ![t.val, 0] ∧ win0_4.index t = ![t.val, 0] :=
  (by decide +kernel : ∀ t : Fin grid0.N, t.val < 64 → _)

theorem idxS : ∀ t : Fin cfg0.N, 64 ≤ t.val → win0_1.index t = ![t.val - 64, 0] ∧ win0_3.index t = ![t.val - 64, 0] ∧ win0_5.index t = ![t.val - 64, 0] :=
  (by decide +kernel : ∀ t : Fin grid0.N, 64 ≤ t.val → _)

theorem blk0 (c : Dev nD) (t : Fin cfg0.N) (ht : t.val < 64) (a : Fin 512) (b : Fin 1024) (u : Fin 8) (v : Fin 4096) (h : u.val * 4096 + v.val = 512 * t.val + a.val) :
    iblk m c 0 t (ix2 a b) = m ((c : Thread nD τ).loc main_arg0) (ix3 u v b) := by
  blk_ext! [iblk, V, idxP t ht]

theorem blk1 (c : Dev nD) (t : Fin cfg0.N) (ht : 64 ≤ t.val) (a : Fin 512) (b : Fin 1024) (u : Fin 128) (v : Fin 8) (h : u.val * 8 + v.val = 512 * (t.val - 64) + a.val) :
    iblk m c 1 t (ix2 a b) = m ((c : Thread nD τ).loc main_arg1) (ix3 u v b) := by
  blk_ext! [iblk, V, idxS t ht]

theorem blk2 (c : Dev nD) (t : Fin cfg0.N) (ht : t.val < 64) (a : Fin 512) (b : Fin 512) (n : Fin 32768) (h : n.val = 512 * t.val + a.val) :
    iblk m c 2 t (ix2 a b) = m ((c : Thread nD τ).loc main_arg2) (ix2 n b) := by
  blk_ext [iblk, V, idxP t ht]

theorem blk3 (c : Dev nD) (t : Fin cfg0.N) (ht : 64 ≤ t.val) (a : Fin 512) (b : Fin 512) (n : Fin 1024) (h : n.val = 512 * (t.val - 64) + a.val) :
    iblk m c 3 t (ix2 a b) = m ((c : Thread nD τ).loc main_arg3) (ix2 n b) := by
  blk_ext [iblk, V, idxS t ht]

theorem blk4 (c : Dev nD) (t : Fin cfg0.N) (ht : t.val < 64) (a : Fin 512) (b : Fin 512) (n : Fin 32768) (h : n.val = 512 * t.val + a.val) :
    iblk m c 4 t (ix2 a b) = m ((c : Thread nD τ).loc main_arg4) (ix2 n b) := by
  blk_ext [iblk, V, idxP t ht]

theorem blk5 (c : Dev nD) (t : Fin cfg0.N) (ht : 64 ≤ t.val) (a : Fin 512) (b : Fin 512) (n : Fin 1024) (h : n.val = 512 * (t.val - 64) + a.val) :
    iblk m c 5 t (ix2 a b) = m ((c : Thread nD τ).loc main_arg5) (ix2 n b) := by
  blk_ext [iblk, V, idxS t ht]

theorem blk6 (c : Dev nD) (t : Fin cfg0.N) (a : Fin 512) (b : Fin 1024) (n : Fin 33792) (h : n.val = 512 * t.val + a.val) :
    iblk m c 6 t (ix2 a b) = m ((c : Thread nD τ).loc main_arg6) (ix2 n b) := by
  blk_ext [iblk, V, idx t]

theorem blk7 (c : Dev nD) (t : Fin cfg0.N) (a : Fin 512) (b : Fin 1024) (n : Fin 33792) (h : n.val = 512 * t.val + a.val) :
    iblk m c 7 t (ix2 a b) = m ((c : Thread nD τ).loc main_arg7) (ix2 n b) := by
  blk_ext [iblk, V, idx t]

theorem blk8 (c : Dev nD) (t : Fin cfg0.N) (a : Fin 512) (b : Fin 1024) : iblk m c 8 t (ix2 a b) = m ((c : Thread nD τ).loc main_arg8) (ix2 a b) := by
  blk_ext! [iblk, V, idx t]

theorem blk9 (c : Dev nD) (t : Fin cfg0.N) (a : Fin 512) (b : Fin 1024) : iblk m c 9 t (ix2 a b) = m ((c : Thread nD τ).loc main_arg9) (ix2 a b) := by
  blk_ext! [iblk, V, idx t]

theorem blk10 (c : Dev nD) (t : Fin cfg0.N) (a b : Fin 1024) : iblk m c 10 t (ix2 a b) = m ((c : Thread nD τ).loc main_arg10) (ix2 a b) := by
  blk_ext! [iblk, V, idx t]

theorem blk11 (c : Dev nD) (t : Fin cfg0.N) (b : Fin 1024) : iblk m c 11 t (ix2 (0 : Fin 1) b) = m ((c : Thread nD τ).loc main_arg11) (ix1 b) := by
  blk_ext! [iblk, V, idx t]

theorem blk12 (c : Dev nD) (t : Fin cfg0.N) (a : Fin 1024) (b : Fin 2048) : iblk m c 12 t (ix2 a b) = m ((c : Thread nD τ).loc main_arg12) (ix2 a b) := by
  blk_ext! [iblk, V, idx t]

theorem blk13 (c : Dev nD) (t : Fin cfg0.N) (s : Fin 16) (k d : Fin 128) (h : Fin 8) (p : Fin 2) (e : 2 * h.val + p.val = s.val) :
    iblk m c 13 t (ix3 s k d) = m ((c : Thread nD τ).loc main_arg13) (ix4 h p k d) := by
  blk_ext! [iblk, V, idx t]

theorem token_at (c : Dev nD) (t : Fin cfg0.N) (r : Fin 512) (n : Fin 33792) (hn : n.val = 512 * t.val + r.val) :
    token (grid0.coords t) (iblk m c 0 t) (iblk m c 1 t) (iblk m c 2 t) (iblk m c 3 t) (iblk m c 4 t) (iblk m c 5 t) (iblk m c 6 t) (iblk m c 7 t)
      (iblk m c 8 t) (iblk m c 9 t) (iblk m c 10 t) r = (inputs m c).after n := by
  have e := (idx t).1
  unfold token Inputs.after
  refine merged_congr (fun b => ?_) (fun b => blk6 m c t r b n hn) (fun b => blk7 m c t r b n hn) (fun b => ?_) (fun b => ?_)
    (fun a b => blk8 m c t a b) (fun a b => blk9 m c t a b) (fun a b => blk10 m c t a b)
  · unfold Inputs.row rows
    by_cases ht : t.val < 64
    · rw [if_pos (by omega), dif_pos (by omega)]
      exact blk0 m c t ht r b _ _ (by show n.val / 4096 * 4096 + n.val % 4096 = _; omega)
    · rw [if_neg (by omega), dif_neg (by omega)]
      exact blk1 m c t (by omega) r b _ _ (by show (n.val - 32768) / 8 * 8 + (n.val - 32768) % 8 = _; omega)
  · unfold Inputs.branchA rows
    by_cases ht : t.val < 64
    · rw [if_pos (by omega), dif_pos (by omega)]
      exact blk2 m c t ht r b _ hn
    · rw [if_neg (by omega), dif_neg (by omega)]
      exact blk3 m c t (by omega) r b _ (by show n.val - 32768 = _; omega)
  · unfold Inputs.branchB rows
    by_cases ht : t.val < 64
    · rw [if_pos (by omega), dif_pos (by omega)]
      exact blk4 m c t ht r b _ hn
    · rw [if_neg (by omega), dif_neg (by omega)]
      exact blk5 m c t (by omega) r b _ (by show n.val - 32768 = _; omega)

/-- The block's norms and scores are the tokens'. -/
theorem norm_at (c : Dev nD) (t : Fin cfg0.N) (r : Fin 512) (n : Fin 33792) (hn : n.val = 512 * t.val + r.val) :
    rms (token (grid0.coords t) (iblk m c 0 t) (iblk m c 1 t) (iblk m c 2 t) (iblk m c 3 t) (iblk m c 4 t) (iblk m c 5 t) (iblk m c 6 t) (iblk m c 7 t)
      (iblk m c 8 t) (iblk m c 9 t) (iblk m c 10 t) r) (fun e => iblk m c 11 t (ix2 (0 : Fin 1) e)) = (inputs m c).normed n := by
  rw [token_at m c t r n hn]
  exact congrArg (rms ((inputs m c).after n)) (funext fun e => blk11 m c t e)

theorem score_at (c : Dev nD) (t : Fin cfg0.N) (r : Fin 512) (n : Fin 33792) (hn : n.val = 512 * t.val + r.val) (s : Fin 16) (k : Fin 128) :
    score (times (rms (token (grid0.coords t) (iblk m c 0 t) (iblk m c 1 t) (iblk m c 2 t) (iblk m c 3 t) (iblk m c 4 t) (iblk m c 5 t) (iblk m c 6 t) (iblk m c 7 t)
      (iblk m c 8 t) (iblk m c 9 t) (iblk m c 10 t) r) (fun e => iblk m c 11 t (ix2 (0 : Fin 1) e))) (fun i e => iblk m c 12 t (ix2 i e)))
        (fun s k d => iblk m c 13 t (ix3 s k d)) s k = (inputs m c).scored n s k := by
  rw [norm_at m c t r n hn]
  exact score_congr (congrArg (times ((inputs m c).normed n)) (funext fun i => funext fun e => blk12 m c t i e))
    (fun s k d => blk13 m c t s k d _ _ (by show 2 * (s.val / 2) + s.val % 2 = _; omega)) s k

theorem final14 (c : Dev nD) : (dats m 0 c).arrAt 14 cfg0.N = (inputs m c).out0 := by
  refine (dats m 0 c).arrAt_eq_of_covers 14 _ (by decide +kernel) fun t hf y => ?_
  have hT : t.val < 66 := t.isLt
  obtain ⟨r, hr⟩ : ∃ r : Fin 512, r.val = (y 0).val := ⟨⟨_, (y 0).isLt⟩, rfl⟩
  obtain ⟨j, hj⟩ : ∃ j : Fin 1024, j.val = (y 1).val := ⟨⟨_, (y 1).isLt⟩, rfl⟩
  obtain ⟨n, hn⟩ : ∃ n : Fin 33792, n.val = 512 * t.val + r.val := ⟨⟨_, by omega⟩, rfl⟩
  have ey : y = ix2 r j := by ext k; fin_cases k <;> simp [hr, hj]
  subst ey
  blk_simp
  rw [after0_14]
  have e : ((View.whole main_v9_0).slice (win0_14.rect t)).emb (ix2 r j) = ix2 n j := by
    blk_ext [idxOut t]
  rw [e]
  refine (out14 _ _ _ _ _ _ _ _ _ _ _ _ _ _ _ r j).trans ?_
  rw [token_at m c t r n hn]
  rfl

theorem final15 (c : Dev nD) : (dats m 0 c).arrAt 15 cfg0.N = (inputs m c).out1 := by
  refine (dats m 0 c).arrAt_eq_of_covers 15 _ (by decide +kernel) fun t hf y => ?_
  have hT : t.val < 66 := t.isLt
  obtain ⟨r, hr⟩ : ∃ r : Fin 512, r.val = (y 1).val := ⟨⟨_, (y 1).isLt⟩, rfl⟩
  obtain ⟨j, hj⟩ : ∃ j : Fin 1024, j.val = (y 0).val := ⟨⟨_, (y 0).isLt⟩, rfl⟩
  obtain ⟨n, hn⟩ : ∃ n : Fin 33792, n.val = 512 * t.val + r.val := ⟨⟨_, by omega⟩, rfl⟩
  have ey : y = ix2 j r := by ext k; fin_cases k <;> simp [hr, hj]
  subst ey
  blk_simp
  rw [after0_15]
  have e : ((View.whole main_v9_1).slice (win0_15.rect t)).emb (ix2 j r) = ix2 j n := by
    blk_ext [idxOut t]
  rw [e]
  refine (out15 _ _ _ _ _ _ _ _ _ _ _ _ _ _ _ r j).trans ?_
  rw [norm_at m c t r n hn]
  rfl

theorem final16 (c : Dev nD) : (dats m 0 c).arrAt 16 cfg0.N = (inputs m c).out2 0 := by
  refine (dats m 0 c).arrAt_eq_of_covers 16 _ (by decide +kernel) fun t hf y => ?_
  have hT : t.val < 66 := t.isLt
  obtain ⟨a, ha⟩ : ∃ a : Fin 4, a.val = (y 0).val := ⟨⟨_, (y 0).isLt⟩, rfl⟩
  obtain ⟨h, hh⟩ : ∃ h : Fin 8, h.val = (y 1).val := ⟨⟨_, (y 1).isLt⟩, rfl⟩
  obtain ⟨k, hk⟩ : ∃ k : Fin 128, k.val = (y 2).val := ⟨⟨_, (y 2).isLt⟩, rfl⟩
  obtain ⟨l, hl⟩ : ∃ l : Fin 128, l.val = (y 3).val := ⟨⟨_, (y 3).isLt⟩, rfl⟩
  obtain ⟨b, hb⟩ : ∃ b : Fin 264, b.val = 4 * t.val + a.val := ⟨⟨_, by omega⟩, rfl⟩
  have ey : y = ix4 a h k l := by ext q; fin_cases q <;> simp [ha, hh, hk, hl]
  subst ey
  blk_simp
  rw [after0_16]
  have e : ((View.whole main_v9_2).slice (win0_16.rect t)).emb (ix4 a h k l) = ix4 b h k l := by
    blk_ext [idxOut t]
  rw [e]
  refine (out16 _ _ _ _ _ _ _ _ _ _ _ _ _ _ _ _).trans ?_
  refine (scoreAt_eq _ _ _ _ _ _ _ _ _ _ _ _ _ _ _ _ _ _).trans ?_
  exact score_at m c t _ _ (by show b.val * 128 + l.val = 512 * t.val + (128 * a.val + l.val); omega) _ _

theorem final17 (c : Dev nD) : (dats m 0 c).arrAt 17 cfg0.N = (inputs m c).out2 1 := by
  refine (dats m 0 c).arrAt_eq_of_covers 17 _ (by decide +kernel) fun t hf y => ?_
  have hT : t.val < 66 := t.isLt
  obtain ⟨a, ha⟩ : ∃ a : Fin 4, a.val = (y 0).val := ⟨⟨_, (y 0).isLt⟩, rfl⟩
  obtain ⟨h, hh⟩ : ∃ h : Fin 8, h.val = (y 1).val := ⟨⟨_, (y 1).isLt⟩, rfl⟩
  obtain ⟨k, hk⟩ : ∃ k : Fin 128, k.val = (y 2).val := ⟨⟨_, (y 2).isLt⟩, rfl⟩
  obtain ⟨l, hl⟩ : ∃ l : Fin 128, l.val = (y 3).val := ⟨⟨_, (y 3).isLt⟩, rfl⟩
  obtain ⟨b, hb⟩ : ∃ b : Fin 264, b.val = 4 * t.val + a.val := ⟨⟨_, by omega⟩, rfl⟩
  have ey : y = ix4 a h k l := by ext q; fin_cases q <;> simp [ha, hh, hk, hl]
  subst ey
  blk_simp
  rw [after0_17]
  have e : ((View.whole main_v9_3).slice (win0_17.rect t)).emb (ix4 a h k l) = ix4 b h k l := by
    blk_ext [idxOut t]
  rw [e]
  refine (out17 _ _ _ _ _ _ _ _ _ _ _ _ _ _ _ _).trans ?_
  refine (scoreAt_eq _ _ _ _ _ _ _ _ _ _ _ _ _ _ _ _ _ _).trans ?_
  exact score_at m c t _ _ (by show b.val * 128 + l.val = 512 * t.val + (128 * a.val + l.val); omega) _ _

end Cert.MergeKernelIdeal.Arrays
-- ==== Proof.MergeStages.lean ====
/- The reference's merge, stage by stage, each stage read at an index. -/
module

public import proofs.«01_k».proof.Proof.MergeArrays
public import proofs.«01_k».proof.Proof.Gen.MergeReferenceIdeal.Run
public import Idealize.ShloMosaic.Lib.Pointwise

@[expose] public section

set_option maxRecDepth 16384

noncomputable section

namespace Cert.MergeReferenceIdeal.Stages

open Idealize.ShloMosaic Idealize.ShloMosaic.TcCoe Idealize.SL.Sem
open Cert.MergeReferenceIdeal Cert.MergeReferenceIdeal.Gen Cert.Rows
open Cert.MergeKernelIdeal.Arrays (Inputs)

/-- All tokens' rows, the prompt's first. -/
def joined (xp : FVec Ideal S8x4096x1024 .f32) (xs : FVec Ideal S128x8x1024 .f32) : FVec Ideal S33792x1024 .f32 :=
  concatenate S33792x1024 0 [⟨S32768x1024, (shapeCast _ xp shapeCasts_S8x4096x1024_S32768x1024)⟩, ⟨S1024x1024, (shapeCast _ xs shapeCasts_S128x8x1024_S1024x1024)⟩] concatenates_S32768x1024_S1024x1024_S33792x1024_d0

theorem joined_apply (xp : FVec Ideal S8x4096x1024 .f32) (xs : FVec Ideal S128x8x1024 .f32) (n : Fin 33792) (e : Fin 1024) :
    joined xp xs (ix2 n e) = rows (fun n e => xp (ix3 (⟨n.val / 4096, by omega⟩ : Fin 8) (⟨n.val % 4096, by omega⟩ : Fin 4096) e))
      (fun n e => xs (ix3 (⟨n.val / 8, by omega⟩ : Fin 128) (⟨n.val % 8, by omega⟩ : Fin 8) e)) n e := by
  unfold joined rows
  pointwise
  split <;> rfl

/-- One branch of all tokens. -/
def branch (p : FVec Ideal S32768x512 .bf16) (s : FVec Ideal S1024x512 .bf16) : FVec Ideal S33792x512 .f32 :=
  extf .f32 (concatenate S33792x512 0 [⟨S32768x512, p⟩, ⟨S1024x512, s⟩] concatenates_S32768x512_S1024x512_S33792x512_d0) bitsLt_bf16_f32

theorem branch_apply (p : FVec Ideal S32768x512 .bf16) (s : FVec Ideal S1024x512 .bf16) (n : Fin 33792) (e : Fin 512) :
    branch p s (ix2 n e) = rows (fun n e => p (ix2 n e)) (fun n e => s (ix2 n e)) n e := by
  unfold branch rows
  pointwise
  split <;> rfl

/-- The gated branches, added. -/
def gated (ga gb : FVec Ideal S33792x1024 .bf16) (a s : FVec Ideal S33792x512 .f32) (wa wb : FVec Ideal S512x1024 .f32) : FVec Ideal S33792x1024 .f32 :=
  addf (mulf (extf .f32 ga bitsLt_bf16_f32) (Host.dotGeneral dot_S33792x512_S512x1024_S33792x1024_1_0_0_1_n_n none a wa))
    (mulf (extf .f32 gb bitsLt_bf16_f32) (Host.dotGeneral dot_S33792x512_S512x1024_S33792x1024_1_0_0_1_n_n none s wb))

theorem gated_apply (ga gb : FVec Ideal S33792x1024 .bf16) (a s : FVec Ideal S33792x512 .f32) (wa wb : FVec Ideal S512x1024 .f32) (n : Fin 33792) (j : Fin 1024) :
    gated ga gb a s wa wb (ix2 n j) = mixed (fun e => ga (ix2 n e)) (fun e => gb (ix2 n e)) (fun e => a (ix2 n e)) (fun e => s (ix2 n e))
      (fun i e => wa (ix2 i e)) (fun i e => wb (ix2 i e)) j := by
  unfold gated
  pointwise
  rfl

/-- A residual array plus a product. -/
def added (X H : FVec Ideal S33792x1024 .f32) (wo : FVec Ideal S1024x1024 .f32) : FVec Ideal S33792x1024 .f32 :=
  addf X (Host.dotGeneral dot_S33792x1024_S1024x1024_S33792x1024_1_0_0_1_n_n none H wo)

theorem added_apply (X H : FVec Ideal S33792x1024 .f32) (wo : FVec Ideal S1024x1024 .f32) (n : Fin 33792) (j : Fin 1024) :
    added X H wo (ix2 n j) = X (ix2 n j) + times (fun e => H (ix2 n e)) (fun i e => wo (ix2 i e)) j := by
  unfold added
  pointwise
  rfl

/-- The rows' root-mean-square norms. -/
def normed (X : FVec Ideal S33792x1024 .f32) (g : FVec Ideal S1024 .f32) : FVec Ideal S33792x1024 .f32 :=
  mulf (mulf X (broadcastInDim S33792x1024 ![0, 1] bcast_S33792x1_S33792x1024_0_1 (Host.rsqrt (addf (Host.divf (broadcastInDim S33792x1 ![0] bcast_S33792_S33792x1_0 (Host.reduceAdd (mulf X X) (constant S_ .f32 0x00000000#32) reducesTo_S33792x1024_S33792_d1 h_S_)) (broadcastInDim S33792x1 ![] bcast_S_S33792x1 (constant S_ .f32 0x44800000#32))) (broadcastInDim S33792x1 ![] bcast_S_S33792x1 (constant S_ .f32 0x358637BD#32)))))) (broadcastInDim S33792x1024 ![0, 1] bcast_S1x1024_S33792x1024_0_1 (broadcastInDim S1x1024 ![1] bcast_S1024_S1x1024_1 g))

theorem normed_apply (X : FVec Ideal S33792x1024 .f32) (g : FVec Ideal S1024 .f32) (n : Fin 33792) (d : Fin 1024) :
    normed X g (ix2 n d) = rms (fun e => X (ix2 n e)) (fun e => g (ix1 e)) d := by
  unfold normed
  pointwise
  rfl

/-- The norms, transposed. -/
def turned (X : FVec Ideal S33792x1024 .f32) : FVec Ideal S1024x33792 .bf16 :=
  truncf .bf16 (transpose S1024x33792 [1, 0] X transposes_S33792x1024_S1024x33792_1_0) bitsLt_bf16_f32

theorem turned_apply (X : FVec Ideal S33792x1024 .f32) (n : Fin 33792) (d : Fin 1024) : turned X (ix2 d n) = X (ix2 n d) := by
  unfold turned
  pointwise

/-- The queries. -/
def queried (X : FVec Ideal S33792x1024 .f32) (wq : FVec Ideal S1024x2048 .f32) : FVec Ideal S33792x2048 .f32 :=
  Host.dotGeneral dot_S33792x1024_S1024x2048_S33792x2048_1_0_0_1_n_n none X wq

theorem queried_apply (X : FVec Ideal S33792x1024 .f32) (wq : FVec Ideal S1024x2048 .f32) (n : Fin 33792) (j : Fin 2048) :
    queried X wq (ix2 n j) = times (fun e => X (ix2 n e)) (fun i e => wq (ix2 i e)) j := by
  unfold queried
  pointwise
  rfl

/-- The scores of every token against every key. -/
def scores (Q : FVec Ideal S33792x2048 .f32) (keys : FVec Ideal S8x2x128x128 .f32) : FVec Ideal S33792x8x2x128 .f32 :=
  transpose S33792x8x2x128 [3, 0, 1, 2] (Host.dotGeneral dot_S8x2x128x128_S33792x8x2x128_S8x2x128x33792_3_3_2_0_01_12 none keys (shapeCast _ Q shapeCasts_S33792x2048_S33792x8x2x128)) transposes_S8x2x128x33792_S33792x8x2x128_3_0_1_2

theorem scores_apply (Q : FVec Ideal S33792x2048 .f32) (keys : FVec Ideal S8x2x128x128 .f32) (n : Fin 33792) (h : Fin 8) (p : Fin 2) (k : Fin 128) :
    scores Q keys (ix4 n h p k) = ∑ d : Fin 128, keys (ix4 h p k d) * Q (ix2 n (⟨h.val * 256 + p.val * 128 + d.val, by omega⟩ : Fin 2048)) := by
  unfold scores
  pointwise

/-- One half of the scores, 128 tokens to a row. -/
def half0 (S : FVec Ideal S33792x8x2x128 .f32) : FVec Ideal S264x8x128x128 .f32 :=
  transpose S264x8x128x128 [0, 2, 3, 1] (shapeCast _ (shapeCast _ (extractStridedSlice S33792x8x1x128 ![0, 0, 0, 0] S slices_S33792x8x2x128_S33792x8x1x128_0_0_0_0) shapeCasts_S33792x8x1x128_S33792x8x128) shapeCasts_S33792x8x128_S264x128x8x128) transposes_S264x128x8x128_S264x8x128x128_0_2_3_1

theorem half0_apply (S : FVec Ideal S33792x8x2x128 .f32) (b : Fin 264) (h : Fin 8) (k l : Fin 128) :
    half0 S (ix4 b h k l) = S (ix4 (⟨b.val * 128 + l.val, by omega⟩ : Fin 33792) h (0 : Fin 2) k) := by
  unfold half0
  pointwise

def half1 (S : FVec Ideal S33792x8x2x128 .f32) : FVec Ideal S264x8x128x128 .f32 :=
  transpose S264x8x128x128 [0, 2, 3, 1] (shapeCast _ (shapeCast _ (extractStridedSlice S33792x8x1x128 ![0, 0, 1, 0] S slices_S33792x8x2x128_S33792x8x1x128_0_0_1_0) shapeCasts_S33792x8x1x128_S33792x8x128) shapeCasts_S33792x8x128_S264x128x8x128) transposes_S264x128x8x128_S264x8x128x128_0_2_3_1

theorem half1_apply (S : FVec Ideal S33792x8x2x128 .f32) (b : Fin 264) (h : Fin 8) (k l : Fin 128) :
    half1 S (ix4 b h k l) = S (ix4 (⟨b.val * 128 + l.val, by omega⟩ : Fin 33792) h (1 : Fin 2) k) := by
  unfold half1
  pointwise

/-- The reference's arrays. -/
def afterAll (A : Inputs) : FVec Ideal S33792x1024 .f32 :=
  added (joined A.xp A.xs) (gated A.ga A.gb (branch A.ap A.sa) (branch A.mp A.ms) A.wa A.wb) A.wo

theorem afterAll_apply (A : Inputs) (n : Fin 33792) (j : Fin 1024) : afterAll A (ix2 n j) = A.after n j := by
  unfold afterAll Inputs.after merged
  rw [added_apply, joined_apply]
  simp only [gated_apply, branch_apply]
  rfl

def normedAll (A : Inputs) : FVec Ideal S33792x1024 .f32 := normed (afterAll A) A.g

theorem normedAll_apply (A : Inputs) (n : Fin 33792) (j : Fin 1024) : normedAll A (ix2 n j) = A.normed n j := by
  unfold normedAll Inputs.normed
  rw [normed_apply]
  simp only [afterAll_apply]

def scoredAll (A : Inputs) : FVec Ideal S33792x8x2x128 .f32 := scores (queried (normedAll A) A.wq) A.keys

theorem scoredAll_apply (A : Inputs) (n : Fin 33792) (h : Fin 8) (p : Fin 2) (k : Fin 128) (s : Fin 16) (hs : s.val = 2 * h.val + p.val) :
    scoredAll A (ix4 n h p k) = A.scored n s k := by
  unfold scoredAll Inputs.scored score
  rw [scores_apply]
  refine Finset.sum_congr rfl fun d _ => ?_
  have e1 : h = (⟨s.val / 2, by omega⟩ : Fin 8) := Fin.ext (by show h.val = s.val / 2; omega)
  have e2 : p = (⟨s.val % 2, by omega⟩ : Fin 2) := Fin.ext (by show p.val = s.val % 2; omega)
  have e3 : (⟨h.val * 256 + p.val * 128 + d.val, by omega⟩ : Fin 2048) = ⟨128 * s.val + d.val, by omega⟩ :=
    Fin.ext (by show h.val * 256 + p.val * 128 + d.val = 128 * s.val + d.val; omega)
  rw [e3, queried_apply]
  simp only [normedAll_apply]
  rw [← e1, ← e2]

theorem out0_eq (A : Inputs) : afterAll A = A.out0 := by
  funext i
  idx_vars i
  exact afterAll_apply A _ _

theorem out1_eq (A : Inputs) : turned (normedAll A) = A.out1 := by
  funext i
  idx_vars i
  rw [turned_apply, normedAll_apply]
  rfl

theorem out2_eq (A : Inputs) : half0 (scoredAll A) = A.out2 0 := by
  funext i
  idx_vars i
  rw [half0_apply]
  exact scoredAll_apply A _ _ _ _ ⟨2 * i1.val + 0, by omega⟩ rfl

theorem out3_eq (A : Inputs) : half1 (scoredAll A) = A.out2 1 := by
  funext i
  idx_vars i
  rw [half1_apply]
  exact scoredAll_apply A _ _ _ _ ⟨2 * i1.val + 1, by omega⟩ rfl

variable (m : (ℓ : Loc nD τ sig) → Buf (Elt Ideal) ℓ)

/-- The arguments in the reference's memory. -/
def inputs (c : Dev nD) : Inputs :=
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5), m ((c.tc : Thread nD τ).loc main_arg6), m ((c.tc : Thread nD τ).loc main_arg7),
    m ((c.tc : Thread nD τ).loc main_arg8), m ((c.tc : Thread nD τ).loc main_arg9), m ((c.tc : Thread nD τ).loc main_arg10), m ((c.tc : Thread nD τ).loc main_arg11),
    m ((c.tc : Thread nD τ).loc main_arg12), m ((c.tc : Thread nD τ).loc main_arg13)⟩

theorem res1 (c : Dev nD) : Cert.MergeReferenceIdeal.Value.res_main_v34 m c = turned (normedAll (inputs m c)) := rfl

theorem res2 (c : Dev nD) : Cert.MergeReferenceIdeal.Value.res_main_v38 m c = half0 (scoredAll (inputs m c)) := rfl

theorem res3 (c : Dev nD) : Cert.MergeReferenceIdeal.Value.res_main_v42 m c = half1 (scoredAll (inputs m c)) := rfl

end Cert.MergeReferenceIdeal.Stages
-- ==== Proof.MergeClaims.lean ====
/- The claims about the merge: the branches' gated projection, the residual sum, its norm and the scores against the keys. -/
module

public import proofs.«01_k».proof.Defs
public import proofs.«01_k».proof.Proof.MergeStages
public import proofs.«01_k».proof.Proof.Gen.MergeKernel.Frame
public import Idealize.ShloMosaic.Lib.Claim
public import Idealize.ShloMosaic.Lib.Quiescent

@[expose] public section

set_option maxRecDepth 16384

noncomputable section

namespace Cert.MergeClaims

open Idealize.ShloMosaic Idealize.ShloMosaic.TcCoe Idealize.SL.Sem
open Cert.MergeKernelIdeal.Arrays Cert.MergeReferenceIdeal.Stages

theorem frame_P : Cert.quiescent_MergeKernel := fun m ρ _ => Cert.MergeKernel.Gen.frame m ρ

theorem frame_PI : Cert.quiescent_MergeKernelIdeal := fun m ρ _ => Cert.MergeKernelIdeal.Gen.frame m ρ

theorem frame_RI : Cert.quiescent_MergeReferenceIdeal := fun m ρ _ =>
  (θ_run Cert.MergeReferenceIdeal.defs _ _).mono (fun r h => ⟨fun c => (h c).2.2.2.2,
      Idealize.ShloMosaic.sem_eq_zero_of_no_sems (by decide) r.2⟩)
    (Cert.MergeReferenceIdeal.Value.run (F := Ideal) m ρ)

theorem preserves : Cert.preserves_MergeKernel_MergeKernelIdeal := trivial

theorem algebraic : Cert.algebraic_MergeKernelIdeal_MergeReferenceIdeal := by
  intro m ρ m' ρ' hpre hag
  have hi : ∀ c, Cert.MergeReferenceIdeal.Stages.inputs m' c = Cert.MergeKernelIdeal.Arrays.inputs m c := by
    intro c
    obtain ⟨e0, e1, e2, e3, e4, e5, e6, e7, e8, e9, e10, e11, e12, e13⟩ := hag c
    unfold Cert.MergeReferenceIdeal.Stages.inputs Cert.MergeKernelIdeal.Arrays.inputs
    rw [e0, e1, e2, e3, e4, e5, e6, e7, e8, e9, e10, e11, e12, e13]
  refine ⟨fun c => (Cert.MergeKernelIdeal.Arrays.inputs m c).out0, fun c => (Cert.MergeKernelIdeal.Arrays.inputs m c).out1,
    fun c => (Cert.MergeKernelIdeal.Arrays.inputs m c).out2 0, fun c => (Cert.MergeKernelIdeal.Arrays.inputs m c).out2 1, ?_, ?_⟩
  · exact (θ_run _ _ _).mono (fun _ h c => ⟨(h c).1.trans (final14 m c), (h c).2.1.trans (final15 m c),
      (h c).2.2.1.trans (final16 m c), (h c).2.2.2.1.trans (final17 m c), (h c).2.2.2.2⟩) (Cert.MergeKernelIdeal.Value.run_blocks m ρ)
  · refine (θ_run _ _ _).mono (fun _ h c => ⟨(h c).1.trans ?_, (h c).2.1.trans ?_, (h c).2.2.1.trans ?_, (h c).2.2.2.1.trans ?_, (h c).2.2.2.2⟩)
      (Cert.MergeReferenceIdeal.Value.run m' ρ')
    · exact (out0_eq (Cert.MergeReferenceIdeal.Stages.inputs m' c)).trans (by rw [hi c])
    · exact (res1 m' c).trans ((out1_eq _).trans (by rw [hi c]))
    · exact (res2 m' c).trans ((out2_eq _).trans (by rw [hi c]))
    · exact (res3 m' c).trans ((out3_eq _).trans (by rw [hi c]))

end Cert.MergeClaims
-- ==== Proof.Final.lean ====
/- The claims about the layer's last call: the gated projection of the per-layer embeddings. -/
module

public import proofs.«01_k».proof.Defs
public import proofs.«01_k».proof.Proof.Rows
public import proofs.«01_k».proof.Proof.Gen.FinalKernel.Frame
public import proofs.«01_k».proof.Proof.Gen.FinalKernelIdeal.Value
public import proofs.«01_k».proof.Proof.Gen.FinalReferenceIdeal.Run
public import Idealize.ShloMosaic.Lib.Pipeline.ValueKit
public import Idealize.ShloMosaic.Lib.Claim
public import Idealize.ShloMosaic.Lib.Quiescent

@[expose] public section

set_option maxRecDepth 16384

noncomputable section

namespace Cert.FinalKernelIdeal.Arrays

open Idealize.ShloMosaic Idealize.ShloMosaic.TcCoe Idealize.SL.Sem
open Cert.FinalKernelIdeal Cert.FinalKernelIdeal.Gen Cert.Rows

/-- The result at token `n` and column `j`, from the call's arguments. -/
def result (x : FVec Ideal S33792x1024 .f32) (p : FVec Ideal S8x4096x256 .f32) (g : FVec Ideal S1024 .f32)
    (wg : FVec Ideal S1024x1024 .f32) (wp : FVec Ideal S256x1024 .f32) (n : Fin 32768) (j : Fin 1024) : EReal :=
  last (fun e => x (ix2 (⟨n.val, by omega⟩ : Fin 33792) e)) (fun e => g (ix1 e)) (fun i e => wg (ix2 i e))
    (fun e => p (ix3 (⟨n.val / 4096, by omega⟩ : Fin 8) (⟨n.val % 4096, by omega⟩ : Fin 4096) e)) (fun i e => wp (ix2 i e)) j

/-- What one block of 1024 tokens computes. -/
theorem block (x : Vec Ideal S1024x1024 .f32) (g : Vec Ideal S1x1024 .f32) (wg : Vec Ideal S1024x1024 .bf16) (p : Vec Ideal S1024x256 .f32) (wp : Vec Ideal S256x1024 .bf16)
    (r j : Fin 1024) : k0_pay1 x g wg p wp (ix2 r j)
      = last (fun e => x (ix2 r e)) (fun e => g (ix2 (0 : Fin 1) e)) (fun i e => wg (ix2 i e)) (fun e => p (ix2 r e)) (fun i e => wp (ix2 i e)) j := by
  unfold_payloads
  pointwise
  rfl

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] :=
  (by decide +kernel : ∀ t : Fin grid0.N, _)

theorem blk0 (c : Dev nD) (t : Fin cfg0.N) (a b : Fin 1024) (n : Fin 33792) (h : n.val = 1024 * t.val + a.val) :
    iblk m c 0 t (ix2 a b) = m ((c : Thread nD τ).loc main_arg0) (ix2 n b) := by
  blk_ext [iblk, V, idx t]

theorem blk1 (c : Dev nD) (t : Fin cfg0.N) (a : Fin 1024) (b : Fin 256) (u : Fin 8) (v : Fin 4096) (h : u.val * 4096 + v.val = 1024 * t.val + a.val) :
    iblk m c 1 t (ix2 a b) = m ((c : Thread nD τ).loc main_arg1) (ix3 u v b) := by
  blk_ext! [iblk, V, idx t]

theorem blk2 (c : Dev nD) (t : Fin cfg0.N) (b : Fin 1024) :
    iblk m c 2 t (ix2 (0 : Fin 1) b) = m ((c : Thread nD τ).loc main_arg2) (ix1 b) := by
  blk_ext! [iblk, V, idx t]

theorem blk3 (c : Dev nD) (t : Fin cfg0.N) (a b : Fin 1024) :
    iblk m c 3 t (ix2 a b) = m ((c : Thread nD τ).loc main_arg3) (ix2 a b) := by
  blk_ext! [iblk, V, idx t]

theorem blk4 (c : Dev nD) (t : Fin cfg0.N) (a : Fin 256) (b : Fin 1024) :
    iblk m c 4 t (ix2 a b) = m ((c : Thread nD τ).loc main_arg4) (ix2 a b) := by
  blk_ext! [iblk, V, idx t]

/-- The kernel's result array after the run. -/
theorem final (c : Dev nD) : (dats m 0 c).arrAt 5 cfg0.N
    = fun i : S32768x1024.Idx => result (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) := by
  refine (dats m 0 c).arrAt_eq_of_covers 5 _ (by decide +kernel) fun t hf y => ?_
  have hT : t.val < 32 := t.isLt
  have h0 : (y 0).val < 1024 := (y 0).isLt
  have h1 : (y 1).val < 1024 := (y 1).isLt
  obtain ⟨r, hr⟩ : ∃ r : Fin 1024, r.val = (y 0).val := ⟨⟨_, h0⟩, rfl⟩
  obtain ⟨j, hj⟩ : ∃ j : Fin 1024, j.val = (y 1).val := ⟨⟨_, h1⟩, rfl⟩
  obtain ⟨n, hn⟩ : ∃ n : Fin 32768, n.val = 1024 * t.val + r.val := ⟨⟨_, by omega⟩, rfl⟩
  have ey : y = ix2 r j := by ext k; fin_cases k <;> simp [hr, hj]
  subst ey
  blk_simp
  rw [after0_5]
  frame_out
  have e : ((View.whole main_v4).slice (win0_5.rect t)).emb (ix2 r j) = ix2 n j := by
    blk_ext [idx t]
  rw [e]
  refine (block _ _ _ _ _ r j).trans ?_
  exact last_congr (fun e => blk0 m c t r e _ hn) (fun e => blk2 m c t e) (fun a e => blk3 m c t a e)
    (fun e => blk1 m c t r e _ _ (by show n.val / 4096 * 4096 + n.val % 4096 = _; omega)) (fun a e => blk4 m c t a e) j

end Cert.FinalKernelIdeal.Arrays

namespace Cert.FinalReferenceIdeal.Stages

open Idealize.ShloMosaic Idealize.ShloMosaic.TcCoe Idealize.SL.Sem
open Cert.FinalReferenceIdeal Cert.FinalReferenceIdeal.Gen Cert.Rows

/-- The rows' root-mean-square norms. -/
def normed (X : FVec Ideal S32768x1024 .f32) (g : FVec Ideal S1024 .f32) : FVec Ideal S32768x1024 .f32 :=
  mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

theorem normed_apply (X : FVec Ideal S32768x1024 .f32) (g : FVec Ideal S1024 .f32) (n : Fin 32768) (d : Fin 1024) :
    normed X g (ix2 n d) = rms (fun e => X (ix2 n e)) (fun e => g (ix1 e)) d := by
  unfold normed
  pointwise
  rfl

/-- The gates' logits. -/
def logits (X : FVec Ideal S32768x1024 .f32) (wg : FVec Ideal S1024x1024 .f32) : FVec Ideal S32768x1024 .f32 :=
  Host.dotGeneral dot_S32768x1024_S1024x1024_S32768x1024_1_0_0_1_n_n none X wg

theorem logits_apply (X : FVec Ideal S32768x1024 .f32) (wg : FVec Ideal S1024x1024 .f32) (n : Fin 32768) (j : Fin 1024) :
    logits X wg (ix2 n j) = times (fun e => X (ix2 n e)) (fun i e => wg (ix2 i e)) j := by
  unfold logits
  pointwise
  rfl

/-- The projected embeddings. -/
def projected (p : FVec Ideal S8x4096x256 .f32) (wp : FVec Ideal S256x1024 .f32) : FVec Ideal S32768x1024 .f32 :=
  Host.dotGeneral dot_S32768x256_S256x1024_S32768x1024_1_0_0_1_n_n none (shapeCast _ p shapeCasts_S8x4096x256_S32768x256) wp

theorem projected_apply (p : FVec Ideal S8x4096x256 .f32) (wp : FVec Ideal S256x1024 .f32) (n : Fin 32768) (j : Fin 1024) :
    projected p wp (ix2 n j)
      = times (fun e => p (ix3 (⟨n.val / 4096, by omega⟩ : Fin 8) (⟨n.val % 4096, by omega⟩ : Fin 4096) e)) (fun i e => wp (ix2 i e)) j := by
  unfold projected
  pointwise
  rfl

/-- A residual row plus its gated update. -/
def summed (X L Y : FVec Ideal S32768x1024 .f32) : FVec Ideal S32768x1024 .f32 :=
  addf X (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf L)))) Y)

theorem summed_apply (X L Y : FVec Ideal S32768x1024 .f32) (n : Fin 32768) (j : Fin 1024) :
    summed X L Y (ix2 n j) = X (ix2 n j) + Ideal.logistic (L (ix2 n j)) * Y (ix2 n j) := by
  unfold summed
  pointwise
  rfl

/-- The tokens whose result the layer keeps. -/
def kept (x : FVec Ideal S33792x1024 .f32) : FVec Ideal S32768x1024 .f32 :=
  extractStridedSlice S32768x1024 ![0, 0] x slices_S33792x1024_S32768x1024_0_0

theorem kept_apply (x : FVec Ideal S33792x1024 .f32) (n : Fin 32768) (j : Fin 1024) :
    kept x (ix2 n j) = x (ix2 (⟨n.val, by omega⟩ : Fin 33792) j) := by
  unfold kept
  pointwise

def whole (x : FVec Ideal S33792x1024 .f32) (p : FVec Ideal S8x4096x256 .f32) (g : FVec Ideal S1024 .f32)
    (wg : FVec Ideal S1024x1024 .f32) (wp : FVec Ideal S256x1024 .f32) : FVec Ideal S32768x1024 .f32 :=
  summed (kept x) (logits (normed (kept x) g) wg) (projected p wp)

theorem whole_apply (x : FVec Ideal S33792x1024 .f32) (p : FVec Ideal S8x4096x256 .f32) (g : FVec Ideal S1024 .f32)
    (wg : FVec Ideal S1024x1024 .f32) (wp : FVec Ideal S256x1024 .f32) (n : Fin 32768) (j : Fin 1024) :
    whole x p g wg wp (ix2 n j) = Cert.FinalKernelIdeal.Arrays.result x p g wg wp n j := by
  unfold whole Cert.FinalKernelIdeal.Arrays.result last
  rw [summed_apply, logits_apply, projected_apply]
  simp only [normed_apply, kept_apply]

end Cert.FinalReferenceIdeal.Stages

namespace Cert.FinalClaims

open Idealize.ShloMosaic Idealize.ShloMosaic.TcCoe Idealize.SL.Sem

theorem frame_P : Cert.quiescent_FinalKernel := fun m ρ _ => Cert.FinalKernel.Gen.frame m ρ

theorem frame_PI : Cert.quiescent_FinalKernelIdeal := fun m ρ _ => Cert.FinalKernelIdeal.Gen.frame m ρ

theorem frame_RI : Cert.quiescent_FinalReferenceIdeal := fun m ρ _ =>
  (θ_run Cert.FinalReferenceIdeal.defs _ _).mono (fun r h => ⟨fun c => (h c).2,
      Idealize.ShloMosaic.sem_eq_zero_of_no_sems (by decide) r.2⟩)
    (Cert.FinalReferenceIdeal.Value.run (F := Ideal) m ρ)

theorem preserves : Cert.preserves_FinalKernel_FinalKernelIdeal := trivial

theorem algebraic : Cert.algebraic_FinalKernelIdeal_FinalReferenceIdeal := by
  intro m ρ m' ρ' hpre hag
  refine ⟨fun c i => Cert.FinalKernelIdeal.Arrays.result
      (m ((c.tc : Thread Cert.FinalKernelIdeal.nD Cert.FinalKernelIdeal.τ).loc Cert.FinalKernelIdeal.main_arg0))
      (m ((c.tc : Thread Cert.FinalKernelIdeal.nD Cert.FinalKernelIdeal.τ).loc Cert.FinalKernelIdeal.main_arg1))
      (m ((c.tc : Thread Cert.FinalKernelIdeal.nD Cert.FinalKernelIdeal.τ).loc Cert.FinalKernelIdeal.main_arg2))
      (m ((c.tc : Thread Cert.FinalKernelIdeal.nD Cert.FinalKernelIdeal.τ).loc Cert.FinalKernelIdeal.main_arg3))
      (m ((c.tc : Thread Cert.FinalKernelIdeal.nD Cert.FinalKernelIdeal.τ).loc Cert.FinalKernelIdeal.main_arg4)) (i 0) (i 1), ?_, ?_⟩
  · exact (θ_run _ _ _).mono (fun _ h c => ⟨(h c).1.trans (Cert.FinalKernelIdeal.Arrays.final m c), (h c).2⟩) (Cert.FinalKernelIdeal.Value.run_blocks m ρ)
  · refine (θ_run _ _ _).mono (fun _ h c => ⟨(h c).1.trans ?_, (h c).2⟩) (Cert.FinalReferenceIdeal.Value.run m' ρ')
    obtain ⟨e0, e1, e2, e3, e4⟩ := hag c
    rw [e0, e1, e2, e3, e4]
    funext i
    idx_vars i
    exact Cert.FinalReferenceIdeal.Stages.whole_apply _ _ _ _ _ _ _

end Cert.FinalClaims
-- ==== Proof.lean ====
/- The certificate's claim, assembled from the claims of the modules under Proof/. -/
module

public import proofs.«01_k».proof.Defs
public import proofs.«01_k».proof.Proof.MixClaims
public import proofs.«01_k».proof.Proof.ProjClaims
public import proofs.«01_k».proof.Proof.SampleClaims
public import proofs.«01_k».proof.Proof.MergeClaims
public import proofs.«01_k».proof.Proof.Final
public import Idealize.ShloMosaic.Adequacy
public import Idealize.ShloMosaic.Init

@[expose] public section

noncomputable section

namespace Cert.Proof

open Idealize.ShloMosaic Idealize.SL.Sem

theorem claim : Cert.Claim := ⟨Cert.MixKernel.Gen.facts, Cert.MixKernelIdeal.Gen.facts, Cert.MixReferenceIdeal.Gen.facts,
  Cert.ProjKernel.Gen.facts, Cert.ProjKernelIdeal.Gen.facts, Cert.ProjReferenceIdeal.Gen.facts,
  Cert.SampleKernel.Gen.facts, Cert.SampleKernelIdeal.Gen.facts, Cert.SampleReferenceIdeal.Gen.facts,
  Cert.MergeKernel.Gen.facts, Cert.MergeKernelIdeal.Gen.facts, Cert.MergeReferenceIdeal.Gen.facts,
  Cert.FinalKernel.Gen.facts, Cert.FinalKernelIdeal.Gen.facts, Cert.FinalReferenceIdeal.Gen.facts, Cert.Pre_finite_inputs.Read.facts, Cert.Pre_finite_projection.Read.facts,
  Cert.MixClaims.frame_P, Cert.MixClaims.frame_PI, Cert.MixClaims.frame_PI_pre, Cert.MixClaims.frame_RI, Cert.MixClaims.frame_RI_pre,
  Cert.ProjClaims.frame_P, Cert.ProjClaims.frame_PI, Cert.ProjClaims.frame_PI_pre, Cert.ProjClaims.frame_RI, Cert.ProjClaims.frame_RI_pre,
  Cert.SampleClaims.frame_P, Cert.SampleClaims.frame_PI, Cert.SampleClaims.frame_RI,
  Cert.MergeClaims.frame_P, Cert.MergeClaims.frame_PI, Cert.MergeClaims.frame_RI,
  Cert.FinalClaims.frame_P, Cert.FinalClaims.frame_PI, Cert.FinalClaims.frame_RI,
  Cert.MixClaims.preserves, Cert.MixClaims.algebraic, Cert.ProjClaims.preserves, Cert.ProjClaims.algebraic,
  Cert.SampleClaims.preserves, Cert.SampleClaims.algebraic, Cert.MergeClaims.preserves, Cert.MergeClaims.algebraic,
  Cert.FinalClaims.preserves, Cert.FinalClaims.algebraic⟩

end Cert.Proof

end
